-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys [hPre_finite_keys : Cert.Pre_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys [hPre_finite_keys : Cert.Pre_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_keys [hKernelIdeal : Cert.KernelIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_keys [hReferenceIdeal : Cert.ReferenceIdeal.Facts] [hPre_finite_keys : Cert.Pre_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal_pre_finite_keys [hKernelIdeal : Cert.KernelIdeal.Facts] [hReferenceIdeal : Cert.ReferenceIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v41)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v41) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v148) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v41_0)) (v1 : (c : Dev Cert.Kernel7Ideal.nD) → Buf (Elt Ideal) ((c.tc : Thread Cert.Kernel7Ideal.nD Cert.Kernel7Ideal.τ).loc Cert.Kernel7Ideal.main_v41_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v41_0) = v0 c
          ∧ r.2.mem ((c.tc : Thread Cert.Kernel7Ideal.nD Cert.Kernel7Ideal.τ).loc Cert.Kernel7Ideal.main_v41_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v145) = v0 c
          ∧ r.2.mem ((c.tc : Thread Cert.Reference7Ideal.nD Cert.Reference7Ideal.τ).loc Cert.Reference7Ideal.main_v147) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_keys : Cert.Pre_finite_keys.Facts),
    quiescent_Kernel (hKernel := hKernel)
    ∧ quiescent_KernelIdeal (hKernelIdeal := hKernelIdeal)
    ∧ quiescent_KernelIdeal_pre_finite_keys (hKernelIdeal := hKernelIdeal) (hPre_finite_keys := hPre_finite_keys)
    ∧ quiescent_ReferenceIdeal (hReferenceIdeal := hReferenceIdeal)
    ∧ quiescent_ReferenceIdeal_pre_finite_keys (hReferenceIdeal := hReferenceIdeal) (hPre_finite_keys := hPre_finite_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_keys (hKernelIdeal := hKernelIdeal) (hReferenceIdeal := hReferenceIdeal) (hPre_finite_keys := hPre_finite_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_keys.lean ====
abbrev S32768x3072 : Shape := ⟨2, ![32768, 3072]⟩
abbrev S64 : Shape := ⟨1, ![64]⟩
abbrev S128 : Shape := ⟨1, ![128]⟩
abbrev S8x512x8x128 : Shape := ⟨4, ![8, 512, 8, 128]⟩
abbrev S32768x2048 : Shape := ⟨2, ![32768, 2048]⟩
abbrev S_ : Shape := ⟨0, ![]⟩

class Facts : Prop where
  slices_S32768x3072_S32768x2048_0_0 : S32768x3072.Slices ![0, 0] S32768x2048
  bitsLt_bf16_f32 : FTy.bits .bf16 < FTy.bits .f32
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S8x512x8x128 : S_.BroadcastsInDim S8x512x8x128 (![] : Fin 0 → Fin S8x512x8x128.rank)
  reducesTo_S8x512x8x128_S_d0_1_2_3 : S8x512x8x128.ReducesTo [0, 1, 2, 3] S_

variable [Facts]

def fn {F : FTy → Type} [FloatOps F] (main_arg0 : FVec F S32768x3072 .bf16) (main_arg1 : FVec F S64 .f32) (main_arg2 : FVec F S64 .f32) (main_arg3 : FVec F S64 .f32) (main_arg4 : FVec F S64 .f32) (main_arg5 : FVec F S128 .f32) (main_arg6 : FVec F S8x512x8x128 .f32) (main_arg7 : FVec F S8x512x8x128 .f32) : IVec S_ 1 :=
  let main_v0 : FVec F S32768x2048 .bf16 := (extractStridedSlice S32768x2048 ![0, 0] · slices_S32768x3072_S32768x2048_0_0) main_arg0
  let main_v1 : FVec F S32768x2048 .f32 := (extf .f32 · bitsLt_bf16_f32) main_v0
  let main_v2 : FVec F S32768x2048 .f32 := Host.absf main_v1
  let main_cst : FVec F S_ .f32 := constant S_ .f32 0x7F800000#32
  let main_v3 : FVec F S32768x2048 .f32 := broadcastInDim S32768x2048 ![] bcast_S_S32768x2048 main_cst
  let main_v4 : IVec S32768x2048 1 := cmpf .olt main_v2 main_v3
  let main_c : IVec S_ 1 := constantI S_ 1 1#1
  let main_v5 : IVec S_ 1 := (fun x v => Host.reduce IntOp.andi x v reducesTo_S32768x2048_S_d0_1 h_S_) main_v4 main_c
  let main_v6 : FVec F S8x512x8x128 .f32 := Host.absf main_arg6
  let main_cst_0 : FVec F S_ .f32 := constant S_ .f32 0x7F800000#32
  let main_v7 : FVec F S8x512x8x128 .f32 := broadcastInDim S8x512x8x128 ![] bcast_S_S8x512x8x128 main_cst_0
  let main_v8 : IVec S8x512x8x128 1 := cmpf .olt main_v6 main_v7
  let main_c_1 : IVec S_ 1 := constantI S_ 1 1#1
  let main_v9 : IVec S_ 1 := (fun x v => Host.reduce IntOp.andi x v reducesTo_S8x512x8x128_S_d0_1_2_3 h_S_) main_v8 main_c_1
  let main_v10 : IVec S_ 1 := andi main_v5 main_v9
  main_v10
-- ==== Kernel.lean ====
abbrev S32768x3072 : Shape := ⟨2, ![32768, 3072]⟩
abbrev S64 : Shape := ⟨1, ![64]⟩
abbrev S128 : Shape := ⟨1, ![128]⟩
abbrev S8x512x8x128 : Shape := ⟨4, ![8, 512, 8, 128]⟩
abbrev S8x512x1024 : Shape := ⟨3, ![8, 512, 1024]⟩
abbrev S1x64 : Shape := ⟨2, ![1, 64]⟩
abbrev S4x64 : Shape := ⟨2, ![4, 64]⟩
abbrev S1x128 : Shape := ⟨2, ![1, 128]⟩
abbrev S32768x1024 : Shape := ⟨2, ![32768, 1024]⟩
abbrev S256x128 : Shape := ⟨2, ![256, 128]⟩
abbrev S1x512x128 : Shape := ⟨3, ![1, 512, 128]⟩
abbrev S4096x128 : Shape := ⟨2, ![4096, 128]⟩
abbrev S256x4608 : Shape := ⟨2, ![256, 4608]⟩
abbrev S1 : Shape := ⟨1, ![1]⟩
abbrev S1x1 : Shape := ⟨2, ![1, 1]⟩
abbrev S256x64 : Shape := ⟨2, ![256, 64]⟩
abbrev S512x128 : Shape := ⟨2, ![512, 128]⟩
abbrev S512x64 : Shape := ⟨2, ![512, 64]⟩
abbrev S256x512 : Shape := ⟨2, ![256, 512]⟩
abbrev S256 : Shape := ⟨1, ![256]⟩
abbrev S256x1 : Shape := ⟨2, ![256, 1]⟩

abbrev nBuf : Space → Nat
  | .hbm => 17
  | .vmem => 16
  | .smem => 0
  | _ => 0

abbrev bufTy : (tb : Table) → Fin (tcTables nBuf tb) → BufTy
  | .hbm, ⟨0, _⟩ => ⟨S32768x3072, .bf16⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S8x512x8x128, .f32⟩
  | .hbm, ⟨7, _⟩ => ⟨S8x512x8x128, .f32⟩
  | .hbm, ⟨8, _⟩ => ⟨S8x512x1024, .f32⟩
  | .hbm, ⟨9, _⟩ => ⟨S8x512x1024, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S4x64, .f32⟩
  | .hbm, ⟨15, _⟩ => ⟨S1x128, .f32⟩
  | .hbm, ⟨16, _⟩ => ⟨S32768x1024, .bf16⟩
  | .local _ .vmem, ⟨0, _⟩ => ⟨S4x64, .f32⟩
  | .local _ .vmem, ⟨1, _⟩ => ⟨S1x128, .f32⟩
  | .local _ .vmem, ⟨2, _⟩ => ⟨S256x128, .bf16⟩
  | .local _ .vmem, ⟨3, _⟩ => ⟨S256x128, .bf16⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S256x128, .bf16⟩
  | .local _ .vmem, ⟨13, _⟩ => ⟨S256x128, .bf16⟩
  | .local _ .vmem, ⟨14, _⟩ => ⟨S256x4608, .f32⟩
  | .local _ .vmem, ⟨15, _⟩ => ⟨S256x4608, .f32⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 8, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S32768x3072 : Shape := ⟨2, ![32768, 3072]⟩
abbrev S64 : Shape := ⟨1, ![64]⟩
abbrev S128 : Shape := ⟨1, ![128]⟩
abbrev S8x512x8x128 : Shape := ⟨4, ![8, 512, 8, 128]⟩
abbrev S32768x1024 : Shape := ⟨2, ![32768, 1024]⟩
abbrev S8x4096x8x2x64 : Shape := ⟨5, ![8, 4096, 8, 2, 64]⟩
abbrev S8x4096x8x128 : Shape := ⟨4, ![8, 4096, 8, 128]⟩
abbrev S8x4608x8x128 : Shape := ⟨4, ![8, 4608, 8, 128]⟩
abbrev S_ : Shape := ⟨0, ![]⟩
abbrev S8x4608x8x2x64 : Shape := ⟨5, ![8, 4608, 8, 2, 64]⟩
abbrev S8x8x2x4096x4608 : Shape := ⟨5, ![8, 8, 2, 4096, 4608]⟩
abbrev S8x8x2x4096 : Shape := ⟨4, ![8, 8, 2, 4096]⟩
abbrev S8x8x2x4096x1 : Shape := ⟨5, ![8, 8, 2, 4096, 1]⟩
abbrev S8x8x1x4096x4608 : Shape := ⟨5, ![8, 8, 1, 4096, 4608]⟩
abbrev S8x8x4096x4608 : Shape := ⟨4, ![8, 8, 4096, 4608]⟩
abbrev S8x8x128x4096 : Shape := ⟨4, ![8, 8, 128, 4096]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩

abbrev nBuf : Space → Nat
  | .hbm => 77
  | .vmem => 0
  | .smem => 0
  | _ => 0

abbrev bufTy : (tb : Table) → Fin (tcTables nBuf tb) → BufTy
  | .hbm, ⟨0, _⟩ => ⟨S32768x3072, .bf16⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S8x512x8x128, .f32⟩
  | .hbm, ⟨7, _⟩ => ⟨S8x512x8x128, .f32⟩
  | .hbm, ⟨8, _⟩ => ⟨S32768x3072, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S8x4096x8x2x64, .f32⟩
  | .hbm, ⟨13, _⟩ => ⟨S8x4096x8x128, .f32⟩
  | .hbm, ⟨14, _⟩ => ⟨S8x4608x8x128, .f32⟩
  | .hbm, ⟨15, _⟩ => ⟨S8x4096x8x128, .f32⟩
  | .hbm, ⟨16, _⟩ => ⟨S8x4608x8x128, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x4608x8x2x64, .f32⟩
  | .hbm, ⟨29, _⟩ => ⟨S8x8x2x4096x4608, .f32⟩
  | .hbm, ⟨30, _⟩ => ⟨S_, .f32⟩
  | .hbm, ⟨31, _⟩ => ⟨S8x8x2x4096x4608, .f32⟩
  | .hbm, ⟨32, _⟩ => ⟨S8x8x2x4096x4608, .f32⟩
  | .hbm, ⟨33, _⟩ => ⟨S_, .f32⟩
  | .hbm, ⟨34, _⟩ => ⟨S8x8x2x4096, .f32⟩
  | .hbm, ⟨35, _⟩ => ⟨S_, .f32⟩
  | .hbm, ⟨36, _⟩ => ⟨S8x8x2x4096, .f32⟩
  | .hbm, ⟨37, _⟩ => ⟨S8x8x2x4096, .f32⟩
  | .hbm, ⟨38, _⟩ => ⟨S8x8x2x4096x1, .f32⟩
  | .hbm, ⟨39, _⟩ => ⟨S8x8x2x4096x4608, .f32⟩
  | .hbm, ⟨40, _⟩ => ⟨S8x8x2x4096x4608, .f32⟩
  | .hbm, ⟨41, _⟩ => ⟨S8x8x2x4096x4608, .f32⟩
  | .hbm, ⟨42, _⟩ => ⟨S_, .f32⟩
  | .hbm, ⟨43, _⟩ => ⟨S8x8x2x4096, .f32⟩
  | .hbm, ⟨44, _⟩ => ⟨S8x8x2x4096x1, .f32⟩
  | .hbm, ⟨45, _⟩ => ⟨S8x8x2x4096x4608, .f32⟩
  | .hbm, ⟨46, _⟩ => ⟨S8x8x2x4096x4608, .f32⟩
  | .hbm, ⟨47, _⟩ => ⟨S8x8x1x4096x4608, .f32⟩
  | .hbm, ⟨48, _⟩ => ⟨S8x8x4096x4608, .f32⟩
  | .hbm, ⟨49, _⟩ => ⟨S8x8x1x4096x4608, .f32⟩
  | .hbm, ⟨50, _⟩ => ⟨S8x8x4096x4608, .f32⟩
  | .hbm, ⟨51, _⟩ => ⟨S8x8x4096x4608, .f32⟩
  | .hbm, ⟨52, _⟩ => ⟨S8x8x4096x4608, .f32⟩
  | .hbm, ⟨53, _⟩ => ⟨S8x8x4096x4608, .f32⟩
  | .hbm, ⟨54, _⟩ => ⟨S8x8x128x4096, .f32⟩
  | .hbm, ⟨55, _⟩ => ⟨S8x4096x8x128, .f32⟩
  | .hbm, ⟨56, _⟩ => ⟨S8x4096x8x128, .f32⟩
  | .hbm, ⟨57, _⟩ => ⟨S_, .f32⟩
  | .hbm, ⟨58, _⟩ => ⟨S8x4096x8, .f32⟩
  | .hbm, ⟨59, _⟩ => ⟨S8x4096x8x1, .f32⟩
  | .hbm, ⟨60, _⟩ => ⟨S_, .f32⟩
  | .hbm, ⟨61, _⟩ => ⟨S8x4096x8x1, .f32⟩
  | .hbm, ⟨62, _⟩ => ⟨S8x4096x8x1, .f32⟩
  | .hbm, ⟨63, _⟩ => ⟨S_, .f32⟩
  | .hbm, ⟨64, _⟩ => ⟨S8x4096x8x1, .f32⟩
  | .hbm, ⟨65, _⟩ => ⟨S8x4096x8x1, .f32⟩
  | .hbm, ⟨66, _⟩ => ⟨S8x4096x8x1, .f32⟩
  | .hbm, ⟨67, _⟩ => ⟨S8x4096x8x128, .f32⟩
  | .hbm, ⟨68, _⟩ => ⟨S8x4096x8x128, .f32⟩
  | .hbm, ⟨69, _⟩ => ⟨S1x1x1x128, .f32⟩
  | .hbm, ⟨70, _⟩ => ⟨S8x4096x8x128, .f32⟩
  | .hbm, ⟨71, _⟩ => ⟨S8x4096x8x128, .f32⟩
  | .hbm, ⟨72, _⟩ => ⟨S_, .f32⟩
  | .hbm, ⟨73, _⟩ => ⟨S8x4096x8x128, .f32⟩
  | .hbm, ⟨74, _⟩ => ⟨S8x4096x8x128, .f32⟩
  | .hbm, ⟨75, _⟩ => ⟨S8x4096x8x128, .bf16⟩
  | .hbm, ⟨76, _⟩ => ⟨S32768x1024, .bf16⟩
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== Kernel2.lean ====
abbrev S32768x1024 : Shape := ⟨2, ![32768, 1024]⟩
abbrev S16x9x1024 : Shape := ⟨3, ![16, 9, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1x9x1024 : Shape := ⟨3, ![1, 9, 1024]⟩
abbrev S512x2816 : Shape := ⟨2, ![512, 2816]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 13
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S16x9x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S32768x1024 : Shape := ⟨2, ![32768, 1024]⟩
abbrev S16x9x1024 : Shape := ⟨3, ![16, 9, 1024]⟩
abbrev S1024 : Shape := ⟨1, ![1024]⟩
abbrev S1024x2816 : Shape := ⟨2, ![1024, 2816]⟩
abbrev S2816x1024 : Shape := ⟨2, ![2816, 1024]⟩
abbrev S8x4096x1024 : Shape := ⟨3, ![8, 4096, 1024]⟩
abbrev S8x9x1024 : Shape := ⟨3, ![8, 9, 1024]⟩
abbrev S8x1x9216 : Shape := ⟨3, ![8, 1, 9216]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩

abbrev nBuf : Space → Nat
  | .hbm => 62
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x9x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S8x4096x1024, .f32⟩
  | .hbm, ⟨8, _⟩ => ⟨S8x9x1024, .f32⟩
  | .hbm, ⟨9, _⟩ => ⟨S8x1x9216, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x4096x1024, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x1, .f32⟩
  | .hbm, ⟨30, _⟩ => ⟨S8x4096x1024, .f32⟩
  | .hbm, ⟨31, _⟩ => ⟨S8x4096x1024, .f32⟩
  | .hbm, ⟨32, _⟩ => ⟨S1x1x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S_, .f32⟩
  | .hbm, ⟨43, _⟩ => ⟨S8x1x1024, .f32⟩
  | .hbm, ⟨44, _⟩ => ⟨S8x1x1024, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S_, .f32⟩
  | .hbm, ⟨49, _⟩ => ⟨S8x4096x2816, .f32⟩
  | .hbm, ⟨50, _⟩ => ⟨S8x4096x2816, .f32⟩
  | .hbm, ⟨51, _⟩ => ⟨S_, .f32⟩
  | .hbm, ⟨52, _⟩ => ⟨S8x4096x2816, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S8x4096x2816, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Kernel3.lean ====
abbrev S32768x1024 : Shape := ⟨2, ![32768, 1024]⟩
abbrev S16x9x1024 : Shape := ⟨3, ![16, 9, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1x9x1024 : Shape := ⟨3, ![1, 9, 1024]⟩
abbrev S512x2816 : Shape := ⟨2, ![512, 2816]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 13
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S16x9x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S32768x1024 : Shape := ⟨2, ![32768, 1024]⟩
abbrev S16x9x1024 : Shape := ⟨3, ![16, 9, 1024]⟩
abbrev S1024 : Shape := ⟨1, ![1024]⟩
abbrev S1024x2816 : Shape := ⟨2, ![1024, 2816]⟩
abbrev S2816x1024 : Shape := ⟨2, ![2816, 1024]⟩
abbrev S8x4096x1024 : Shape := ⟨3, ![8, 4096, 1024]⟩
abbrev S8x9x1024 : Shape := ⟨3, ![8, 9, 1024]⟩
abbrev S8x1x9216 : Shape := ⟨3, ![8, 1, 9216]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩

abbrev nBuf : Space → Nat
  | .hbm => 78
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x9x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S8x4096x1024, .f32⟩
  | .hbm, ⟨8, _⟩ => ⟨S8x9x1024, .f32⟩
  | .hbm, ⟨9, _⟩ => ⟨S8x1x9216, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x4096x1024, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x1, .f32⟩
  | .hbm, ⟨30, _⟩ => ⟨S8x4096x1024, .f32⟩
  | .hbm, ⟨31, _⟩ => ⟨S8x4096x1024, .f32⟩
  | .hbm, ⟨32, _⟩ => ⟨S1x1x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S_, .f32⟩
  | .hbm, ⟨43, _⟩ => ⟨S8x1x1024, .f32⟩
  | .hbm, ⟨44, _⟩ => ⟨S8x1x1024, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S_, .f32⟩
  | .hbm, ⟨49, _⟩ => ⟨S8x4096x2816, .f32⟩
  | .hbm, ⟨50, _⟩ => ⟨S8x4096x2816, .f32⟩
  | .hbm, ⟨51, _⟩ => ⟨S_, .f32⟩
  | .hbm, ⟨52, _⟩ => ⟨S8x4096x2816, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S8x4096x2816, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S_, .f32⟩
  | .hbm, ⟨63, _⟩ => ⟨S8x4096, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S8x4096x1, .f32⟩
  | .hbm, ⟨72, _⟩ => ⟨S8x4096x1024, .f32⟩
  | .hbm, ⟨73, _⟩ => ⟨S8x4096x1024, .f32⟩
  | .hbm, ⟨74, _⟩ => ⟨S1x1x1024, .f32⟩
  | .hbm, ⟨75, _⟩ => ⟨S8x4096x1024, .f32⟩
  | .hbm, ⟨76, _⟩ => ⟨S8x4096x1024, .f32⟩
  | .hbm, ⟨77, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_4 : Ref sig .tc := ⟨.hbm, 62, rfl⟩
abbrev main_v42 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== Kernel4.lean ====
abbrev S32768x1024 : Shape := ⟨2, ![32768, 1024]⟩
abbrev S16x9x1024 : Shape := ⟨3, ![16, 9, 1024]⟩
abbrev S1024x1024 : Shape := ⟨2, ![1024, 1024]⟩
abbrev S512x1024 : Shape := ⟨2, ![512, 1024]⟩
abbrev S1x9x1024 : Shape := ⟨3, ![1, 9, 1024]⟩
abbrev S1x1x1024 : Shape := ⟨3, ![1, 1, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S16x9x1024, .f32⟩
  | .hbm, ⟨2, _⟩ => ⟨S32768x1024, .bf16⟩
  | .hbm, ⟨3, _⟩ => ⟨S1024x1024, .f32⟩
  | .hbm, ⟨4, _⟩ => ⟨S1024x1024, .bf16⟩
  | .hbm, ⟨5, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S32768x1024 : Shape := ⟨2, ![32768, 1024]⟩
abbrev S16x9x1024 : Shape := ⟨3, ![16, 9, 1024]⟩
abbrev S1024x1024 : Shape := ⟨2, ![1024, 1024]⟩
abbrev S8x4096x1024 : Shape := ⟨3, ![8, 4096, 1024]⟩
abbrev S8x9x1024 : Shape := ⟨3, ![8, 9, 1024]⟩
abbrev S8x1x9216 : Shape := ⟨3, ![8, 1, 9216]⟩
abbrev S8x1x1024 : Shape := ⟨3, ![8, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x9x1024, .f32⟩
  | .hbm, ⟨2, _⟩ => ⟨S32768x1024, .bf16⟩
  | .hbm, ⟨3, _⟩ => ⟨S1024x1024, .f32⟩
  | .hbm, ⟨4, _⟩ => ⟨S8x4096x1024, .f32⟩
  | .hbm, ⟨5, _⟩ => ⟨S8x9x1024, .f32⟩
  | .hbm, ⟨6, _⟩ => ⟨S8x1x9216, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S32768x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Kernel5.lean ====
abbrev S32768x1024 : Shape := ⟨2, ![32768, 1024]⟩
abbrev S16x9x1024 : Shape := ⟨3, ![16, 9, 1024]⟩
abbrev S32768x512 : Shape := ⟨2, ![32768, 512]⟩
abbrev S1024x1024 : Shape := ⟨2, ![1024, 1024]⟩
abbrev S512x1024 : Shape := ⟨2, ![512, 1024]⟩
abbrev S1x9x1024 : Shape := ⟨3, ![1, 9, 1024]⟩
abbrev S512x512 : Shape := ⟨2, ![512, 512]⟩
abbrev S1x1x1024 : Shape := ⟨3, ![1, 1, 1024]⟩
abbrev S1x1024 : Shape := ⟨2, ![1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S16x9x1024, .f32⟩
  | .hbm, ⟨2, _⟩ => ⟨S32768x512, .bf16⟩
  | .hbm, ⟨3, _⟩ => ⟨S32768x512, .bf16⟩
  | .hbm, ⟨4, _⟩ => ⟨S1024x1024, .f32⟩
  | .hbm, ⟨5, _⟩ => ⟨S1024x1024, .bf16⟩
  | .hbm, ⟨6, _⟩ => ⟨S512x1024, .bf16⟩
  | .hbm, ⟨7, _⟩ => ⟨S512x1024, .bf16⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S32768x1024 : Shape := ⟨2, ![32768, 1024]⟩
abbrev S16x9x1024 : Shape := ⟨3, ![16, 9, 1024]⟩
abbrev S32768x512 : Shape := ⟨2, ![32768, 512]⟩
abbrev S1024x1024 : Shape := ⟨2, ![1024, 1024]⟩
abbrev S8x4096x1024 : Shape := ⟨3, ![8, 4096, 1024]⟩
abbrev S8x9x1024 : Shape := ⟨3, ![8, 9, 1024]⟩
abbrev S8x1x9216 : Shape := ⟨3, ![8, 1, 9216]⟩
abbrev S8x1x1024 : Shape := ⟨3, ![8, 1, 1024]⟩
abbrev S8x4096x512 : Shape := ⟨3, ![8, 4096, 512]⟩

abbrev nBuf : Space → Nat
  | .hbm => 27
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x9x1024, .f32⟩
  | .hbm, ⟨2, _⟩ => ⟨S32768x512, .bf16⟩
  | .hbm, ⟨3, _⟩ => ⟨S32768x512, .bf16⟩
  | .hbm, ⟨4, _⟩ => ⟨S1024x1024, .f32⟩
  | .hbm, ⟨5, _⟩ => ⟨S8x4096x1024, .f32⟩
  | .hbm, ⟨6, _⟩ => ⟨S8x9x1024, .f32⟩
  | .hbm, ⟨7, _⟩ => ⟨S8x1x9216, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S32768x512, .f32⟩
  | .hbm, ⟨18, _⟩ => ⟨S8x4096x512, .f32⟩
  | .hbm, ⟨19, _⟩ => ⟨S32768x512, .f32⟩
  | .hbm, ⟨20, _⟩ => ⟨S8x4096x512, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== Kernel6.lean ====
abbrev S32768x1024 : Shape := ⟨2, ![32768, 1024]⟩
abbrev S16x9x1024 : Shape := ⟨3, ![16, 9, 1024]⟩
abbrev S1024 : Shape := ⟨1, ![1024]⟩
abbrev S1024x3072 : Shape := ⟨2, ![1024, 3072]⟩
abbrev S1x1024 : Shape := ⟨2, ![1, 1024]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S32768x3072 : Shape := ⟨2, ![32768, 3072]⟩
abbrev S512x1024 : Shape := ⟨2, ![512, 1024]⟩
abbrev S1x9x1024 : Shape := ⟨3, ![1, 9, 1024]⟩
abbrev S512x128 : Shape := ⟨2, ![512, 128]⟩
abbrev S512x3072 : Shape := ⟨2, ![512, 3072]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 86
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S16x9x1024, .f32⟩
  | .hbm, ⟨2, _⟩ => ⟨S1024, .f32⟩
  | .hbm, ⟨3, _⟩ => ⟨S1024x3072, .f32⟩
  | .hbm, ⟨4, _⟩ => ⟨S1x1024, .f32⟩
  | .hbm, ⟨5, _⟩ => ⟨S1024x3072, .bf16⟩
  | .hbm, ⟨6, _⟩ => ⟨S4096, .i32⟩
  | .hbm, ⟨7, _⟩ => ⟨S_, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S_, .i1⟩
  | .hbm, ⟨42, _⟩ => ⟨S4096, .i1⟩
  | .hbm, ⟨43, _⟩ => ⟨S4096, .i1⟩
  | .hbm, ⟨44, _⟩ => ⟨S4096, .i1⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S4096, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S4096x1, .f32⟩
  | .hbm, ⟨58, _⟩ => ⟨S1x16, .f32⟩
  | .hbm, ⟨59, _⟩ => ⟨S4096x16, .f32⟩
  | .hbm, ⟨60, _⟩ => ⟨S4096x16, .f32⟩
  | .hbm, ⟨61, _⟩ => ⟨S4096x16, .f32⟩
  | .hbm, ⟨62, _⟩ => ⟨S4096x1, .f32⟩
  | .hbm, ⟨63, _⟩ => ⟨S1x16, .f32⟩
  | .hbm, ⟨64, _⟩ => ⟨S4096x16, .f32⟩
  | .hbm, ⟨65, _⟩ => ⟨S4096x16, .f32⟩
  | .hbm, ⟨66, _⟩ => ⟨S4096x16, .f32⟩
  | .hbm, ⟨67, _⟩ => ⟨S4096x16, .f32⟩
  | .hbm, ⟨68, _⟩ => ⟨S4096x16, .f32⟩
  | .hbm, ⟨69, _⟩ => ⟨S4096x16, .f32⟩
  | .hbm, ⟨70, _⟩ => ⟨S4096x16, .f32⟩
  | .hbm, ⟨71, _⟩ => ⟨S4096x64, .f32⟩
  | .hbm, ⟨72, _⟩ => ⟨S4096x16, .f32⟩
  | .hbm, ⟨73, _⟩ => ⟨S4096x16, .f32⟩
  | .hbm, ⟨74, _⟩ => ⟨S4096x16, .f32⟩
  | .hbm, ⟨75, _⟩ => ⟨S4096x16, .f32⟩
  | .hbm, ⟨76, _⟩ => ⟨S4096x16, .f32⟩
  | .hbm, ⟨77, _⟩ => ⟨S4096x16, .f32⟩
  | .hbm, ⟨78, _⟩ => ⟨S4096x64, .f32⟩
  | .hbm, ⟨79, _⟩ => ⟨S1x4096x1x64, .f32⟩
  | .hbm, ⟨80, _⟩ => ⟨S1x4096x2x64, .f32⟩
  | .hbm, ⟨81, _⟩ => ⟨S4096x128, .f32⟩
  | .hbm, ⟨82, _⟩ => ⟨S1x4096x1x64, .f32⟩
  | .hbm, ⟨83, _⟩ => ⟨S1x4096x2x64, .f32⟩
  | .hbm, ⟨84, _⟩ => ⟨S4096x128, .f32⟩
  | .hbm, ⟨85, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x3072, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x3072, .bf16⟩
  | .local _ .vmem, ⟨11, _⟩ => ⟨S512x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_v4 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_cst : Ref sig .tc := ⟨.hbm, 51, rfl⟩
abbrev main_v9 : Ref sig .tc := ⟨.hbm, 52, rfl⟩
abbrev main_v10 : Ref sig .tc := ⟨.hbm, 53, rfl⟩
abbrev main_cst_1 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S32768x1024 : Shape := ⟨2, ![32768, 1024]⟩
abbrev S16x9x1024 : Shape := ⟨3, ![16, 9, 1024]⟩
abbrev S1024 : Shape := ⟨1, ![1024]⟩
abbrev S1024x3072 : Shape := ⟨2, ![1024, 3072]⟩
abbrev S8x4096x1024 : Shape := ⟨3, ![8, 4096, 1024]⟩
abbrev S8x9x1024 : Shape := ⟨3, ![8, 9, 1024]⟩
abbrev S8x1x9216 : Shape := ⟨3, ![8, 1, 9216]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3072 : Shape := ⟨3, ![8, 4096, 3072]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S8x4096x8x128 : Shape := ⟨4, ![8, 4096, 8, 128]⟩
abbrev S8x4096x16x64 : Shape := ⟨4, ![8, 4096, 16, 64]⟩
abbrev S8x4096x16x32 : Shape := ⟨4, ![8, 4096, 16, 32]⟩
abbrev S8x4096x16x16 : Shape := ⟨4, ![8, 4096, 16, 16]⟩
abbrev S1x4096x1x16 : Shape := ⟨4, ![1, 4096, 1, 16]⟩
abbrev S32768x3072 : Shape := ⟨2, ![32768, 3072]⟩

abbrev nBuf : Space → Nat
  | .hbm => 159
  | .vmem => 0
  | .smem => 0
  | _ => 0

abbrev hbmTy0_0 (i : Nat) : BufTy := match i % 128 with
  | 0 => ⟨S32768x1024, .f32⟩
  | 1 => ⟨S16x9x1024, .f32⟩
  | 2 => ⟨S1024, .f32⟩
  | 3 => ⟨S1024x3072, .f32⟩
  | 4 => ⟨S8x4096x1024, .f32⟩
  | 5 => ⟨S8x9x1024, .f32⟩
  | 6 => ⟨S8x1x9216, .f32⟩
  | 7 => ⟨S8x1x1024, .f32⟩
  | 8 => ⟨S8x1x1024, .f32⟩
  | 9 => ⟨S8x1x1024, .f32⟩
  | 10 => ⟨S8x1x1024, .f32⟩
  | 11 => ⟨S8x1x1024, .f32⟩
  | 12 => ⟨S8x1x1024, .f32⟩
  | 13 => ⟨S8x1x1024, .f32⟩
  | 14 => ⟨S8x1x1024, .f32⟩
  | 15 => ⟨S8x1x1024, .f32⟩
  | 16 => ⟨S8x4096x1024, .f32⟩
  | 17 => ⟨S_, .f32⟩
  | 18 => ⟨S8x4096, .f32⟩
  | 19 => ⟨S8x4096x1, .f32⟩
  | 20 => ⟨S_, .f32⟩
  | 21 => ⟨S8x4096x1, .f32⟩
  | 22 => ⟨S8x4096x1, .f32⟩
  | 23 => ⟨S_, .f32⟩
  | 24 => ⟨S8x4096x1, .f32⟩
  | 25 => ⟨S8x4096x1, .f32⟩
  | 26 => ⟨S8x4096x1, .f32⟩
  | 27 => ⟨S8x4096x1024, .f32⟩
  | 28 => ⟨S8x4096x1024, .f32⟩
  | 29 => ⟨S1x1x1024, .f32⟩
  | 30 => ⟨S8x4096x1024, .f32⟩
  | 31 => ⟨S8x4096x1024, .f32⟩
  | 32 => ⟨S_, .f32⟩
  | 33 => ⟨S8x1x1024, .f32⟩
  | 34 => ⟨S8x1x1024, .f32⟩
  | 35 => ⟨S8x4096x1024, .f32⟩
  | 36 => ⟨S8x4096x1024, .f32⟩
  | 37 => ⟨S8x4096x1024, .f32⟩
  | 38 => ⟨S8x4096x1024, .f32⟩
  | 39 => ⟨S8x4096x3072, .f32⟩
  | 40 => ⟨S8x4096x1024, .f32⟩
  | 41 => ⟨S8x4096x1024, .f32⟩
  | 42 => ⟨S8x4096x1024, .f32⟩
  | 43 => ⟨S64, .f32⟩
  | 44 => ⟨S64x64, .f32⟩
  | 45 => ⟨S4096, .f32⟩
  | 46 => ⟨S64, .f32⟩
  | 47 => ⟨S1x64, .f32⟩
  | 48 => ⟨S64x64, .f32⟩
  | 49 => ⟨S4096, .f32⟩
  | 50 => ⟨S16, .f32⟩
  | 51 => ⟨S16, .f32⟩
  | 52 => ⟨S_, .f32⟩
  | 53 => ⟨S16, .f32⟩
  | 54 => ⟨S16, .f32⟩
  | 55 => ⟨S_, .f32⟩
  | 56 => ⟨S16, .f32⟩
  | 57 => ⟨S16, .f32⟩
  | 58 => ⟨S4096x1, .f32⟩
  | 59 => ⟨S1x16, .f32⟩
  | 60 => ⟨S4096x16, .f32⟩
  | 61 => ⟨S4096x16, .f32⟩
  | 62 => ⟨S4096x16, .f32⟩
  | 63 => ⟨S4096x1x16, .f32⟩
  | 64 => ⟨S4096x1, .f32⟩
  | 65 => ⟨S1x16, .f32⟩
  | 66 => ⟨S4096x16, .f32⟩
  | 67 => ⟨S4096x16, .f32⟩
  | 68 => ⟨S4096x16, .f32⟩
  | 69 => ⟨S4096x1x16, .f32⟩
  | 70 => ⟨S4096x1x16, .f32⟩
  | 71 => ⟨S4096x1x16, .f32⟩
  | 72 => ⟨S4096x1x16, .f32⟩
  | 73 => ⟨S4096x1x16, .f32⟩
  | 74 => ⟨S8x4096x8x128, .f32⟩
  | 75 => ⟨S8x4096x16x64, .f32⟩
  | 76 => ⟨S8x4096x16x32, .f32⟩
  | 77 => ⟨S8x4096x16x32, .f32⟩
  | 78 => ⟨S8x4096x16x16, .f32⟩
  | 79 => ⟨S8x4096x16x16, .f32⟩
  | 80 => ⟨S1x4096x1x16, .f32⟩
  | 81 => ⟨S8x4096x16x16, .f32⟩
  | 82 => ⟨S8x4096x16x16, .f32⟩
  | 83 => ⟨S1x4096x1x16, .f32⟩
  | 84 => ⟨S8x4096x16x16, .f32⟩
  | 85 => ⟨S8x4096x16x16, .f32⟩
  | 86 => ⟨S8x4096x16x16, .f32⟩
  | 87 => ⟨S1x4096x1x16, .f32⟩
  | 88 => ⟨S8x4096x16x16, .f32⟩
  | 89 => ⟨S8x4096x16x16, .f32⟩
  | 90 => ⟨S1x4096x1x16, .f32⟩
  | 91 => ⟨S8x4096x16x16, .f32⟩
  | 92 => ⟨S8x4096x16x16, .f32⟩
  | 93 => ⟨S8x4096x16x16, .f32⟩
  | 94 => ⟨S8x4096x16x32, .f32⟩
  | 95 => ⟨S8x4096x16x16, .f32⟩
  | 96 => ⟨S8x4096x16x16, .f32⟩
  | 97 => ⟨S1x4096x1x16, .f32⟩
  | 98 => ⟨S8x4096x16x16, .f32⟩
  | 99 => ⟨S8x4096x16x16, .f32⟩
  | 100 => ⟨S1x4096x1x16, .f32⟩
  | 101 => ⟨S8x4096x16x16, .f32⟩
  | 102 => ⟨S8x4096x16x16, .f32⟩
  | 103 => ⟨S8x4096x16x16, .f32⟩
  | 104 => ⟨S1x4096x1x16, .f32⟩
  | 105 => ⟨S8x4096x16x16, .f32⟩
  | 106 => ⟨S8x4096x16x16, .f32⟩
  | 107 => ⟨S1x4096x1x16, .f32⟩
  | 108 => ⟨S8x4096x16x16, .f32⟩
  | 109 => ⟨S8x4096x16x16, .f32⟩
  | 110 => ⟨S8x4096x16x16, .f32⟩
  | 111 => ⟨S8x4096x16x32, .f32⟩
  | 112 => ⟨S8x4096x16x64, .f32⟩
  | 113 => ⟨S8x4096x8x128, .f32⟩
  | 114 => ⟨S8x4096x8x128, .f32⟩
  | 115 => ⟨S8x4096x16x64, .f32⟩
  | 116 => ⟨S8x4096x16x32, .f32⟩
  | 117 => ⟨S8x4096x16x32, .f32⟩
  | 118 => ⟨S8x4096x16x16, .f32⟩
  | 119 => ⟨S8x4096x16x16, .f32⟩
  | 120 => ⟨S1x4096x1x16, .f32⟩
  | 121 => ⟨S8x4096x16x16, .f32⟩
  | 122 => ⟨S8x4096x16x16, .f32⟩
  | 123 => ⟨S1x4096x1x16, .f32⟩
  | 124 => ⟨S8x4096x16x16, .f32⟩
  | 125 => ⟨S8x4096x16x16, .f32⟩
  | 126 => ⟨S8x4096x16x16, .f32⟩
  | 127 => ⟨S1x4096x1x16, .f32⟩
  | _ => ⟨S32768x1024, .f32⟩

abbrev hbmTy0_1 (i : Nat) : BufTy := match i % 128 with
  | 0 => ⟨S8x4096x16x16, .f32⟩
  | 1 => ⟨S8x4096x16x16, .f32⟩
  | 2 => ⟨S1x4096x1x16, .f32⟩
  | 3 => ⟨S8x4096x16x16, .f32⟩
  | 4 => ⟨S8x4096x16x16, .f32⟩
  | 5 => ⟨S8x4096x16x16, .f32⟩
  | 6 => ⟨S8x4096x16x32, .f32⟩
  | 7 => ⟨S8x4096x16x16, .f32⟩
  | 8 => ⟨S8x4096x16x16, .f32⟩
  | 9 => ⟨S1x4096x1x16, .f32⟩
  | 10 => ⟨S8x4096x16x16, .f32⟩
  | 11 => ⟨S8x4096x16x16, .f32⟩
  | 12 => ⟨S1x4096x1x16, .f32⟩
  | 13 => ⟨S8x4096x16x16, .f32⟩
  | 14 => ⟨S8x4096x16x16, .f32⟩
  | 15 => ⟨S8x4096x16x16, .f32⟩
  | 16 => ⟨S1x4096x1x16, .f32⟩
  | 17 => ⟨S8x4096x16x16, .f32⟩
  | 18 => ⟨S8x4096x16x16, .f32⟩
  | 19 => ⟨S1x4096x1x16, .f32⟩
  | 20 => ⟨S8x4096x16x16, .f32⟩
  | 21 => ⟨S8x4096x16x16, .f32⟩
  | 22 => ⟨S8x4096x16x16, .f32⟩
  | 23 => ⟨S8x4096x16x32, .f32⟩
  | 24 => ⟨S8x4096x16x64, .f32⟩
  | 25 => ⟨S8x4096x8x128, .f32⟩
  | 26 => ⟨S32768x1024, .f32⟩
  | 27 => ⟨S32768x1024, .f32⟩
  | 28 => ⟨S32768x1024, .f32⟩
  | 29 => ⟨S32768x3072, .f32⟩
  | 30 => ⟨S32768x3072, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩

abbrev nD : Nat := 1
abbrev τ : Topo := Topo.v7x

variable {F : FTy → Type} [FloatOps F]
-- ==== Kernel7.lean ====
abbrev S32768x1024 : Shape := ⟨2, ![32768, 1024]⟩
abbrev S16x9x1024 : Shape := ⟨3, ![16, 9, 1024]⟩
abbrev S1024 : Shape := ⟨1, ![1024]⟩
abbrev S1024x2688 : Shape := ⟨2, ![1024, 2688]⟩
abbrev S1x1024 : Shape := ⟨2, ![1, 1024]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S32768x768 : Shape := ⟨2, ![32768, 768]⟩
abbrev S32768x1920 : Shape := ⟨2, ![32768, 1920]⟩
abbrev S512x1024 : Shape := ⟨2, ![512, 1024]⟩
abbrev S1x9x1024 : Shape := ⟨3, ![1, 9, 1024]⟩
abbrev S512x128 : Shape := ⟨2, ![512, 128]⟩
abbrev S512x768 : Shape := ⟨2, ![512, 768]⟩
abbrev S512x1920 : Shape := ⟨2, ![512, 1920]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1024x128 : Shape := ⟨2, ![1024, 128]⟩

abbrev nBuf : Space → Nat
  | .hbm => 87
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S16x9x1024, .f32⟩
  | .hbm, ⟨2, _⟩ => ⟨S1024, .f32⟩
  | .hbm, ⟨3, _⟩ => ⟨S1024x2688, .f32⟩
  | .hbm, ⟨4, _⟩ => ⟨S1x1024, .f32⟩
  | .hbm, ⟨5, _⟩ => ⟨S1024x2688, .bf16⟩
  | .hbm, ⟨6, _⟩ => ⟨S4096, .i32⟩
  | .hbm, ⟨7, _⟩ => ⟨S_, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S_, .i1⟩
  | .hbm, ⟨42, _⟩ => ⟨S4096, .i1⟩
  | .hbm, ⟨43, _⟩ => ⟨S4096, .i1⟩
  | .hbm, ⟨44, _⟩ => ⟨S4096, .i1⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S4096, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S4096x1, .f32⟩
  | .hbm, ⟨58, _⟩ => ⟨S1x16, .f32⟩
  | .hbm, ⟨59, _⟩ => ⟨S4096x16, .f32⟩
  | .hbm, ⟨60, _⟩ => ⟨S4096x16, .f32⟩
  | .hbm, ⟨61, _⟩ => ⟨S4096x16, .f32⟩
  | .hbm, ⟨62, _⟩ => ⟨S4096x1, .f32⟩
  | .hbm, ⟨63, _⟩ => ⟨S1x16, .f32⟩
  | .hbm, ⟨64, _⟩ => ⟨S4096x16, .f32⟩
  | .hbm, ⟨65, _⟩ => ⟨S4096x16, .f32⟩
  | .hbm, ⟨66, _⟩ => ⟨S4096x16, .f32⟩
  | .hbm, ⟨67, _⟩ => ⟨S4096x16, .f32⟩
  | .hbm, ⟨68, _⟩ => ⟨S4096x16, .f32⟩
  | .hbm, ⟨69, _⟩ => ⟨S4096x16, .f32⟩
  | .hbm, ⟨70, _⟩ => ⟨S4096x16, .f32⟩
  | .hbm, ⟨71, _⟩ => ⟨S4096x64, .f32⟩
  | .hbm, ⟨72, _⟩ => ⟨S4096x16, .f32⟩
  | .hbm, ⟨73, _⟩ => ⟨S4096x16, .f32⟩
  | .hbm, ⟨74, _⟩ => ⟨S4096x16, .f32⟩
  | .hbm, ⟨75, _⟩ => ⟨S4096x16, .f32⟩
  | .hbm, ⟨76, _⟩ => ⟨S4096x16, .f32⟩
  | .hbm, ⟨77, _⟩ => ⟨S4096x16, .f32⟩
  | .hbm, ⟨78, _⟩ => ⟨S4096x64, .f32⟩
  | .hbm, ⟨79, _⟩ => ⟨S1x4096x1x64, .f32⟩
  | .hbm, ⟨80, _⟩ => ⟨S1x4096x2x64, .f32⟩
  | .hbm, ⟨81, _⟩ => ⟨S4096x128, .f32⟩
  | .hbm, ⟨82, _⟩ => ⟨S1x4096x1x64, .f32⟩
  | .hbm, ⟨83, _⟩ => ⟨S1x4096x2x64, .f32⟩
  | .hbm, ⟨84, _⟩ => ⟨S4096x128, .f32⟩
  | .hbm, ⟨85, _⟩ => ⟨S32768x768, .bf16⟩
  | .hbm, ⟨86, _⟩ => ⟨S32768x1920, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2688, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x768, .bf16⟩
  | .local _ .vmem, ⟨11, _⟩ => ⟨S512x768, .bf16⟩
  | .local _ .vmem, ⟨12, _⟩ => ⟨S512x1920, .f32⟩
  | .local _ .vmem, ⟨13, _⟩ => ⟨S512x1920, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_v4 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_cst : Ref sig .tc := ⟨.hbm, 51, rfl⟩
abbrev main_v9 : Ref sig .tc := ⟨.hbm, 52, rfl⟩
abbrev main_v10 : Ref sig .tc := ⟨.hbm, 53, rfl⟩
abbrev main_cst_1 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41_0 : Ref sig .tc := ⟨.hbm, 85, rfl⟩
abbrev main_v41_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2688 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1920 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S32768x1024 : Shape := ⟨2, ![32768, 1024]⟩
abbrev S16x9x1024 : Shape := ⟨3, ![16, 9, 1024]⟩
abbrev S1024 : Shape := ⟨1, ![1024]⟩
abbrev S1024x2688 : Shape := ⟨2, ![1024, 2688]⟩
abbrev S8x4096x1024 : Shape := ⟨3, ![8, 4096, 1024]⟩
abbrev S8x9x1024 : Shape := ⟨3, ![8, 9, 1024]⟩
abbrev S8x1x9216 : Shape := ⟨3, ![8, 1, 9216]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2688 : Shape := ⟨3, ![8, 4096, 2688]⟩
abbrev S8x4096x768 : Shape := ⟨3, ![8, 4096, 768]⟩
abbrev S8x4096x512 : Shape := ⟨3, ![8, 4096, 512]⟩
abbrev S8x4096x128 : Shape := ⟨3, ![8, 4096, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S8x4096x8x64 : Shape := ⟨4, ![8, 4096, 8, 64]⟩
abbrev S8x4096x8x32 : Shape := ⟨4, ![8, 4096, 8, 32]⟩
abbrev S8x4096x8x16 : Shape := ⟨4, ![8, 4096, 8, 16]⟩
abbrev S1x4096x1x16 : Shape := ⟨4, ![1, 4096, 1, 16]⟩
abbrev S8x4096x2x64 : Shape := ⟨4, ![8, 4096, 2, 64]⟩
abbrev S8x4096x2x32 : Shape := ⟨4, ![8, 4096, 2, 32]⟩
abbrev S8x4096x2x16 : Shape := ⟨4, ![8, 4096, 2, 16]⟩
abbrev S32768x512 : Shape := ⟨2, ![32768, 512]⟩
abbrev S32768x128 : Shape := ⟨2, ![32768, 128]⟩
abbrev S32768x768 : Shape := ⟨2, ![32768, 768]⟩
abbrev S8x4096x1920 : Shape := ⟨3, ![8, 4096, 1920]⟩
abbrev S32768x1920 : Shape := ⟨2, ![32768, 1920]⟩

abbrev nBuf : Space → Nat
  | .hbm => 158
  | .vmem => 0
  | .smem => 0
  | _ => 0

abbrev hbmTy0_0 (i : Nat) : BufTy := match i % 128 with
  | 0 => ⟨S32768x1024, .f32⟩
  | 1 => ⟨S16x9x1024, .f32⟩
  | 2 => ⟨S1024, .f32⟩
  | 3 => ⟨S1024x2688, .f32⟩
  | 4 => ⟨S8x4096x1024, .f32⟩
  | 5 => ⟨S8x9x1024, .f32⟩
  | 6 => ⟨S8x1x9216, .f32⟩
  | 7 => ⟨S8x1x1024, .f32⟩
  | 8 => ⟨S8x1x1024, .f32⟩
  | 9 => ⟨S8x1x1024, .f32⟩
  | 10 => ⟨S8x1x1024, .f32⟩
  | 11 => ⟨S8x1x1024, .f32⟩
  | 12 => ⟨S8x1x1024, .f32⟩
  | 13 => ⟨S8x1x1024, .f32⟩
  | 14 => ⟨S8x1x1024, .f32⟩
  | 15 => ⟨S8x1x1024, .f32⟩
  | 16 => ⟨S8x4096x1024, .f32⟩
  | 17 => ⟨S_, .f32⟩
  | 18 => ⟨S8x4096, .f32⟩
  | 19 => ⟨S8x4096x1, .f32⟩
  | 20 => ⟨S_, .f32⟩
  | 21 => ⟨S8x4096x1, .f32⟩
  | 22 => ⟨S8x4096x1, .f32⟩
  | 23 => ⟨S_, .f32⟩
  | 24 => ⟨S8x4096x1, .f32⟩
  | 25 => ⟨S8x4096x1, .f32⟩
  | 26 => ⟨S8x4096x1, .f32⟩
  | 27 => ⟨S8x4096x1024, .f32⟩
  | 28 => ⟨S8x4096x1024, .f32⟩
  | 29 => ⟨S1x1x1024, .f32⟩
  | 30 => ⟨S8x4096x1024, .f32⟩
  | 31 => ⟨S8x4096x1024, .f32⟩
  | 32 => ⟨S_, .f32⟩
  | 33 => ⟨S8x1x1024, .f32⟩
  | 34 => ⟨S8x1x1024, .f32⟩
  | 35 => ⟨S8x4096x1024, .f32⟩
  | 36 => ⟨S8x4096x1024, .f32⟩
  | 37 => ⟨S8x4096x1024, .f32⟩
  | 38 => ⟨S8x4096x1024, .f32⟩
  | 39 => ⟨S8x4096x2688, .f32⟩
  | 40 => ⟨S8x4096x768, .f32⟩
  | 41 => ⟨S8x4096x512, .f32⟩
  | 42 => ⟨S8x4096x128, .f32⟩
  | 43 => ⟨S8x4096x128, .f32⟩
  | 44 => ⟨S64, .f32⟩
  | 45 => ⟨S64x64, .f32⟩
  | 46 => ⟨S4096, .f32⟩
  | 47 => ⟨S64, .f32⟩
  | 48 => ⟨S1x64, .f32⟩
  | 49 => ⟨S64x64, .f32⟩
  | 50 => ⟨S4096, .f32⟩
  | 51 => ⟨S16, .f32⟩
  | 52 => ⟨S16, .f32⟩
  | 53 => ⟨S_, .f32⟩
  | 54 => ⟨S16, .f32⟩
  | 55 => ⟨S16, .f32⟩
  | 56 => ⟨S_, .f32⟩
  | 57 => ⟨S16, .f32⟩
  | 58 => ⟨S16, .f32⟩
  | 59 => ⟨S4096x1, .f32⟩
  | 60 => ⟨S1x16, .f32⟩
  | 61 => ⟨S4096x16, .f32⟩
  | 62 => ⟨S4096x16, .f32⟩
  | 63 => ⟨S4096x16, .f32⟩
  | 64 => ⟨S4096x1x16, .f32⟩
  | 65 => ⟨S4096x1, .f32⟩
  | 66 => ⟨S1x16, .f32⟩
  | 67 => ⟨S4096x16, .f32⟩
  | 68 => ⟨S4096x16, .f32⟩
  | 69 => ⟨S4096x16, .f32⟩
  | 70 => ⟨S4096x1x16, .f32⟩
  | 71 => ⟨S4096x1x16, .f32⟩
  | 72 => ⟨S4096x1x16, .f32⟩
  | 73 => ⟨S4096x1x16, .f32⟩
  | 74 => ⟨S4096x1x16, .f32⟩
  | 75 => ⟨S8x4096x8x64, .f32⟩
  | 76 => ⟨S8x4096x8x32, .f32⟩
  | 77 => ⟨S8x4096x8x32, .f32⟩
  | 78 => ⟨S8x4096x8x16, .f32⟩
  | 79 => ⟨S8x4096x8x16, .f32⟩
  | 80 => ⟨S1x4096x1x16, .f32⟩
  | 81 => ⟨S8x4096x8x16, .f32⟩
  | 82 => ⟨S8x4096x8x16, .f32⟩
  | 83 => ⟨S1x4096x1x16, .f32⟩
  | 84 => ⟨S8x4096x8x16, .f32⟩
  | 85 => ⟨S8x4096x8x16, .f32⟩
  | 86 => ⟨S8x4096x8x16, .f32⟩
  | 87 => ⟨S1x4096x1x16, .f32⟩
  | 88 => ⟨S8x4096x8x16, .f32⟩
  | 89 => ⟨S8x4096x8x16, .f32⟩
  | 90 => ⟨S1x4096x1x16, .f32⟩
  | 91 => ⟨S8x4096x8x16, .f32⟩
  | 92 => ⟨S8x4096x8x16, .f32⟩
  | 93 => ⟨S8x4096x8x16, .f32⟩
  | 94 => ⟨S8x4096x8x32, .f32⟩
  | 95 => ⟨S8x4096x8x16, .f32⟩
  | 96 => ⟨S8x4096x8x16, .f32⟩
  | 97 => ⟨S1x4096x1x16, .f32⟩
  | 98 => ⟨S8x4096x8x16, .f32⟩
  | 99 => ⟨S8x4096x8x16, .f32⟩
  | 100 => ⟨S1x4096x1x16, .f32⟩
  | 101 => ⟨S8x4096x8x16, .f32⟩
  | 102 => ⟨S8x4096x8x16, .f32⟩
  | 103 => ⟨S8x4096x8x16, .f32⟩
  | 104 => ⟨S1x4096x1x16, .f32⟩
  | 105 => ⟨S8x4096x8x16, .f32⟩
  | 106 => ⟨S8x4096x8x16, .f32⟩
  | 107 => ⟨S1x4096x1x16, .f32⟩
  | 108 => ⟨S8x4096x8x16, .f32⟩
  | 109 => ⟨S8x4096x8x16, .f32⟩
  | 110 => ⟨S8x4096x8x16, .f32⟩
  | 111 => ⟨S8x4096x8x32, .f32⟩
  | 112 => ⟨S8x4096x8x64, .f32⟩
  | 113 => ⟨S8x4096x2x64, .f32⟩
  | 114 => ⟨S8x4096x2x32, .f32⟩
  | 115 => ⟨S8x4096x2x32, .f32⟩
  | 116 => ⟨S8x4096x2x16, .f32⟩
  | 117 => ⟨S8x4096x2x16, .f32⟩
  | 118 => ⟨S1x4096x1x16, .f32⟩
  | 119 => ⟨S8x4096x2x16, .f32⟩
  | 120 => ⟨S8x4096x2x16, .f32⟩
  | 121 => ⟨S1x4096x1x16, .f32⟩
  | 122 => ⟨S8x4096x2x16, .f32⟩
  | 123 => ⟨S8x4096x2x16, .f32⟩
  | 124 => ⟨S8x4096x2x16, .f32⟩
  | 125 => ⟨S1x4096x1x16, .f32⟩
  | 126 => ⟨S8x4096x2x16, .f32⟩
  | 127 => ⟨S8x4096x2x16, .f32⟩
  | _ => ⟨S32768x1024, .f32⟩

abbrev hbmTy0_1 (i : Nat) : BufTy := match i % 128 with
  | 0 => ⟨S1x4096x1x16, .f32⟩
  | 1 => ⟨S8x4096x2x16, .f32⟩
  | 2 => ⟨S8x4096x2x16, .f32⟩
  | 3 => ⟨S8x4096x2x16, .f32⟩
  | 4 => ⟨S8x4096x2x32, .f32⟩
  | 5 => ⟨S8x4096x2x16, .f32⟩
  | 6 => ⟨S8x4096x2x16, .f32⟩
  | 7 => ⟨S1x4096x1x16, .f32⟩
  | 8 => ⟨S8x4096x2x16, .f32⟩
  | 9 => ⟨S8x4096x2x16, .f32⟩
  | 10 => ⟨S1x4096x1x16, .f32⟩
  | 11 => ⟨S8x4096x2x16, .f32⟩
  | 12 => ⟨S8x4096x2x16, .f32⟩
  | 13 => ⟨S8x4096x2x16, .f32⟩
  | 14 => ⟨S1x4096x1x16, .f32⟩
  | 15 => ⟨S8x4096x2x16, .f32⟩
  | 16 => ⟨S8x4096x2x16, .f32⟩
  | 17 => ⟨S1x4096x1x16, .f32⟩
  | 18 => ⟨S8x4096x2x16, .f32⟩
  | 19 => ⟨S8x4096x2x16, .f32⟩
  | 20 => ⟨S8x4096x2x16, .f32⟩
  | 21 => ⟨S8x4096x2x32, .f32⟩
  | 22 => ⟨S8x4096x2x64, .f32⟩
  | 23 => ⟨S32768x512, .f32⟩
  | 24 => ⟨S32768x128, .f32⟩
  | 25 => ⟨S32768x128, .f32⟩
  | 26 => ⟨S32768x768, .f32⟩
  | 27 => ⟨S32768x768, .bf16⟩
  | 28 => ⟨S8x4096x1920, .f32⟩
  | 29 => ⟨S32768x1920, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_v46 : Ref sig .tc := ⟨.hbm, 55, rfl⟩
abbrev main_cst_4 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩

abbrev nD : Nat := 1
abbrev τ : Topo := Topo.v7x

variable {F : FTy → Type} [FloatOps F]
-- ==== Proof.AttnSpec.lean ====
/- One block of differential attention, written over the extended reals: the scores of a query row against all
   4608 keys (the 512 of the context, then the sequence's own 4096), their maximum, the exponentials and their sum,
   the difference of the two maps, the product with the values, and the head's norm. -/
module

public import Idealize.ShloMosaic.PureOps.Ideal
public import Idealize.ShloMosaic.Lib.Pointwise

@[expose] public section

set_option maxRecDepth 16384

noncomputable section

namespace Cert.Attn

open Idealize.ShloMosaic

/-- The first 64 lanes of a head, which the first of the two maps uses. -/
def lo (d : Fin 64) : Fin 128 := ⟨d, by omega⟩

/-- The last 64 lanes of a head, which the second map uses. -/
def hi (d : Fin 64) : Fin 128 := ⟨64 + d, by omega⟩

/-- Row `n` of the context rows followed by the sequence's own rows. -/
def joined (ctx : (⟨3, ![1, 512, 128]⟩ : Shape).Idx → EReal) (own : (⟨2, ![4096, 128]⟩ : Shape).Idx → EReal) (n : Fin 4608) (d : Fin 128) : EReal :=
  if h : n.1 < 512 then ctx (ix3 0 ⟨n, h⟩ d) else own (ix2 ⟨n - 512, by omega⟩ d)

/-- A row below 512 is the context's. -/
theorem joined_ctx (ctx : (⟨3, ![1, 512, 128]⟩ : Shape).Idx → EReal) (own : (⟨2, ![4096, 128]⟩ : Shape).Idx → EReal) (n : Fin 4608) (d : Fin 128)
    (i : Fin 512) (h : n.1 = i.1) : joined ctx own n d = ctx (ix3 0 i d) := by
  have h' : n.1 < 512 := by omega
  rw [joined, dif_pos h']
  congr 2
  exact Fin.ext h

/-- A row from 512 on is the sequence's own. -/
theorem joined_own (ctx : (⟨3, ![1, 512, 128]⟩ : Shape).Idx → EReal) (own : (⟨2, ![4096, 128]⟩ : Shape).Idx → EReal) (n : Fin 4608) (d : Fin 128)
    (i : Fin 4096) (h : n.1 = 512 + i.1) : joined ctx own n d = own (ix2 i d) := by
  have h' : ¬ n.1 < 512 := by omega
  rw [joined, dif_neg h']
  congr 2
  apply Fin.ext
  show n.1 - 512 = i.1
  omega

section Block

variable (q : (⟨2, ![256, 128]⟩ : Shape).Idx → EReal) (kc : (⟨3, ![1, 512, 128]⟩ : Shape).Idx → EReal) (ko : (⟨2, ![4096, 128]⟩ : Shape).Idx → EReal)

/-- The score of query row `r` against key `n`, over the lanes `f`, the query scaled first. -/
def score (f : Fin 64 → Fin 128) (r : Fin 256) (n : Fin 4608) : EReal :=
  ∑ d, q (ix2 r (f d)) * Ideal.ofBits .f32 0x3E000000#32 * joined kc ko n (f d)

/-- The largest score of row `r`, tile after tile of 512 keys. -/
def rowMax (f : Fin 64 → Fin 128) (r : Fin 256) : EReal :=
  Finset.univ.sup fun n => score q kc ko f r n

/-- The exponential of a score less its row's largest. -/
def weight (f : Fin 64 → Fin 128) (r : Fin 256) (n : Fin 4608) : EReal :=
  Ideal.exp (score q kc ko f r n - rowMax q kc ko f r)

/-- The sum of a row's exponentials. -/
def total (f : Fin 64 → Fin 128) (r : Fin 256) : EReal := ∑ n, weight q kc ko f r n

end Block

section Head

variable (lv : (⟨2, ![4, 64]⟩ : Shape).Idx → EReal) (g : (⟨2, ![1, 128]⟩ : Shape).Idx → EReal)
  (q : (⟨2, ![256, 128]⟩ : Shape).Idx → EReal) (kc vc : (⟨3, ![1, 512, 128]⟩ : Shape).Idx → EReal) (ko vo : (⟨2, ![4096, 128]⟩ : Shape).Idx → EReal)

/-- The weight of the second map, from the four vectors. -/
def lam : EReal :=
  Ideal.exp (∑ d : Fin 64, lv (ix2 0 d) * lv (ix2 1 d)) - Ideal.exp (∑ d : Fin 64, lv (ix2 2 d) * lv (ix2 3 d)) + Ideal.ofBits .f32 0x3EB60549#32

/-- The difference of the two maps at a query row and a key. -/
def diff (r : Fin 256) (n : Fin 4608) : EReal :=
  weight q kc ko lo r n * Ideal.div (Ideal.ofBits .f32 0x3F800000#32) (total q kc ko lo r) - weight q kc ko hi r n * Ideal.div (lam lv) (total q kc ko hi r)

/-- The head's output before its norm. -/
def mixed (r : Fin 256) (e : Fin 128) : EReal := ∑ n, diff lv q kc ko r n * joined vc vo n e

/-- The head's output, normed and scaled. -/
def head (r : Fin 256) (e : Fin 128) : EReal :=
  mixed lv q kc vc ko vo r e
      * Ideal.rsqrt (Ideal.div (∑ d, mixed lv q kc vc ko vo r d * mixed lv q kc vc ko vo r d) (Ideal.ofBits .f32 0x43000000#32) + Ideal.ofBits .f32 0x3727C5AC#32)
      * g (ix2 0 e) * Ideal.ofBits .f32 0x3F24FD5C#32

end Head

/-- The 9 tiles of 512 keys: key `j` of tile `k`. -/
def tile (k : Fin 9) (j : Fin 512) : Fin 4608 := ⟨512 * k + j, by omega⟩

/-- Every key is one of a tile. -/
def tileEquiv : Fin 9 × Fin 512 ≃ Fin 4608 where
  toFun p := tile p.1 p.2
  invFun n := (⟨n / 512, by omega⟩, ⟨n % 512, by omega⟩)
  left_inv p := by
    refine Prod.ext (Fin.ext ?_) (Fin.ext ?_)
    · show (512 * p.1.1 + p.2.1) / 512 = p.1.1
      omega
    · show (512 * p.1.1 + p.2.1) % 512 = p.2.1
      omega
  right_inv n := Fin.ext (by show 512 * (n.1 / 512) + n.1 % 512 = n.1; omega)

/-- A sum over all keys, tile by tile. -/
theorem sum_tiles (f : Fin 4608 → EReal) : ∑ n, f n = ∑ k : Fin 9, ∑ j, f (tile k j) := by
  rw [← Fintype.sum_prod_type']
  exact (Equiv.sum_comp tileEquiv f).symm

/-- The nine tiles' sums, added up from the left. -/
theorem sum_nine (g : Fin 9 → EReal) : ∑ k, g k = g 0 + g 1 + g 2 + g 3 + g 4 + g 5 + g 6 + g 7 + g 8 := by
  simp only [Fin.sum_univ_succ, Finset.univ_eq_empty, Finset.sum_empty, add_zero, ← add_assoc]
  rfl

/-- The largest over all keys, tile by tile. -/
theorem sup_tiles (f : Fin 4608 → EReal) : (Finset.univ.sup fun n => f n) = Finset.univ.sup fun k : Fin 9 => Finset.univ.sup fun j => f (tile k j) := by
  apply le_antisymm
  · refine Finset.sup_le fun n _ => ?_
    obtain ⟨p, rfl⟩ := tileEquiv.surjective n
    exact (Finset.le_sup (f := fun j => f (tile p.1 j)) (Finset.mem_univ p.2)).trans
      (Finset.le_sup (f := fun k => Finset.univ.sup fun j => f (tile k j)) (Finset.mem_univ p.1))
  · exact Finset.sup_le fun k _ => Finset.sup_le fun j _ => Finset.le_sup (f := f) (Finset.mem_univ _)

/-- The nine tiles' maxima, joined from the left. -/
theorem sup_nine (g : Fin 9 → EReal) :
    Finset.univ.sup g = max (max (max (max (max (max (max (max (g 0) (g 1)) (g 2)) (g 3)) (g 4)) (g 5)) (g 6)) (g 7)) (g 8) := by
  apply le_antisymm
  · refine Finset.sup_le fun k _ => ?_
    fin_cases k <;> simp
  · simp only [max_le_iff, Finset.le_sup (Finset.mem_univ _), and_self]

/-- Minus infinity's word. -/
theorem negInf : Ideal.ofBits .f32 0xFF800000#32 = (⊥ : EReal) := by
  simp [Ideal.ofBits, Ideal.ieee]

/-- A running maximum from minus infinity is the largest. -/
theorem fold_max {n : ℕ} (f : Fin n → EReal) : Finset.univ.fold max (Ideal.ofBits .f32 0xFF800000#32) f = Finset.univ.sup f := by
  rw [negInf]
  rfl

end Cert.Attn

end
-- ==== Proof.AttnScores.lean ====
/- What one point of the attention kernel keeps in its two score buffers: after the first sweep the scores against
   all 4608 keys, tile by tile, and the largest score of each row. -/
module

public import proofs.«01_k».proof.Proof.Gen.KernelIdeal.Value
public import proofs.«01_k».proof.Proof.AttnSpec
public import Idealize.ShloMosaic.Lib.Pipeline.ReadBack
public import Idealize.ShloMosaic.Lib.Pipeline.ValueKit.Geometry

@[expose] public section

set_option maxRecDepth 16384

noncomputable section

namespace Cert.Attn

open Idealize.ShloMosaic Idealize.ShloMosaic.TcCoe Idealize.ShloMosaic.Tactic
open Cert.KernelIdeal Cert.KernelIdeal.Gen

variable (c : Dev nD) (arg3 : Memref sig .tc .vmem S4x64 .f32) (harg3 : arg3.IsWhole) (arg5 : Memref sig .tc .vmem S256x128 .bf16) (harg5 : arg5.IsWhole)
  (arg6 : Memref sig .tc .vmem S1x512x128 .f32) (harg6 : arg6.IsWhole) (arg7 : Memref sig .tc .vmem S1x512x128 .f32) (harg7 : arg7.IsWhole)
  (arg8 : Memref sig .tc .vmem S4096x128 .bf16) (harg8 : arg8.IsWhole) (arg9 : Memref sig .tc .vmem S4096x128 .bf16) (harg9 : arg9.IsWhole)
  (arg11 : Memref sig .tc .vmem S256x4608 .f32) (arg12 : Memref sig .tc .vmem S256x4608 .f32)
  (x0 : Vec Ideal S4x64 .f32) (x2 : Vec Ideal S256x128 .bf16) (x3 x4 : Vec Ideal S1x512x128 .f32) (x5 x6 : Vec Ideal S4096x128 .bf16)

/-- A tile of the scores from the sequence's own keys. -/
theorem score_own (f : Fin 64 → Fin 128) (r r' : Fin 256) (n : Fin 4608) (i : Fin 4096) (hr : r'.1 = r.1) (h : n.1 = 512 + i.1) :
    (∑ d, x2 (ix2 r (f d)) * Ideal.ofBits .f32 0x3E000000#32 * x5 (ix2 i (f d))) = score x2 x3 x5 f r' n := by
  obtain rfl := Fin.ext hr
  exact Finset.sum_congr rfl fun d _ => by rw [joined_own x3 x5 n (f d) i h]

/-- A tile of the scores from the context's keys. -/
theorem score_ctx (f : Fin 64 → Fin 128) (r r' : Fin 256) (n : Fin 4608) (i : Fin 512) (hr : r'.1 = r.1) (h : n.1 = i.1) :
    (∑ d, x2 (ix2 r (f d)) * Ideal.ofBits .f32 0x3E000000#32 * x3 (ix3 0 i (f d))) = score x2 x3 x5 f r' n := by
  obtain rfl := Fin.ext hr
  exact Finset.sum_congr rfl fun d _ => by rw [joined_ctx x3 x5 n (f d) i h]

/-- A coordinate of a tile's element, counted from the buffer's start. -/
theorem tile_val (o : ℕ) (inb) (j : (Rect.unit (s := S256x4608) ![0, o] ![256, 512] inb).shape.Idx) :
    ((Rect.unit (s := S256x4608) ![0, o] ![256, 512] inb).emb j 0).1 = (j 0).1 ∧ ((Rect.unit (s := S256x4608) ![0, o] ![256, 512] inb).emb j 1).1 = o + (j 1).1 :=
  ⟨(ValueKit.rect_emb_unit_val _ _ _ j 0).trans (Nat.zero_add _), ValueKit.rect_emb_unit_val _ _ _ j 1⟩

/-- The first score buffer after the first sweep: the scores over the first 64 lanes. -/
theorem scores_lo (y : S256x4608.Idx) :
    View.canon (kernelRun0_A.sl.HS0_9 (F := Ideal) c arg5 harg5 arg6 harg6 arg8 harg8 x2 x3 x5) y = score x2 x3 x5 lo (y 0) (y 1) := by
  have hc := View.cover_of_tiledL (kernelRun0_A.sl.HS0_9 (F := Ideal) c arg5 harg5 arg6 harg6 arg8 harg8 x2 x3 x5) S256x512.size (by sl_kernel_rfl) y
  have hp : View.PiecesOf (fun y : S256x4608.Idx => score x2 x3 x5 lo (y 0) (y 1))
      (kernelRun0_A.sl.HS0_9 (F := Ideal) c arg5 harg5 arg6 harg6 arg8 harg8 x2 x3 x5) := by
    unfold kernelRun0_A.sl.HS0_9 kernelRun0_A.sl.r_1 kernelRun0_A.sl.r_5
    simp only [View.readAt_eq_ld, harg5.read_unread, harg6.read_unread, harg8.read_unread]
    refine ⟨?_, ?_, ?_, ?_, ?_, ?_, ?_, ?_, ?_, trivial⟩ <;> intro j <;> idx_vars j
    all_goals
      pointwise [k0_pay49, k0_pay47, k0_pay43, k0_pay41, k0_pay39, k0_pay37, k0_pay33, k0_pay31, k0_pay29, k0_pay27, k0_pay23, k0_pay21, k0_pay19, k0_pay17, k0_pay13, k0_pay11, k0_pay9, k0_pay7, k0_pay6, k0_pay4, k0_pay3]
      first
      | exact score_ctx x2 x3 x5 lo j0 _ _ _ (tile_val _ _ (ix2 j0 j1)).1 ((tile_val _ _ (ix2 j0 j1)).2.trans (by simp))
      | exact score_own x2 x3 x5 lo j0 _ _ _ (tile_val _ _ (ix2 j0 j1)).1 ((tile_val _ _ (ix2 j0 j1)).2.trans (by simp <;> omega))
  simpa using View.canon_append_of_piecesOf _ [] _ hp y hc

/-- The second score buffer after the first sweep: the scores over the last 64 lanes. -/
theorem scores_hi (y : S256x4608.Idx) :
    View.canon (kernelRun0_A.sl.HS1_9 (F := Ideal) c arg5 harg5 arg6 harg6 arg8 harg8 x2 x3 x5) y = score x2 x3 x5 hi (y 0) (y 1) := by
  have hc := View.cover_of_tiledL (kernelRun0_A.sl.HS1_9 (F := Ideal) c arg5 harg5 arg6 harg6 arg8 harg8 x2 x3 x5) S256x512.size (by sl_kernel_rfl) y
  have hp : View.PiecesOf (fun y : S256x4608.Idx => score x2 x3 x5 hi (y 0) (y 1))
      (kernelRun0_A.sl.HS1_9 (F := Ideal) c arg5 harg5 arg6 harg6 arg8 harg8 x2 x3 x5) := by
    unfold kernelRun0_A.sl.HS1_9 kernelRun0_A.sl.r_2 kernelRun0_A.sl.r_14 kernelRun0_A.sl.r_9 kernelRun0_A.sl.r_4
    unfold kernelRun0_A.sl.r_2
    simp only [View.readAt_eq_ld, harg5.read_unread, harg6.read_unread, harg8.read_unread]
    refine ⟨?_, ?_, ?_, ?_, ?_, ?_, ?_, ?_, ?_, trivial⟩ <;> intro j <;> idx_vars j
    all_goals
      pointwise [k0_pay50, k0_pay48, k0_pay44, k0_pay42, k0_pay40, k0_pay38, k0_pay34, k0_pay32, k0_pay30, k0_pay28, k0_pay24, k0_pay22, k0_pay20, k0_pay18, k0_pay14, k0_pay12, k0_pay10, k0_pay8, k0_pay6, k0_pay5, k0_pay3]
      first
      | exact score_ctx x2 x3 x5 hi j0 _ _ _ (tile_val _ _ (ix2 j0 j1)).1 ((tile_val _ _ (ix2 j0 j1)).2.trans (by simp))
      | exact score_own x2 x3 x5 hi j0 _ _ _ (tile_val _ _ (ix2 j0 j1)).1 ((tile_val _ _ (ix2 j0 j1)).2.trans (by simp <;> omega))
  simpa using View.canon_append_of_piecesOf _ [] _ hp y hc

/-- The largest score of a row, over the first 64 lanes. -/
theorem max_lo (r : Fin 256) (z : Fin 1) :
    kernelRun0_A.sl.r_23 (F := Ideal) c arg5 harg5 arg6 harg6 arg8 harg8 x2 x3 x5 (ix2 r z) = rowMax x2 x3 x5 lo r := by
  rw [rowMax, sup_tiles, sup_nine]
  unfold kernelRun0_A.sl.r_23 kernelRun0_A.sl.r_22 kernelRun0_A.sl.r_19 kernelRun0_A.sl.r_17 kernelRun0_A.sl.r_15 kernelRun0_A.sl.r_12 kernelRun0_A.sl.r_10 kernelRun0_A.sl.r_8 kernelRun0_A.sl.r_6 kernelRun0_A.sl.r_3 kernelRun0_A.sl.r_1
  simp only [View.readAt_eq_ld, harg5.read_unread, harg6.read_unread, harg8.read_unread]
  pointwise [k0_pay52, k0_pay51, k0_pay47, k0_pay45, k0_pay41, k0_pay37, k0_pay35, k0_pay31, k0_pay27, k0_pay25, k0_pay21, k0_pay17, k0_pay15, k0_pay11, k0_pay7, k0_pay6, k0_pay4, k0_pay3]
  simp only [fold_max]
  refine congrArg₂ max (congrArg₂ max (congrArg₂ max (congrArg₂ max (congrArg₂ max (congrArg₂ max (congrArg₂ max (congrArg₂ max ?_ ?_) ?_) ?_) ?_) ?_) ?_) ?_) ?_
  all_goals
    refine Finset.sup_congr rfl fun j _ => ?_
    first
    | exact score_ctx x2 x3 x5 lo r _ _ _ rfl (by simp [tile])
    | exact score_own x2 x3 x5 lo r _ _ _ rfl (by simp [tile] <;> omega)

/-- The largest score of a row, over the last 64 lanes. -/
theorem max_hi (r : Fin 256) (z : Fin 1) :
    kernelRun0_A.sl.r_24 (F := Ideal) c arg5 harg5 arg6 harg6 arg8 harg8 x2 x3 x5 (ix2 r z) = rowMax x2 x3 x5 hi r := by
  rw [rowMax, sup_tiles, sup_nine]
  unfold kernelRun0_A.sl.r_24 kernelRun0_A.sl.r_21 kernelRun0_A.sl.r_20 kernelRun0_A.sl.r_18 kernelRun0_A.sl.r_16 kernelRun0_A.sl.r_13 kernelRun0_A.sl.r_11 kernelRun0_A.sl.r_9 kernelRun0_A.sl.r_7 kernelRun0_A.sl.r_4 kernelRun0_A.sl.r_2
  simp only [View.readAt_eq_ld, harg5.read_unread, harg6.read_unread, harg8.read_unread]
  pointwise [k0_pay53, k0_pay48, k0_pay46, k0_pay42, k0_pay38, k0_pay36, k0_pay32, k0_pay28, k0_pay26, k0_pay22, k0_pay18, k0_pay16, k0_pay12, k0_pay8, k0_pay6, k0_pay5, k0_pay3]
  simp only [fold_max]
  refine congrArg₂ max (congrArg₂ max (congrArg₂ max (congrArg₂ max (congrArg₂ max (congrArg₂ max (congrArg₂ max (congrArg₂ max ?_ ?_) ?_) ?_) ?_) ?_) ?_) ?_) ?_
  all_goals
    refine Finset.sup_congr rfl fun j _ => ?_
    first
    | exact score_ctx x2 x3 x5 hi r _ _ _ rfl (by simp [tile])
    | exact score_own x2 x3 x5 hi r _ _ _ rfl (by simp [tile] <;> omega)

end Cert.Attn

end
-- ==== Proof.AttnWeights.lean ====
/- The second sweep of one point of the attention kernel: the two buffers end with the exponentials of the scores less
   their row's largest, and the two running sums with the sums of these over all 4608 keys. -/
module

public import proofs.«01_k».proof.Proof.AttnScores

@[expose] public section

set_option maxRecDepth 16384

noncomputable section

namespace Cert.Attn

open Idealize.ShloMosaic Idealize.ShloMosaic.TcCoe Idealize.ShloMosaic.Tactic
open Cert.KernelIdeal Cert.KernelIdeal.Gen

variable (c : Dev nD) (arg3 : Memref sig .tc .vmem S4x64 .f32) (harg3 : arg3.IsWhole) (arg5 : Memref sig .tc .vmem S256x128 .bf16) (harg5 : arg5.IsWhole)
  (arg6 : Memref sig .tc .vmem S1x512x128 .f32) (harg6 : arg6.IsWhole) (arg7 : Memref sig .tc .vmem S1x512x128 .f32) (harg7 : arg7.IsWhole)
  (arg8 : Memref sig .tc .vmem S4096x128 .bf16) (harg8 : arg8.IsWhole) (arg9 : Memref sig .tc .vmem S4096x128 .bf16) (harg9 : arg9.IsWhole)
  (arg11 : Memref sig .tc .vmem S256x4608 .f32) (arg12 : Memref sig .tc .vmem S256x4608 .f32)
  (x0 : Vec Ideal S4x64 .f32) (x2 : Vec Ideal S256x128 .bf16) (x3 x4 : Vec Ideal S1x512x128 .f32) (x5 x6 : Vec Ideal S4096x128 .bf16)

/-- The largest score of a row, as its last two parts are joined. -/
theorem max_lo_parts (r : Fin 256) (z : Fin 1) :
    max (kernelRun0_A.sl.r_19 (F := Ideal) c arg5 harg5 arg6 harg6 arg8 harg8 x2 x3 x5 (ix2 r z)) (kernelRun0_A.sl.r_22 (F := Ideal) c arg5 harg5 arg8 harg8 x2 x5 (ix2 r z))
      = rowMax x2 x3 x5 lo r :=
  max_lo c arg5 harg5 arg6 harg6 arg8 harg8 x2 x3 x5 r z

/-- The same over the last 64 lanes, the last tile's scores reduced where they are joined. -/
theorem max_hi_parts (r : Fin 256) (z : Fin 1) :
    max (kernelRun0_A.sl.r_20 (F := Ideal) c arg5 harg5 arg6 harg6 arg8 harg8 x2 x3 x5 (ix2 r z))
        (Finset.univ.fold max (Ideal.ofBits .f32 0xFF800000#32) fun j => kernelRun0_A.sl.r_21 (F := Ideal) c arg5 harg5 arg8 harg8 x2 x5 (ix2 r j))
      = rowMax x2 x3 x5 hi r := by
  rw [← max_hi c arg5 harg5 arg6 harg6 arg8 harg8 x2 x3 x5 r z]
  unfold kernelRun0_A.sl.r_24
  pointwise [k0_pay53]

/-- A read of the first buffer's scores, through any box. -/
theorem read_lo (B : LoadRect S256x4608) :
    arg11.view.readCov (kernelRun0_A.sl.HS0_9 (F := Ideal) c arg5 harg5 arg6 harg6 arg8 harg8 x2 x3 x5) B
      = fun j => score x2 x3 x5 lo (B.idx j 0) (B.idx j 1) := by
  rw [View.readCov_eq_canon']
  exact funext fun j => scores_lo c arg5 harg5 arg6 harg6 arg8 harg8 x2 x3 x5 _

/-- A read of the second buffer's scores, through any box. -/
theorem read_hi (B : LoadRect S256x4608) :
    arg12.view.readCov (kernelRun0_A.sl.HS1_9 (F := Ideal) c arg5 harg5 arg6 harg6 arg8 harg8 x2 x3 x5) B
      = fun j => score x2 x3 x5 hi (B.idx j 0) (B.idx j 1) := by
  rw [View.readCov_eq_canon']
  exact funext fun j => scores_hi c arg5 harg5 arg6 harg6 arg8 harg8 x2 x3 x5 _

/-- What the second sweep reads from the first buffer: the scores, tile by tile. -/
theorem first_lo (r : Fin 256) (j : Fin 512) :
    kernelRun0_A.sl.v179 (F := Ideal) c arg5 harg5 arg6 harg6 arg8 harg8 arg11 x2 x3 x5 (ix2 r j) = score x2 x3 x5 lo r (tile 0 j)
      ∧ kernelRun0_A.sl.v201 (F := Ideal) c arg5 harg5 arg6 harg6 arg8 harg8 arg11 x2 x3 x5 (ix2 r j) = score x2 x3 x5 lo r (tile 1 j)
      ∧ kernelRun0_A.sl.v221 (F := Ideal) c arg5 harg5 arg6 harg6 arg8 harg8 arg11 x2 x3 x5 (ix2 r j) = score x2 x3 x5 lo r (tile 2 j)
      ∧ kernelRun0_A.sl.v241 (F := Ideal) c arg5 harg5 arg6 harg6 arg8 harg8 arg11 x2 x3 x5 (ix2 r j) = score x2 x3 x5 lo r (tile 3 j)
      ∧ kernelRun0_A.sl.v261 (F := Ideal) c arg5 harg5 arg6 harg6 arg8 harg8 arg11 x2 x3 x5 (ix2 r j) = score x2 x3 x5 lo r (tile 4 j)
      ∧ kernelRun0_A.sl.v281 (F := Ideal) c arg5 harg5 arg6 harg6 arg8 harg8 arg11 x2 x3 x5 (ix2 r j) = score x2 x3 x5 lo r (tile 5 j)
      ∧ kernelRun0_A.sl.v301 (F := Ideal) c arg5 harg5 arg6 harg6 arg8 harg8 arg11 x2 x3 x5 (ix2 r j) = score x2 x3 x5 lo r (tile 6 j)
      ∧ kernelRun0_A.sl.v321 (F := Ideal) c arg5 harg5 arg6 harg6 arg8 harg8 arg11 x2 x3 x5 (ix2 r j) = score x2 x3 x5 lo r (tile 7 j)
      ∧ kernelRun0_A.sl.v341 (F := Ideal) c arg5 harg5 arg6 harg6 arg8 harg8 arg11 x2 x3 x5 (ix2 r j) = score x2 x3 x5 lo r (tile 8 j) := by
  refine ⟨?_, ?_, ?_, ?_, ?_, ?_, ?_, ?_, ?_⟩
  all_goals
    simp (disch := decide) only [kernelRun0_A.sl.v179, kernelRun0_A.sl.v201, kernelRun0_A.sl.v221, kernelRun0_A.sl.v241, kernelRun0_A.sl.v261, kernelRun0_A.sl.v281, kernelRun0_A.sl.v301, kernelRun0_A.sl.v321, kernelRun0_A.sl.v341, kernelRun0_A.sl.HS0_17, kernelRun0_A.sl.HS0_16, kernelRun0_A.sl.HS0_15, kernelRun0_A.sl.HS0_14, kernelRun0_A.sl.HS0_13, kernelRun0_A.sl.HS0_12, kernelRun0_A.sl.HS0_11, kernelRun0_A.sl.HS0_10, View.readCov_skip, read_lo]
    exact congrArg₂ _ (Fin.ext (tile_val _ _ (ix2 r j)).1) (Fin.ext (tile_val _ _ (ix2 r j)).2)

/-- What the second sweep reads from the second buffer: the scores, tile by tile. -/
theorem first_hi (r : Fin 256) (j : Fin 512) :
    kernelRun0_A.sl.v183 (F := Ideal) c arg5 harg5 arg6 harg6 arg8 harg8 arg12 x2 x3 x5 (ix2 r j) = score x2 x3 x5 hi r (tile 0 j)
      ∧ kernelRun0_A.sl.v205 (F := Ideal) c arg5 harg5 arg6 harg6 arg8 harg8 arg12 x2 x3 x5 (ix2 r j) = score x2 x3 x5 hi r (tile 1 j)
      ∧ kernelRun0_A.sl.v225 (F := Ideal) c arg5 harg5 arg6 harg6 arg8 harg8 arg12 x2 x3 x5 (ix2 r j) = score x2 x3 x5 hi r (tile 2 j)
      ∧ kernelRun0_A.sl.v245 (F := Ideal) c arg5 harg5 arg6 harg6 arg8 harg8 arg12 x2 x3 x5 (ix2 r j) = score x2 x3 x5 hi r (tile 3 j)
      ∧ kernelRun0_A.sl.v265 (F := Ideal) c arg5 harg5 arg6 harg6 arg8 harg8 arg12 x2 x3 x5 (ix2 r j) = score x2 x3 x5 hi r (tile 4 j)
      ∧ kernelRun0_A.sl.v285 (F := Ideal) c arg5 harg5 arg6 harg6 arg8 harg8 arg12 x2 x3 x5 (ix2 r j) = score x2 x3 x5 hi r (tile 5 j)
      ∧ kernelRun0_A.sl.v305 (F := Ideal) c arg5 harg5 arg6 harg6 arg8 harg8 arg12 x2 x3 x5 (ix2 r j) = score x2 x3 x5 hi r (tile 6 j)
      ∧ kernelRun0_A.sl.v325 (F := Ideal) c arg5 harg5 arg6 harg6 arg8 harg8 arg12 x2 x3 x5 (ix2 r j) = score x2 x3 x5 hi r (tile 7 j)
      ∧ kernelRun0_A.sl.v345 (F := Ideal) c arg5 harg5 arg6 harg6 arg8 harg8 arg12 x2 x3 x5 (ix2 r j) = score x2 x3 x5 hi r (tile 8 j) := by
  refine ⟨?_, ?_, ?_, ?_, ?_, ?_, ?_, ?_, ?_⟩
  all_goals
    simp (disch := decide) only [kernelRun0_A.sl.v183, kernelRun0_A.sl.v205, kernelRun0_A.sl.v225, kernelRun0_A.sl.v245, kernelRun0_A.sl.v265, kernelRun0_A.sl.v285, kernelRun0_A.sl.v305, kernelRun0_A.sl.v325, kernelRun0_A.sl.v345, kernelRun0_A.sl.HS1_17, kernelRun0_A.sl.HS1_16, kernelRun0_A.sl.HS1_15, kernelRun0_A.sl.HS1_14, kernelRun0_A.sl.HS1_13, kernelRun0_A.sl.HS1_12, kernelRun0_A.sl.HS1_11, kernelRun0_A.sl.HS1_10, View.readCov_skip, read_hi]
    exact congrArg₂ _ (Fin.ext (tile_val _ _ (ix2 r j)).1) (Fin.ext (tile_val _ _ (ix2 r j)).2)

/-- The first buffer after the second sweep: the exponentials. -/
theorem weights_lo (y : S256x4608.Idx) : View.canon (kernelRun0_A.sl.HS0_18 (F := Ideal) c arg5 harg5 arg6 harg6 arg8 harg8 arg11 x2 x3 x5) y = weight x2 x3 x5 lo (y 0) (y 1) := by
  have hc := View.cover_of_tiledL ((kernelRun0_A.sl.HS0_18 (F := Ideal) c arg5 harg5 arg6 harg6 arg8 harg8 arg11 x2 x3 x5).take 9) S256x512.size (by sl_kernel_rfl) y
  have hp : View.PiecesOf (fun y : S256x4608.Idx => weight x2 x3 x5 lo (y 0) (y 1)) ((kernelRun0_A.sl.HS0_18 (F := Ideal) c arg5 harg5 arg6 harg6 arg8 harg8 arg11 x2 x3 x5).take 9) := by
    unfold kernelRun0_A.sl.HS0_18 kernelRun0_A.sl.HS0_17 kernelRun0_A.sl.HS0_16 kernelRun0_A.sl.HS0_15 kernelRun0_A.sl.HS0_14 kernelRun0_A.sl.HS0_13 kernelRun0_A.sl.HS0_12 kernelRun0_A.sl.HS0_11 kernelRun0_A.sl.HS0_10
    simp only [List.take_succ_cons, List.take_zero]
    refine ⟨?_, ?_, ?_, ?_, ?_, ?_, ?_, ?_, ?_, trivial⟩ <;> intro j <;> idx_vars j
    all_goals
      obtain ⟨h0, h1, h2, h3, h4, h5, h6, h7, h8⟩ := first_lo c arg5 harg5 arg6 harg6 arg8 harg8 arg11 x2 x3 x5 j0 j1
      try simp only [kernelRun0_A.sl.r_39, kernelRun0_A.sl.r_35, kernelRun0_A.sl.r_31, kernelRun0_A.sl.r_27]
      pointwise [k0_pay97, k0_pay95, k0_pay93, k0_pay91, k0_pay87, k0_pay85, k0_pay83, k0_pay80, k0_pay76, k0_pay74, k0_pay72, k0_pay70, k0_pay66, k0_pay64, k0_pay62, k0_pay60, k0_pay56, k0_pay54, k0_pay52]
      simp only [h0, h1, h2, h3, h4, h5, h6, h7, h8, max_lo, max_lo_parts]
      exact (congrArg₂ (weight x2 x3 x5 lo) (Fin.ext (tile_val _ _ (ix2 j0 j1)).1) (Fin.ext (tile_val _ _ (ix2 j0 j1)).2)).symm
  have := View.canon_append_of_piecesOf _ ((kernelRun0_A.sl.HS0_18 (F := Ideal) c arg5 harg5 arg6 harg6 arg8 harg8 arg11 x2 x3 x5).drop 9) _ hp y hc
  rwa [List.take_append_drop] at this

/-- The second buffer after the second sweep: the exponentials. -/
theorem weights_hi (y : S256x4608.Idx) : View.canon (kernelRun0_A.sl.HS1_18 (F := Ideal) c arg5 harg5 arg6 harg6 arg8 harg8 arg12 x2 x3 x5) y = weight x2 x3 x5 hi (y 0) (y 1) := by
  have hc := View.cover_of_tiledL ((kernelRun0_A.sl.HS1_18 (F := Ideal) c arg5 harg5 arg6 harg6 arg8 harg8 arg12 x2 x3 x5).take 9) S256x512.size (by sl_kernel_rfl) y
  have hp : View.PiecesOf (fun y : S256x4608.Idx => weight x2 x3 x5 hi (y 0) (y 1)) ((kernelRun0_A.sl.HS1_18 (F := Ideal) c arg5 harg5 arg6 harg6 arg8 harg8 arg12 x2 x3 x5).take 9) := by
    unfold kernelRun0_A.sl.HS1_18 kernelRun0_A.sl.HS1_17 kernelRun0_A.sl.HS1_16 kernelRun0_A.sl.HS1_15 kernelRun0_A.sl.HS1_14 kernelRun0_A.sl.HS1_13 kernelRun0_A.sl.HS1_12 kernelRun0_A.sl.HS1_11 kernelRun0_A.sl.HS1_10
    simp only [List.take_succ_cons, List.take_zero]
    refine ⟨?_, ?_, ?_, ?_, ?_, ?_, ?_, ?_, ?_, trivial⟩ <;> intro j <;> idx_vars j
    all_goals
      obtain ⟨h0, h1, h2, h3, h4, h5, h6, h7, h8⟩ := first_hi c arg5 harg5 arg6 harg6 arg8 harg8 arg12 x2 x3 x5 j0 j1
      try simp only [kernelRun0_A.sl.r_36, kernelRun0_A.sl.r_32, kernelRun0_A.sl.r_28]
      pointwise [k0_pay98, k0_pay96, k0_pay94, k0_pay92, k0_pay88, k0_pay86, k0_pay84, k0_pay82, k0_pay81, k0_pay77, k0_pay75, k0_pay73, k0_pay71, k0_pay67, k0_pay65, k0_pay63, k0_pay61, k0_pay57, k0_pay55, k0_pay53]
      simp only [h0, h1, h2, h3, h4, h5, h6, h7, h8, max_hi, max_hi_parts]
      exact (congrArg₂ (weight x2 x3 x5 hi) (Fin.ext (tile_val _ _ (ix2 j0 j1)).1) (Fin.ext (tile_val _ _ (ix2 j0 j1)).2)).symm
  have := View.canon_append_of_piecesOf _ ((kernelRun0_A.sl.HS1_18 (F := Ideal) c arg5 harg5 arg6 harg6 arg8 harg8 arg12 x2 x3 x5).drop 9) _ hp y hc
  rwa [List.take_append_drop] at this

end Cert.Attn

end
-- ==== Proof.AttnBlock.lean ====
/- One point of the attention kernel, from its blocks to the block it writes: the sums of the exponentials, the third
   sweep over the values, and the head's norm. -/
module

public import proofs.«01_k».proof.Proof.AttnWeights

@[expose] public section

set_option maxRecDepth 16384

noncomputable section

namespace Cert.Attn

open Idealize.ShloMosaic Idealize.ShloMosaic.TcCoe Idealize.ShloMosaic.Tactic
open Cert.KernelIdeal Cert.KernelIdeal.Gen

variable (c : Dev nD) (arg3 : Memref sig .tc .vmem S4x64 .f32) (harg3 : arg3.IsWhole) (arg5 : Memref sig .tc .vmem S256x128 .bf16) (harg5 : arg5.IsWhole)
  (arg6 : Memref sig .tc .vmem S1x512x128 .f32) (harg6 : arg6.IsWhole) (arg7 : Memref sig .tc .vmem S1x512x128 .f32) (harg7 : arg7.IsWhole)
  (arg8 : Memref sig .tc .vmem S4096x128 .bf16) (harg8 : arg8.IsWhole) (arg9 : Memref sig .tc .vmem S4096x128 .bf16) (harg9 : arg9.IsWhole)
  (arg11 : Memref sig .tc .vmem S256x4608 .f32) (arg12 : Memref sig .tc .vmem S256x4608 .f32)
  (x0 : Vec Ideal S4x64 .f32) (x2 : Vec Ideal S256x128 .bf16) (x3 x4 : Vec Ideal S1x512x128 .f32) (x5 x6 : Vec Ideal S4096x128 .bf16)

/-- The origin of a block. -/
theorem zeros2 : (![0, 0] : Fin 2 → ℕ) = fun _ => 0 := funext fun a => by fin_cases a <;> rfl

/-- One over the sum of a row of the first map. -/
theorem total_lo (r : Fin 256) (z : Fin 1) :
    kernelRun0_A.sl.r_41 (F := Ideal) c arg5 harg5 arg6 harg6 arg8 harg8 arg11 x2 x3 x5 (ix2 r z) = Ideal.div (Ideal.ofBits .f32 0x3F800000#32) (total x2 x3 x5 lo r) := by
  have h := first_lo c arg5 harg5 arg6 harg6 arg8 harg8 arg11 x2 x3 x5 r
  simp only [forall_and] at h
  obtain ⟨h0, h1, h2, h3, h4, h5, h6, h7, h8⟩ := h
  obtain rfl : z = 0 := Subsingleton.elim _ _
  rw [total, sum_tiles, sum_nine]
  unfold kernelRun0_A.sl.r_41 kernelRun0_A.sl.r_39 kernelRun0_A.sl.r_37 kernelRun0_A.sl.r_35 kernelRun0_A.sl.r_33 kernelRun0_A.sl.r_31 kernelRun0_A.sl.r_29 kernelRun0_A.sl.r_27 kernelRun0_A.sl.r_25
  pointwise [k0_pay100, k0_pay95, k0_pay91, k0_pay89, k0_pay85, k0_pay80, k0_pay78, k0_pay74, k0_pay70, k0_pay68, k0_pay64, k0_pay60, k0_pay58, k0_pay54, k0_pay52]
  simp only [h0, h1, h2, h3, h4, h5, h6, h7, h8, max_lo, max_lo_parts, Ideal.ofBits_zero_f32, zero_add]
  rfl

/-- The sum of a row of the second map. -/
theorem total_hi (r : Fin 256) (z : Fin 1) :
    kernelRun0_A.sl.r_40 (F := Ideal) c arg5 harg5 arg6 harg6 arg8 harg8 arg12 x2 x3 x5 (ix2 r z) = total x2 x3 x5 hi r := by
  have h := first_hi c arg5 harg5 arg6 harg6 arg8 harg8 arg12 x2 x3 x5 r
  simp only [forall_and] at h
  obtain ⟨h0, h1, h2, h3, h4, h5, h6, h7, h8⟩ := h
  obtain rfl : z = 0 := Subsingleton.elim _ _
  rw [total, sum_tiles, sum_nine]
  unfold kernelRun0_A.sl.r_40 kernelRun0_A.sl.r_38 kernelRun0_A.sl.r_36 kernelRun0_A.sl.r_34 kernelRun0_A.sl.r_32 kernelRun0_A.sl.r_30 kernelRun0_A.sl.r_28 kernelRun0_A.sl.r_26
  pointwise [k0_pay99, k0_pay96, k0_pay92, k0_pay90, k0_pay86, k0_pay82, k0_pay81, k0_pay79, k0_pay75, k0_pay71, k0_pay69, k0_pay65, k0_pay61, k0_pay59, k0_pay55, k0_pay53]
  simp only [h0, h1, h2, h3, h4, h5, h6, h7, h8, max_hi, max_hi_parts, Ideal.ofBits_zero_f32, zero_add]
  rfl

/-- What the third sweep reads from the first buffer: the exponentials, tile by tile. -/
theorem second_lo (r : Fin 256) :
    (∀ j, kernelRun0_A.sl.v365 (F := Ideal) c arg5 harg5 arg6 harg6 arg8 harg8 arg11 x2 x3 x5 (ix2 r j) = weight x2 x3 x5 lo r (tile 0 j))
      ∧ (∀ j, kernelRun0_A.sl.v377 (F := Ideal) c arg5 harg5 arg6 harg6 arg8 harg8 arg11 x2 x3 x5 (ix2 r j) = weight x2 x3 x5 lo r (tile 1 j))
      ∧ (∀ j, kernelRun0_A.sl.v388 (F := Ideal) c arg5 harg5 arg6 harg6 arg8 harg8 arg11 x2 x3 x5 (ix2 r j) = weight x2 x3 x5 lo r (tile 2 j))
      ∧ (∀ j, kernelRun0_A.sl.v399 (F := Ideal) c arg5 harg5 arg6 harg6 arg8 harg8 arg11 x2 x3 x5 (ix2 r j) = weight x2 x3 x5 lo r (tile 3 j))
      ∧ (∀ j, kernelRun0_A.sl.v410 (F := Ideal) c arg5 harg5 arg6 harg6 arg8 harg8 arg11 x2 x3 x5 (ix2 r j) = weight x2 x3 x5 lo r (tile 4 j))
      ∧ (∀ j, kernelRun0_A.sl.v421 (F := Ideal) c arg5 harg5 arg6 harg6 arg8 harg8 arg11 x2 x3 x5 (ix2 r j) = weight x2 x3 x5 lo r (tile 5 j))
      ∧ (∀ j, kernelRun0_A.sl.v432 (F := Ideal) c arg5 harg5 arg6 harg6 arg8 harg8 arg11 x2 x3 x5 (ix2 r j) = weight x2 x3 x5 lo r (tile 6 j))
      ∧ (∀ j, kernelRun0_A.sl.v443 (F := Ideal) c arg5 harg5 arg6 harg6 arg8 harg8 arg11 x2 x3 x5 (ix2 r j) = weight x2 x3 x5 lo r (tile 7 j))
      ∧ (∀ j, kernelRun0_A.sl.v454 (F := Ideal) c arg5 harg5 arg6 harg6 arg8 harg8 arg11 x2 x3 x5 (ix2 r j) = weight x2 x3 x5 lo r (tile 8 j)) := by
  refine ⟨?_, ?_, ?_, ?_, ?_, ?_, ?_, ?_, ?_⟩
  all_goals
    intro j
    simp only [kernelRun0_A.sl.v365, kernelRun0_A.sl.v377, kernelRun0_A.sl.v388, kernelRun0_A.sl.v399, kernelRun0_A.sl.v410, kernelRun0_A.sl.v421, kernelRun0_A.sl.v432, kernelRun0_A.sl.v443, kernelRun0_A.sl.v454, View.readCov_eq_canon', weights_lo]
    exact congrArg₂ _ (Fin.ext (tile_val _ _ (ix2 r j)).1) (Fin.ext (tile_val _ _ (ix2 r j)).2)

/-- What the third sweep reads from the second buffer: the exponentials, tile by tile. -/
theorem second_hi (r : Fin 256) :
    (∀ j, kernelRun0_A.sl.v368 (F := Ideal) c arg5 harg5 arg6 harg6 arg8 harg8 arg12 x2 x3 x5 (ix2 r j) = weight x2 x3 x5 hi r (tile 0 j))
      ∧ (∀ j, kernelRun0_A.sl.v380 (F := Ideal) c arg5 harg5 arg6 harg6 arg8 harg8 arg12 x2 x3 x5 (ix2 r j) = weight x2 x3 x5 hi r (tile 1 j))
      ∧ (∀ j, kernelRun0_A.sl.v391 (F := Ideal) c arg5 harg5 arg6 harg6 arg8 harg8 arg12 x2 x3 x5 (ix2 r j) = weight x2 x3 x5 hi r (tile 2 j))
      ∧ (∀ j, kernelRun0_A.sl.v402 (F := Ideal) c arg5 harg5 arg6 harg6 arg8 harg8 arg12 x2 x3 x5 (ix2 r j) = weight x2 x3 x5 hi r (tile 3 j))
      ∧ (∀ j, kernelRun0_A.sl.v413 (F := Ideal) c arg5 harg5 arg6 harg6 arg8 harg8 arg12 x2 x3 x5 (ix2 r j) = weight x2 x3 x5 hi r (tile 4 j))
      ∧ (∀ j, kernelRun0_A.sl.v424 (F := Ideal) c arg5 harg5 arg6 harg6 arg8 harg8 arg12 x2 x3 x5 (ix2 r j) = weight x2 x3 x5 hi r (tile 5 j))
      ∧ (∀ j, kernelRun0_A.sl.v435 (F := Ideal) c arg5 harg5 arg6 harg6 arg8 harg8 arg12 x2 x3 x5 (ix2 r j) = weight x2 x3 x5 hi r (tile 6 j))
      ∧ (∀ j, kernelRun0_A.sl.v446 (F := Ideal) c arg5 harg5 arg6 harg6 arg8 harg8 arg12 x2 x3 x5 (ix2 r j) = weight x2 x3 x5 hi r (tile 7 j))
      ∧ (∀ j, kernelRun0_A.sl.v457 (F := Ideal) c arg5 harg5 arg6 harg6 arg8 harg8 arg12 x2 x3 x5 (ix2 r j) = weight x2 x3 x5 hi r (tile 8 j)) := by
  refine ⟨?_, ?_, ?_, ?_, ?_, ?_, ?_, ?_, ?_⟩
  all_goals
    intro j
    simp only [kernelRun0_A.sl.v368, kernelRun0_A.sl.v380, kernelRun0_A.sl.v391, kernelRun0_A.sl.v402, kernelRun0_A.sl.v413, kernelRun0_A.sl.v424, kernelRun0_A.sl.v435, kernelRun0_A.sl.v446, kernelRun0_A.sl.v457, View.readCov_eq_canon', weights_hi]
    exact congrArg₂ _ (Fin.ext (tile_val _ _ (ix2 r j)).1) (Fin.ext (tile_val _ _ (ix2 r j)).2)

/-- The weight of the second map. -/
theorem lam_eq (y z : Fin 1) : kernelRun0_A.sl.r (F := Ideal) c arg3 harg3 x0 (ix2 y z) = lam x0 := by
  obtain rfl : y = 0 := Subsingleton.elim _ _
  obtain rfl : z = 0 := Subsingleton.elim _ _
  unfold kernelRun0_A.sl.r
  simp only [View.readAt_eq_ld, harg3.read_unread]
  pointwise [k0_pay2]
  rfl

/-- The values a tile of keys meets: the first tile is the context's, the others are the sequence's own. -/
theorem value_tiles (vc : S1x512x128.Idx → EReal) (vo : S4096x128.Idx → EReal) :
    (∀ j e, joined vc vo (tile 0 j) e = vc (ix3 0 j e))
      ∧ (∀ j e, joined vc vo (tile 1 j) e = vo (ix2 ⟨j.1, by omega⟩ e))
      ∧ (∀ j e, joined vc vo (tile 2 j) e = vo (ix2 ⟨512 + j.1, by omega⟩ e))
      ∧ (∀ j e, joined vc vo (tile 3 j) e = vo (ix2 ⟨1024 + j.1, by omega⟩ e))
      ∧ (∀ j e, joined vc vo (tile 4 j) e = vo (ix2 ⟨1536 + j.1, by omega⟩ e))
      ∧ (∀ j e, joined vc vo (tile 5 j) e = vo (ix2 ⟨2048 + j.1, by omega⟩ e))
      ∧ (∀ j e, joined vc vo (tile 6 j) e = vo (ix2 ⟨2560 + j.1, by omega⟩ e))
      ∧ (∀ j e, joined vc vo (tile 7 j) e = vo (ix2 ⟨3072 + j.1, by omega⟩ e))
      ∧ (∀ j e, joined vc vo (tile 8 j) e = vo (ix2 ⟨3584 + j.1, by omega⟩ e)) := by
  refine ⟨fun j e => joined_ctx vc vo _ e j (by simp [tile]), ?_, ?_, ?_, ?_, ?_, ?_, ?_, ?_⟩
  all_goals exact fun j e => joined_own vc vo _ e _ (by simp [tile] <;> omega)

/-- The head before its norm, from the third sweep, and the norm. -/
theorem head_eq (r : Fin 256) (e : Fin 128) :
    kernelRun0_A.sl.r_46 (F := Ideal) c arg3 harg3 arg5 harg5 arg6 harg6 arg7 harg7 arg8 harg8 arg9 harg9 arg11 arg12 x0 x2 x3 x4 x5 x6 (ix2 r e)
      = mixed x0 x2 x3 x4 x5 x6 r e * Ideal.rsqrt (Ideal.div (∑ d, mixed x0 x2 x3 x4 x5 x6 r d * mixed x0 x2 x3 x4 x5 x6 r d) (Ideal.ofBits .f32 0x43000000#32) + Ideal.ofBits .f32 0x3727C5AC#32) := by
  have h := second_lo c arg5 harg5 arg6 harg6 arg8 harg8 arg11 x2 x3 x5 r
  have h' := second_hi c arg5 harg5 arg6 harg6 arg8 harg8 arg12 x2 x3 x5 r
  obtain ⟨h0, h1, h2, h3, h4, h5, h6, h7, h8⟩ := h
  obtain ⟨g0, g1, g2, g3, g4, g5, g6, g7, g8⟩ := h'
  unfold kernelRun0_A.sl.r_46 kernelRun0_A.sl.r_45 kernelRun0_A.sl.r_44 kernelRun0_A.sl.r_43 kernelRun0_A.sl.r_42
  simp only [View.readAt_eq_ld, harg7.read_unread, harg9.read_unread]
  pointwise [k0_pay105, k0_pay104, k0_pay103, k0_pay102, k0_pay101]
  simp only [h0, h1, h2, h3, h4, h5, h6, h7, h8, g0, g1, g2, g3, g4, g5, g6, g7, g8, total_lo, total_hi, lam_eq, Ideal.ofBits_zero_f32, zero_add]
  obtain ⟨v0, v1, v2, v3, v4, v5, v6, v7, v8⟩ := value_tiles x4 x6
  simp only [mixed, diff, sum_tiles, sum_nine, v0, v1, v2, v3, v4, v5, v6, v7, v8]

/-- The block the attention kernel writes at a point, from the blocks it reads there. -/
theorem out_eq (i : grid0.Coords) (arg4 : Memref sig .tc .vmem S1x128 .f32) (harg4 : arg4.IsWhole) (arg10 : Memref sig .tc .vmem S256x128 .bf16) (harg10 : arg10.IsWhole)
    (harg11 : arg11.IsWhole) (harg12 : arg12.IsWhole) (x1 : Vec Ideal S1x128 .f32) (r : Fin 256) (e : Fin 128) :
    out0_A_7 (F := Ideal) c i arg3 harg3 arg4 harg4 arg5 harg5 arg6 harg6 arg7 harg7 arg8 harg8 arg9 harg9 arg10 harg10 arg11 harg11 arg12 harg12 x0 x1 x2 x3 x4 x5 x6 (ix2 r e)
      = head x0 x1 x2 x3 x4 x5 x6 r e := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 x0 x1 x2 x3 x4 x5 x6)]
  unfold kernelRun0_A
  dsimp only
  rw [View.canon_unit_zero zeros2]
  simp only [View.readAt_eq_ld, harg4.read_unread]
  pointwise [k0_pay1]
  rw [head_eq, head]

end Cert.Attn

end
-- ==== Proof.AttnArray.lean ====
/- The array the attention kernel leaves: what the host hands to the call, the blocks read at a point as parts of the
   arguments, and the written blocks put together. -/
module

public import proofs.«01_k».proof.Proof.AttnBlock
public import Idealize.ShloMosaic.Lib.StableHlo.Run

@[expose] public section

set_option maxRecDepth 16384

noncomputable section

namespace Cert.Attn

open Idealize.ShloMosaic Idealize.ShloMosaic.TcCoe Idealize.ShloMosaic.Tactic Idealize.ShloMosaic.StableHlo
open Cert.KernelIdeal Cert.KernelIdeal.Gen

variable (m : (ℓ : Loc nD τ sig) → Buf (Elt Ideal) ℓ) (c : Dev nD)

/-- The context's keys as the call finds them: the heads side by side. -/
theorem keys_eq : V m c main_v0 = shapeCast S8x512x1024 (m ((c : Thread nD τ).loc main_arg6)) shapeCasts_S8x512x8x128_S8x512x1024 := by
  show StableHlo.after hostOps0 _ (Proc.devRef .tc main_v0) = _
  after_results
  rfl

/-- The context's values as the call finds them. -/
theorem values_eq : V m c main_v1 = shapeCast S8x512x1024 (m ((c : Thread nD τ).loc main_arg7)) shapeCasts_S8x512x8x128_S8x512x1024 := by
  show StableHlo.after hostOps0 _ (Proc.devRef .tc main_v1) = _
  after_results
  rfl

/-- The norm's weights as one row. -/
theorem norm_eq : V m c main_v7 = shapeCast S1x128 (m ((c : Thread nD τ).loc main_arg5)) shapeCasts_S128_S1x128 := by
  show StableHlo.after hostOps0 _ (Proc.devRef .tc main_v7) = _
  after_results
  rfl

/-- The four vectors of the second map's weight, one under the other. -/
theorem vecs_eq : V m c main_v6 = concatenate S4x64 0
    [⟨S1x64, broadcastInDim S1x64 ![1] bcast_S64_S1x64_1 (m ((c : Thread nD τ).loc main_arg1))⟩, ⟨S1x64, broadcastInDim S1x64 ![1] bcast_S64_S1x64_1 (m ((c : Thread nD τ).loc main_arg2))⟩,
      ⟨S1x64, broadcastInDim S1x64 ![1] bcast_S64_S1x64_1 (m ((c : Thread nD τ).loc main_arg3))⟩, ⟨S1x64, broadcastInDim S1x64 ![1] bcast_S64_S1x64_1 (m ((c : Thread nD τ).loc main_arg4))⟩]
    concatenates_S1x64_S1x64_S1x64_S1x64_S4x64_d0 := by
  show StableHlo.after hostOps0 _ (Proc.devRef .tc main_v6) = _
  after_results
  rfl

theorem idx_q : ∀ t : Fin cfg0.N, win0_2.index t (0 : Fin 2) = t.1 / 128 * 16 + t.1 % 16 ∧ win0_2.index t (1 : Fin 2) = t.1 / 16 % 8 :=
  (by decide +kernel : ∀ t : Fin grid0.N, _)
theorem idx_out : ∀ t : Fin cfg0.N, win0_7.index t (0 : Fin 2) = t.1 / 128 * 16 + t.1 % 16 ∧ win0_7.index t (1 : Fin 2) = t.1 / 16 % 8 :=
  (by decide +kernel : ∀ t : Fin grid0.N, _)
theorem idx_k : ∀ t : Fin cfg0.N, win0_5.index t (0 : Fin 2) = t.1 / 128 ∧ win0_5.index t (1 : Fin 2) = 8 + t.1 / 16 % 8 :=
  (by decide +kernel : ∀ t : Fin grid0.N, _)
theorem idx_v : ∀ t : Fin cfg0.N, win0_6.index t (0 : Fin 2) = t.1 / 128 ∧ win0_6.index t (1 : Fin 2) = 16 + t.1 / 16 % 8 :=
  (by decide +kernel : ∀ t : Fin grid0.N, _)
theorem idx_kc : ∀ t : Fin cfg0.N, win0_3.index t (0 : Fin 3) = t.1 / 128 ∧ win0_3.index t (1 : Fin 3) = 0 ∧ win0_3.index t (2 : Fin 3) = t.1 / 16 % 8 :=
  (by decide +kernel : ∀ t : Fin grid0.N, _)
theorem idx_vc : ∀ t : Fin cfg0.N, win0_4.index t (0 : Fin 3) = t.1 / 128 ∧ win0_4.index t (1 : Fin 3) = 0 ∧ win0_4.index t (2 : Fin 3) = t.1 / 16 % 8 :=
  (by decide +kernel : ∀ t : Fin grid0.N, _)
theorem idx_lam : ∀ t : Fin cfg0.N, win0_0.index t (0 : Fin 2) = 0 ∧ win0_0.index t (1 : Fin 2) = 0 := (by decide +kernel : ∀ t : Fin grid0.N, _)
theorem idx_norm : ∀ t : Fin cfg0.N, win0_1.index t (0 : Fin 2) = 0 ∧ win0_1.index t (1 : Fin 2) = 0 := (by decide +kernel : ∀ t : Fin grid0.N, _)

section Blocks

variable (p : S32768x3072.Idx → EReal) (k : S8x512x8x128.Idx → EReal) (l1 k1 l2 k2 : S64.Idx → EReal) (g : S128.Idx → EReal) (b h : Fin 8) (i : Fin 16)

/-- Block `i` of the queries of head `h` in sequence `b`. -/
def queries : S256x128.Idx → EReal := fun j => p (ix2 ⟨(b.1 * 16 + i.1) * 256 + (j 0).1, by have := (j 0).isLt; simp at this; omega⟩ ⟨h.1 * 128 + (j 1).1, by have := (j 1).isLt; simp at this; omega⟩)

/-- The sequence's own keys of a head. -/
def ownKeys : S4096x128.Idx → EReal := fun j => p (ix2 ⟨b.1 * 4096 + (j 0).1, by have := (j 0).isLt; simp at this; omega⟩ ⟨1024 + h.1 * 128 + (j 1).1, by have := (j 1).isLt; simp at this; omega⟩)

/-- The sequence's own values of a head. -/
def ownValues : S4096x128.Idx → EReal := fun j => p (ix2 ⟨b.1 * 4096 + (j 0).1, by have := (j 0).isLt; simp at this; omega⟩ ⟨2048 + h.1 * 128 + (j 1).1, by have := (j 1).isLt; simp at this; omega⟩)

/-- The context's keys, or its values, of a head. -/
def context : S1x512x128.Idx → EReal := fun j => k (ix4 b (j 1) h (j 2))

/-- The four vectors, one under the other. -/
def vectors : S4x64.Idx → EReal := fun j => (![l1, k1, l2, k2] (j 0)) (ix1 (j 1))

/-- The norm's weights as one row. -/
def norms : S1x128.Idx → EReal := fun j => g (ix1 (j 1))

end Blocks

/-- The attention's result as one function of its arguments. -/
def attention (p : S32768x3072.Idx → EReal) (l1 k1 l2 k2 : S64.Idx → EReal) (g : S128.Idx → EReal) (kc vc : S8x512x8x128.Idx → EReal) (y : S32768x1024.Idx) : EReal :=
  have h0 : (y 0).1 < 32768 := (y 0).isLt
  have h1 : (y 1).1 < 1024 := (y 1).isLt
  let b : Fin 8 := ⟨(y 0).1 / 4096, by omega⟩
  let h : Fin 8 := ⟨(y 1).1 / 128, by omega⟩
  head (vectors l1 k1 l2 k2) (norms g) (queries p b h ⟨(y 0).1 / 256 % 16, by omega⟩) (context kc b h) (context vc b h) (ownKeys p b h) (ownValues p b h)
    ⟨(y 0).1 % 256, by omega⟩ ⟨(y 1).1 % 128, by omega⟩

/-- The sequence a point works on. -/
def seqAt (t : Fin cfg0.N) : Fin 8 := ⟨t.1 / 128, by have := t.isLt; have h : cfg0.N = 1024 := rfl; omega⟩
/-- The head a point works on. -/
def headAt (t : Fin cfg0.N) : Fin 8 := ⟨t.1 / 16 % 8, by omega⟩
/-- The block of queries a point works on. -/
def partAt (t : Fin cfg0.N) : Fin 16 := ⟨t.1 % 16, by omega⟩

theorem block_queries (t : Fin cfg0.N) : iblk m c 2 t = queries (m ((c : Thread nD τ).loc main_arg0)) (seqAt t) (headAt t) (partAt t) := by
  obtain ⟨e0, e1⟩ := idx_q t
  funext j
  show V m c main_arg0 (((cfg0.win 2).blk t).view.emb j) = _
  rw [V_main_arg0]
  refine congrArg (m ((c : Thread nD τ).loc main_arg0)) (funext fun a => Fin.ext ?_)
  match a with
  | ⟨0, _⟩ => show win0_2.index t (0 : Fin 2) * 256 + 1 * (j 0).val = _; rw [e0, Nat.one_mul]; rfl
  | ⟨1, _⟩ =>
    show win0_2.index t (1 : Fin 2) * 128 + 1 * (j 1).val = _
    rw [e1, Nat.one_mul]
    rfl

theorem block_keys (t : Fin cfg0.N) : iblk m c 5 t = ownKeys (m ((c : Thread nD τ).loc main_arg0)) (seqAt t) (headAt t) := by
  obtain ⟨e0, e1⟩ := idx_k t
  funext j
  show V m c main_arg0 (((cfg0.win 5).blk t).view.emb j) = _
  rw [V_main_arg0]
  refine congrArg (m ((c : Thread nD τ).loc main_arg0)) (funext fun a => Fin.ext ?_)
  match a with
  | ⟨0, _⟩ => show win0_5.index t (0 : Fin 2) * 4096 + 1 * (j 0).val = _; rw [e0, Nat.one_mul]; rfl
  | ⟨1, _⟩ =>
    show win0_5.index t (1 : Fin 2) * 128 + 1 * (j 1).val = _
    rw [e1, Nat.one_mul]
    show _ = 1024 + t.1 / 16 % 8 * 128 + (j 1).val; omega

theorem block_values (t : Fin cfg0.N) : iblk m c 6 t = ownValues (m ((c : Thread nD τ).loc main_arg0)) (seqAt t) (headAt t) := by
  obtain ⟨e0, e1⟩ := idx_v t
  funext j
  show V m c main_arg0 (((cfg0.win 6).blk t).view.emb j) = _
  rw [V_main_arg0]
  refine congrArg (m ((c : Thread nD τ).loc main_arg0)) (funext fun a => Fin.ext ?_)
  match a with
  | ⟨0, _⟩ => show win0_6.index t (0 : Fin 2) * 4096 + 1 * (j 0).val = _; rw [e0, Nat.one_mul]; rfl
  | ⟨1, _⟩ =>
    show win0_6.index t (1 : Fin 2) * 128 + 1 * (j 1).val = _
    rw [e1, Nat.one_mul]
    show _ = 2048 + t.1 / 16 % 8 * 128 + (j 1).val; omega

/-- The heads side by side: where an element of a head lies. -/
theorem cast_heads (x : S8x512x8x128.Idx → EReal) (b : Fin 8) (n : Fin 512) (h : Fin 8) (d : Fin 128) :
    shapeCast (α := EReal) S8x512x1024 x shapeCasts_S8x512x8x128_S8x512x1024 (ix3 b n ⟨h.1 * 128 + d.1, by omega⟩) = x (ix4 b n h d) := by
  pointwise []

theorem block_ctx_keys (t : Fin cfg0.N) : iblk m c 3 t = context (m ((c : Thread nD τ).loc main_arg6)) (seqAt t) (headAt t) := by
  obtain ⟨e0, e1, e2⟩ := idx_kc t
  funext j
  show V m c main_v0 (((cfg0.win 3).blk t).view.emb j) = _
  have e : ((cfg0.win 3).blk t).view.emb j = (ix3 (seqAt t) (j 1) ⟨(headAt t).1 * 128 + (j 2).1, by have := (j 2).isLt; simp at this; omega⟩ : S8x512x1024.Idx) := by
    funext a; apply Fin.ext
    match a with
    | ⟨0, _⟩ =>
      have h : (j 0).1 = 0 := Nat.lt_one_iff.mp (show (j 0).1 < 1 from (j 0).isLt)
      show win0_3.index t (0 : Fin 3) * 1 + 1 * (j 0).val = _
      rw [e0, h, Nat.mul_zero, Nat.add_zero, Nat.mul_one]; rfl
    | ⟨1, _⟩ => show win0_3.index t (1 : Fin 3) * 512 + 1 * (j 1).val = _; rw [e1, Nat.one_mul, Nat.zero_mul, Nat.zero_add]; rfl
    | ⟨2, _⟩ => show win0_3.index t (2 : Fin 3) * 128 + 1 * (j 2).val = _; rw [e2, Nat.one_mul]; rfl
  rw [e, keys_eq]
  exact cast_heads _ _ _ _ _

theorem block_ctx_values (t : Fin cfg0.N) : iblk m c 4 t = context (m ((c : Thread nD τ).loc main_arg7)) (seqAt t) (headAt t) := by
  obtain ⟨e0, e1, e2⟩ := idx_vc t
  funext j
  show V m c main_v1 (((cfg0.win 4).blk t).view.emb j) = _
  have e : ((cfg0.win 4).blk t).view.emb j = (ix3 (seqAt t) (j 1) ⟨(headAt t).1 * 128 + (j 2).1, by have := (j 2).isLt; simp at this; omega⟩ : S8x512x1024.Idx) := by
    funext a; apply Fin.ext
    match a with
    | ⟨0, _⟩ =>
      have h : (j 0).1 = 0 := Nat.lt_one_iff.mp (show (j 0).1 < 1 from (j 0).isLt)
      show win0_4.index t (0 : Fin 3) * 1 + 1 * (j 0).val = _
      rw [e0, h, Nat.mul_zero, Nat.add_zero, Nat.mul_one]; rfl
    | ⟨1, _⟩ => show win0_4.index t (1 : Fin 3) * 512 + 1 * (j 1).val = _; rw [e1, Nat.one_mul, Nat.zero_mul, Nat.zero_add]; rfl
    | ⟨2, _⟩ => show win0_4.index t (2 : Fin 3) * 128 + 1 * (j 2).val = _; rw [e2, Nat.one_mul]; rfl
  rw [e, values_eq]
  exact cast_heads _ _ _ _ _

theorem block_norms (t : Fin cfg0.N) : iblk m c 1 t = norms (m ((c : Thread nD τ).loc main_arg5)) := by
  obtain ⟨e0, e1⟩ := idx_norm t
  funext j
  show V m c main_v7 (((cfg0.win 1).blk t).view.emb j) = _
  have e : ((cfg0.win 1).blk t).view.emb j = j := by
    funext a; apply Fin.ext
    match a with
    | ⟨0, _⟩ => show win0_1.index t (0 : Fin 2) * 1 + 1 * (j 0).val = _; rw [e0, Nat.one_mul, Nat.zero_mul, Nat.zero_add]; rfl
    | ⟨1, _⟩ => show win0_1.index t (1 : Fin 2) * 128 + 1 * (j 1).val = _; rw [e1, Nat.one_mul, Nat.zero_mul, Nat.zero_add]; rfl
  rw [e, norm_eq]
  idx_vars j
  pointwise [norms]

theorem block_vectors (t : Fin cfg0.N) : iblk m c 0 t = vectors (m ((c : Thread nD τ).loc main_arg1)) (m ((c : Thread nD τ).loc main_arg2)) (m ((c : Thread nD τ).loc main_arg3)) (m ((c : Thread nD τ).loc main_arg4)) := by
  obtain ⟨e0, e1⟩ := idx_lam t
  funext j
  show V m c main_v6 (((cfg0.win 0).blk t).view.emb j) = _
  have e : ((cfg0.win 0).blk t).view.emb j = j := by
    funext a; apply Fin.ext
    match a with
    | ⟨0, _⟩ => show win0_0.index t (0 : Fin 2) * 4 + 1 * (j 0).val = _; rw [e0, Nat.one_mul, Nat.zero_mul, Nat.zero_add]; rfl
    | ⟨1, _⟩ => show win0_0.index t (1 : Fin 2) * 64 + 1 * (j 1).val = _; rw [e1, Nat.one_mul, Nat.zero_mul, Nat.zero_add]; rfl
  rw [e, vecs_eq]
  idx_vars j
  fin_cases j0
  all_goals pointwise [vectors]

/-- A block element of the output, in the output. -/
theorem emb_out (t : Fin cfg0.N) (j : S256x128.Idx) : ((cfg0.win 7).blk t).view.emb j
    = (ix2 ⟨(t.1 / 128 * 16 + t.1 % 16) * 256 + (j 0).1, by have := t.isLt; have h : cfg0.N = 1024 := rfl; have := (j 0).isLt; simp at this; omega⟩ ⟨t.1 / 16 % 8 * 128 + (j 1).1, by have := (j 1).isLt; simp at this; omega⟩ : S32768x1024.Idx) := by
  obtain ⟨e0, e1⟩ := idx_out t
  funext a; apply Fin.ext
  match a with
  | ⟨0, _⟩ => show win0_7.index t (0 : Fin 2) * 256 + 1 * (j 0).val = _; rw [e0, Nat.one_mul]; rfl
  | ⟨1, _⟩ => show win0_7.index t (1 : Fin 2) * 128 + 1 * (j 1).val = _; rw [e1, Nat.one_mul]; rfl

theorem flushed_eq (t : Fin cfg0.N) : (dats m 0 c).flushed 7 t = ((cfg0.win 7).blk t).view.read (Elt Ideal) (attention (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  have cut : ∀ X : Vec Ideal S256x128 .bf16, (cfg0.win 7).cut (grid0.coords t) X = X := fun X => rfl
  have hN : cfg0.N = 1024 := rfl
  have ht := t.isLt
  rw [Value.flushed7_A, cut, block_queries, block_keys, block_values, block_ctx_keys, block_ctx_values, block_norms, block_vectors]
  funext j
  show _ = attention (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 7).blk t).view.emb j)
  rw [emb_out]
  idx_vars j
  rw [out_eq]
  unfold attention
  dsimp only
  have hb : (⟨((t.1 / 128 * 16 + t.1 % 16) * 256 + j0.1) / 4096, by omega⟩ : Fin 8) = seqAt t := Fin.ext (by simp only [seqAt]; omega)
  have hh : (⟨(t.1 / 16 % 8 * 128 + j1.1) / 128, by omega⟩ : Fin 8) = headAt t := Fin.ext (by simp only [headAt]; omega)
  have hi : (⟨((t.1 / 128 * 16 + t.1 % 16) * 256 + j0.1) / 256 % 16, by omega⟩ : Fin 16) = partAt t := Fin.ext (by simp only [partAt]; omega)
  have hr : (⟨((t.1 / 128 * 16 + t.1 % 16) * 256 + j0.1) % 256, by omega⟩ : Fin 256) = j0 := Fin.ext (by simp only []; omega)
  have he : (⟨(t.1 / 16 % 8 * 128 + j1.1) % 128, by omega⟩ : Fin 128) = j1 := Fin.ext (by simp only []; omega)
  show _ = head _ _ (queries _ (⟨((t.1 / 128 * 16 + t.1 % 16) * 256 + j0.1) / 4096, _⟩ : Fin 8) (⟨(t.1 / 16 % 8 * 128 + j1.1) / 128, _⟩ : Fin 8) (⟨((t.1 / 128 * 16 + t.1 % 16) * 256 + j0.1) / 256 % 16, _⟩ : Fin 16))
    (context _ (⟨((t.1 / 128 * 16 + t.1 % 16) * 256 + j0.1) / 4096, _⟩ : Fin 8) (⟨(t.1 / 16 % 8 * 128 + j1.1) / 128, _⟩ : Fin 8)) (context _ (⟨((t.1 / 128 * 16 + t.1 % 16) * 256 + j0.1) / 4096, _⟩ : Fin 8) (⟨(t.1 / 16 % 8 * 128 + j1.1) / 128, _⟩ : Fin 8))
    (ownKeys _ (⟨((t.1 / 128 * 16 + t.1 % 16) * 256 + j0.1) / 4096, _⟩ : Fin 8) (⟨(t.1 / 16 % 8 * 128 + j1.1) / 128, _⟩ : Fin 8)) (ownValues _ (⟨((t.1 / 128 * 16 + t.1 % 16) * 256 + j0.1) / 4096, _⟩ : Fin 8) (⟨(t.1 / 16 % 8 * 128 + j1.1) / 128, _⟩ : Fin 8))
    (⟨((t.1 / 128 * 16 + t.1 % 16) * 256 + j0.1) % 256, _⟩ : Fin 256) (⟨(t.1 / 16 % 8 * 128 + j1.1) % 128, _⟩ : Fin 128)
  rw [hb, hh, hi, hr, he]

/-- Every element of the result is written at some point. -/
theorem covered (y : S32768x1024.Idx) : ∃ t : Fin cfg0.N, (cfg0.win 7).flush t = true ∧ y ∈ ((cfg0.win 7).blk t).view.set := by
  have h0 : (y 0).1 < 32768 := (y 0).isLt
  have h1 : (y 1).1 < 1024 := (y 1).isLt
  let t : Fin cfg0.N := ⟨(y 0).1 / 4096 * 128 + (y 1).1 / 128 * 16 + (y 0).1 / 256 % 16, by show _ < 1024; omega⟩
  refine ⟨t, flush0_7 _, ?_⟩
  have h := ((cfg0.win 7).blk t).view.emb_mem_set (ix2 ⟨(y 0).1 % 256, by omega⟩ ⟨(y 1).1 % 128, by omega⟩ : S256x128.Idx)
  rw [emb_out] at h
  refine (congrArg (· ∈ ((cfg0.win 7).blk t).view.set) (funext fun a => Fin.ext ?_)).mp h
  match a with
  | ⟨0, _⟩ => show (t.1 / 128 * 16 + t.1 % 16) * 256 + (y 0).1 % 256 = (y 0).1; simp only [t]; omega
  | ⟨1, _⟩ => show t.1 / 16 % 8 * 128 + (y 1).1 % 128 = (y 1).1; simp only [t]; omega

/-- The array the attention kernel leaves. -/
theorem array_eq : (dats m 0 c).arrAt 7 cfg0.N = attention (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 7 _ (fun t _ => flushed_eq m c t) covered

end Cert.Attn

end
-- ==== Proof.AttnRef.lean ====
/- The attention's reference read at an element: the sums over the head's lanes, over the keys, and the norm. -/
module

public import proofs.«01_k».proof.Proof.Gen.ReferenceIdeal.Read
public import proofs.«01_k».proof.Proof.AttnArray

@[expose] public section

set_option maxRecDepth 16384

noncomputable section

namespace Cert.Attn

open Idealize.ShloMosaic Idealize.ShloMosaic.TcCoe Idealize.ShloMosaic.Tactic
open Cert.ReferenceIdeal Cert.ReferenceIdeal.Gen Cert.ReferenceIdeal.Read

variable (p : S32768x3072.Idx → EReal) (l1 k1 l2 k2 : S64.Idx → EReal) (g : S128.Idx → EReal) (kc vc : S8x512x8x128.Idx → EReal)

/-- A query's element. -/
theorem ref_query (b : Fin 8) (s : Fin 4096) (h : Fin 8) (f : Fin 2) (d : Fin 64) :
    val_main_v4 (F := Ideal) p (ix5 b s h f d) = p (ix2 ⟨b.1 * 4096 + s.1, by omega⟩ ⟨h.1 * 128 + f.1 * 64 + d.1, by omega⟩) := by
  pointwise [val_main_v4, val_main_v1, val_main_v0]

/-- A key's element: the context's, then the sequence's own. -/
theorem ref_key (b : Fin 8) (n : Fin 4608) (h : Fin 8) (d : Fin 128) :
    val_main_v6 (F := Ideal) p kc (ix4 b n h d) = joined (context kc b h) (ownKeys p b h) n d := by
  pointwise [val_main_v6, val_main_v5, val_main_v2, val_main_v0]
  unfold joined
  split
  · rfl
  · exact congrArg p (congrArg (ix2 _) (Fin.ext (by simp only [ix2]; show 1024 + (h.1 * 128 + d.1) = 1024 + h.1 * 128 + d.1; omega)))

/-- A value's element. -/
theorem ref_value (b : Fin 8) (n : Fin 4608) (h : Fin 8) (d : Fin 128) :
    val_main_v8 (F := Ideal) p vc (ix4 b n h d) = joined (context vc b h) (ownValues p b h) n d := by
  pointwise [val_main_v8, val_main_v7, val_main_v3, val_main_v0]
  unfold joined
  split
  · rfl
  · exact congrArg p (congrArg (ix2 _) (Fin.ext (by show 2048 + (h.1 * 128 + d.1) = 2048 + h.1 * 128 + d.1; omega)))

/-- The second map's weight. -/
theorem ref_lam (i : S_.Idx) : val_main_v16 (F := Ideal) l1 k1 l2 k2 i = lam (vectors l1 k1 l2 k2) := by
  pointwise [val_main_v16, val_main_v15, val_main_v14, val_main_v13, val_main_v12, val_main_v11, val_main_v10, val_main_v9, val_main_cst, val_main_cst_0, val_main_cst_1]
  rfl

/-- A row's largest score. -/
theorem ref_max (b : Fin 8) (h : Fin 8) (f : Fin 2) (s : Fin 4096) :
    val_main_v23 (F := Ideal) p kc (ix4 b h f s) = Finset.univ.sup fun n => val_main_v20 (F := Ideal) p kc (ix5 b h f s n) := by
  rw [val_main_v23_apply, val_main_v22_apply, val_main_cst_4_apply]
  unfold val_main_v21
  generalize val_main_v20 (F := Ideal) p kc = y
  have hr := Host.reduce_eq_fold_single (α := EReal) max y (val_main_cst_3 (F := Ideal)) reducesTo_S8x8x2x4096x4608_S8x8x2x4096_d4 (by decide) h_S_ (ix4 b h f s)
  refine (congrArg (max (Ideal.ofBits .f32 0xFF800000#32)) hr).trans ?_
  rw [negInf, max_eq_right bot_le]
  refine (fold_max (n := 4608) _).trans (congrArg (Finset.univ.sup ·) (funext fun n => congrArg y (funext fun a => Fin.ext ?_)))
  match a with
  | ⟨0, _⟩ => rfl
  | ⟨1, _⟩ => rfl
  | ⟨2, _⟩ => rfl
  | ⟨3, _⟩ => rfl
  | ⟨4, _⟩ => rfl

/-- A score before the scaling: one head's half of the lanes. -/
theorem ref_score (b : Fin 8) (h : Fin 8) (f : Fin 2) (s : Fin 4096) (n : Fin 4608) :
    val_main_v20 (F := Ideal) p kc (ix5 b h f s n)
      = (∑ d : Fin 64, p (ix2 ⟨b.1 * 4096 + s.1, by omega⟩ ⟨h.1 * 128 + f.1 * 64 + d.1, by omega⟩) * joined (context kc b h) (ownKeys p b h) n ⟨f.1 * 64 + d.1, by omega⟩)
        * Ideal.ofBits .f32 0x3E000000#32 := by
  rw [val_main_v20_apply, val_main_v18_apply, val_main_v19_apply, val_main_cst_2_apply]
  refine congrArg (· * Ideal.ofBits .f32 0x3E000000#32) (Finset.sum_congr rfl fun d _ => ?_)
  have e1 : lidx_main_v18 (ix5 b h f s n) d = ix5 b s h f d := funext fun a => match a with
    | ⟨0, _⟩ => rfl
    | ⟨1, _⟩ => rfl
    | ⟨2, _⟩ => rfl
    | ⟨3, _⟩ => rfl
    | ⟨4, _⟩ => rfl
  have e2 : idx_main_v17 (ridx_main_v18 (ix5 b h f s n) d) = ix4 b n h ⟨f.1 * 64 + d.1, by omega⟩ := funext fun a => Fin.ext <| by
    have hb := b.isLt; have hn := n.isLt; have hh := h.isLt; have hf := f.isLt; have hd := d.isLt
    match a with
    | ⟨0, _⟩ => show ((((b.1 * 4608 + n.1) * 8 + h.1) * 2 + f.1) * 64 + d.1) / 4718592 = b.1; omega
    | ⟨1, _⟩ => show ((((b.1 * 4608 + n.1) * 8 + h.1) * 2 + f.1) * 64 + d.1) / 1024 % 4608 = n.1; omega
    | ⟨2, _⟩ => show ((((b.1 * 4608 + n.1) * 8 + h.1) * 2 + f.1) * 64 + d.1) / 128 % 8 = h.1; omega
    | ⟨3, _⟩ => show ((((b.1 * 4608 + n.1) * 8 + h.1) * 2 + f.1) * 64 + d.1) % 128 = f.1 * 64 + d.1; omega
  rw [val_main_v17_apply, e1, e2, ref_query, ref_key]

/-- An exponential of a score under its row's largest. -/
def refExp (b h : Fin 8) (f : Fin 2) (s : Fin 4096) (n : Fin 4608) : EReal :=
  Ideal.exp (val_main_v20 (F := Ideal) p kc (ix5 b h f s n) - Finset.univ.sup fun n => val_main_v20 (F := Ideal) p kc (ix5 b h f s n))

theorem ref_exp (b h : Fin 8) (f : Fin 2) (s : Fin 4096) (n : Fin 4608) : val_main_v27 (F := Ideal) p kc (ix5 b h f s n) = refExp p kc b h f s n := by
  rw [val_main_v27_apply, val_main_v26_apply, val_main_v25_apply, val_main_v24_apply]
  have e : idx_main_v24 (idx_main_v25 (ix5 b h f s n)) = ix4 b h f s := funext fun a => match a with
    | ⟨0, _⟩ => rfl
    | ⟨1, _⟩ => rfl
    | ⟨2, _⟩ => rfl
    | ⟨3, _⟩ => rfl
  rw [e, ref_max]
  rfl

/-- One map's entry: the exponential over the row's sum. -/
theorem ref_map (b h : Fin 8) (f : Fin 2) (s : Fin 4096) (n : Fin 4608) :
    val_main_v31 (F := Ideal) p kc (ix5 b h f s n) = Ideal.div (refExp p kc b h f s n) (∑ n, refExp p kc b h f s n) := by
  rw [val_main_v31_apply, ref_exp, val_main_v30_apply, val_main_v29_apply, val_main_v28_apply, val_main_cst_5_apply]
  refine congrArg (Ideal.div _) ((congrArg₂ (· + ·) Ideal.ofBits_zero_f32 (Finset.sum_congr rfl fun k _ => ?_)).trans (zero_add _))
  rw [← ref_exp]
  exact congrArg (val_main_v27 (F := Ideal) p kc) (funext fun a => match a with
    | ⟨0, _⟩ => rfl
    | ⟨1, _⟩ => rfl
    | ⟨2, _⟩ => rfl
    | ⟨3, _⟩ => rfl
    | ⟨4, _⟩ => rfl)

/-- The difference of the two maps. -/
theorem ref_diff (b h : Fin 8) (s : Fin 4096) (n : Fin 4608) :
    val_main_v38 (F := Ideal) p l1 k1 l2 k2 kc (ix4 b h s n)
      = Ideal.div (refExp p kc b h 0 s n) (∑ n, refExp p kc b h 0 s n)
        - lam (vectors l1 k1 l2 k2) * Ideal.div (refExp p kc b h 1 s n) (∑ n, refExp p kc b h 1 s n) := by
  have hb := b.isLt; have hh := h.isLt; have hs := s.isLt; have hn := n.isLt
  have e1 : idx_main_v32 (idx_main_v33 (ix4 b h s n)) = ix5 b h 0 s n := funext fun a => Fin.ext <| by
    match a with
    | ⟨0, _⟩ => show (((b.1 * 8 + h.1) * 4096 + s.1) * 4608 + n.1) / 150994944 = b.1; omega
    | ⟨1, _⟩ => show (((b.1 * 8 + h.1) * 4096 + s.1) * 4608 + n.1) / 18874368 % 8 = h.1; omega
    | ⟨2, _⟩ => rfl
    | ⟨3, _⟩ => show (((b.1 * 8 + h.1) * 4096 + s.1) * 4608 + n.1) / 4608 % 4096 = s.1; omega
    | ⟨4, _⟩ => show (((b.1 * 8 + h.1) * 4096 + s.1) * 4608 + n.1) % 4608 = n.1; omega
  have e2 : idx_main_v34 (idx_main_v35 (ix4 b h s n)) = ix5 b h 1 s n := funext fun a => Fin.ext <| by
    match a with
    | ⟨0, _⟩ => show (((b.1 * 8 + h.1) * 4096 + s.1) * 4608 + n.1) / 150994944 = b.1; omega
    | ⟨1, _⟩ => show (((b.1 * 8 + h.1) * 4096 + s.1) * 4608 + n.1) / 18874368 % 8 = h.1; omega
    | ⟨2, _⟩ => rfl
    | ⟨3, _⟩ => show (((b.1 * 8 + h.1) * 4096 + s.1) * 4608 + n.1) / 4608 % 4096 = s.1; omega
    | ⟨4, _⟩ => show (((b.1 * 8 + h.1) * 4096 + s.1) * 4608 + n.1) % 4608 = n.1; omega
  rw [val_main_v38_apply, val_main_v37_apply, val_main_v36_apply, ref_lam, val_main_v35_apply, val_main_v34_apply, val_main_v33_apply, val_main_v32_apply, e1, e2, ref_map, ref_map]
  rfl

/-- The head's output before its norm, in the reference. -/
def refMixed (b h : Fin 8) (s : Fin 4096) (e : Fin 128) : EReal :=
  ∑ n, joined (context vc b h) (ownValues p b h) n e
    * (Ideal.div (refExp p kc b h 0 s n) (∑ n, refExp p kc b h 0 s n) - lam (vectors l1 k1 l2 k2) * Ideal.div (refExp p kc b h 1 s n) (∑ n, refExp p kc b h 1 s n))

/-- The reference's result at an element. -/
theorem ref_out (r : Fin 32768) (e : Fin 1024) :
    val_main_v57 (F := Ideal) p l1 k1 l2 k2 g kc vc (ix2 r e)
      = refMixed p l1 k1 l2 k2 kc vc ⟨r.1 / 4096, by omega⟩ ⟨e.1 / 128, by omega⟩ ⟨r.1 % 4096, by omega⟩ ⟨e.1 % 128, by omega⟩
        * Ideal.rsqrt (Ideal.div (∑ d, refMixed p l1 k1 l2 k2 kc vc ⟨r.1 / 4096, by omega⟩ ⟨e.1 / 128, by omega⟩ ⟨r.1 % 4096, by omega⟩ d * refMixed p l1 k1 l2 k2 kc vc ⟨r.1 / 4096, by omega⟩ ⟨e.1 / 128, by omega⟩ ⟨r.1 % 4096, by omega⟩ d) (Ideal.ofBits .f32 0x43000000#32) + Ideal.ofBits .f32 0x3727C5AC#32)
        * g (ix1 ⟨e.1 % 128, by omega⟩) * Ideal.ofBits .f32 0x3F24FD5C#32 := by
  pointwise [val_main_v57, val_main_v56, val_main_v55, val_main_v54, val_main_cst_9, val_main_v53, val_main_v52, val_main_v51, val_main_v50, val_main_v49, val_main_v48, val_main_v47, val_main_v46, val_main_cst_8, val_main_v45, val_main_v44, val_main_cst_7, val_main_v43, val_main_v42, val_main_cst_6, val_main_v41, val_main_v40, val_main_v39]
  simp only [ref_diff, ref_value, refMixed]

end Cert.Attn

end
-- ==== Proof.AttnEq.lean ====
/- The attention kernel's result is the reference's: with every score a real number, a row's sum is a positive number,
   and scaling the query or the score, dividing or multiplying by the reciprocal, are the same. -/
module

public import proofs.«01_k».proof.Proof.AttnRef

@[expose] public section

set_option maxRecDepth 16384

noncomputable section

namespace Cert.Attn

open Idealize.ShloMosaic

/-- A finite number. -/
def Fine (x : EReal) : Prop := ∃ r : ℝ, x = r

theorem Fine.mul {x y : EReal} : Fine x → Fine y → Fine (x * y) := fun ⟨a, ha⟩ ⟨b, hb⟩ => ⟨a * b, by rw [ha, hb, EReal.coe_mul]⟩

theorem Fine.sum {ι : Type*} (s : Finset ι) (f : ι → EReal) (h : ∀ i, Fine (f i)) : Fine (∑ i ∈ s, f i) := by
  choose g hg using h
  exact ⟨∑ i ∈ s, g i, by simp only [hg]; exact (map_sum (⟨⟨Real.toEReal, EReal.coe_zero⟩, EReal.coe_add⟩ : ℝ →+ EReal) g s).symm⟩

/-- The scale of the scores is an eighth. -/
theorem eighth : Ideal.ofBits .f32 0x3E000000#32 = ((1 / 8 : ℝ) : EReal) := by
  simp [Ideal.ofBits, Ideal.ieee]
  rw [← EReal.coe_mul]
  norm_num

/-- Scaling each query's element scales the score. -/
theorem scale_sum {n : ℕ} (a b : Fin n → EReal) : (∑ d, a d * Ideal.ofBits .f32 0x3E000000#32 * b d) = (∑ d, a d * b d) * Ideal.ofBits .f32 0x3E000000#32 := by
  rw [eighth]
  have h : ∀ s : Finset (Fin n), (∑ d ∈ s, a d * ((1 / 8 : ℝ) : EReal) * b d) = (∑ d ∈ s, a d * b d) * ((1 / 8 : ℝ) : EReal) := fun s => by
    induction s using Finset.cons_induction with
    | empty => simp
    | cons d s hd ih =>
      rw [Finset.sum_cons, Finset.sum_cons, ih, EReal.right_distrib_of_nonneg_of_ne_top (EReal.coe_nonneg.mpr (by norm_num)) (EReal.coe_ne_top _), mul_right_comm]
  exact h _

theorem exp_nonneg (x : EReal) : 0 ≤ Ideal.exp x := by
  induction x using EReal.rec with
  | bot => exact le_rfl
  | top => exact le_top
  | coe r => exact EReal.coe_nonneg.mpr (Real.exp_pos r).le

/-- A row of finite scores has a sum that is not zero: the largest one's exponential is one. -/
theorem row_sum_ne_zero {n : ℕ} (hn : 0 < n) (s : Fin n → EReal) (h : ∀ i, Fine (s i)) : (∑ i, Ideal.exp (s i - Finset.univ.sup s)) ≠ 0 := by
  obtain ⟨i, -, hi⟩ := Finset.exists_mem_eq_sup Finset.univ ⟨⟨0, hn⟩, Finset.mem_univ _⟩ s
  have one : Ideal.exp (s i - Finset.univ.sup s) = 1 := by
    obtain ⟨r, hr⟩ := h i
    rw [hi, hr, ← EReal.coe_sub, sub_self]
    exact congrArg Real.toEReal Real.exp_zero
  have le : (1 : EReal) ≤ ∑ i, Ideal.exp (s i - Finset.univ.sup s) :=
    one ▸ Finset.single_le_sum (f := fun i => Ideal.exp (s i - Finset.univ.sup s)) (fun j _ => exp_nonneg _) (Finset.mem_univ i)
  exact (lt_of_lt_of_le zero_lt_one le).ne'

/-- Multiplying by the reciprocal of a sum that is not zero is dividing by it. -/
theorem mul_div_one (w t : EReal) (ht : t ≠ 0) : w * Ideal.div (Ideal.ofBits .f32 0x3F800000#32) t = Ideal.div w t := by
  rw [Ideal.ofBits_one_f32, Ideal.div, Ideal.div, if_neg ht, if_neg ht, one_mul]

theorem mul_div_comm (w l t : EReal) (ht : t ≠ 0) : w * Ideal.div l t = l * Ideal.div w t := by
  rw [Ideal.div, Ideal.div, if_neg ht, if_neg ht, mul_left_comm]

open Cert.ReferenceIdeal Cert.ReferenceIdeal.Read

variable (p : S32768x3072.Idx → EReal) (l1 k1 l2 k2 : S64.Idx → EReal) (g : S128.Idx → EReal) (kc vc : S8x512x8x128.Idx → EReal)

/-- Every query and key is finite. -/
structure FineKeys : Prop where
  own : ∀ (r : Fin 32768) (e : Fin 2048), Fine (p (ix2 r ⟨e.1, by omega⟩))
  ctx : ∀ y, Fine (kc y)

/-- Which half of a head's lanes a map takes. -/
def half (f : Fin 2) (d : Fin 64) : Fin 128 := ⟨f.1 * 64 + d.1, by omega⟩

theorem half_lo : half 0 = lo := funext fun d => Fin.ext (by simp [half, lo])
theorem half_hi : half 1 = hi := funext fun d => Fin.ext (by simp [half, hi])

theorem fine_key (H : FineKeys p kc) (b h : Fin 8) (n : Fin 4608) (d : Fin 128) : Fine (joined (context kc b h) (ownKeys p b h) n d) := by
  unfold joined
  split
  · exact H.ctx _
  · exact (congrArg Fine (congrArg p (congrArg (ix2 _) (Fin.ext (by rfl))))).mp (H.own _ ⟨1024 + h.1 * 128 + d.1, by omega⟩)

/-- A row of the kernel's scores is the reference's. -/
theorem score_eq (b h : Fin 8) (i : Fin 16) (f : Fin 2) (r : Fin 256) (n : Fin 4608) :
    score (queries p b h i) (context kc b h) (ownKeys p b h) (half f) r n = val_main_v20 (F := Ideal) p kc (ix5 b h f ⟨i.1 * 256 + r.1, by omega⟩ n) := by
  rw [ref_score, score, scale_sum]
  refine congrArg (· * Ideal.ofBits .f32 0x3E000000#32) (Finset.sum_congr rfl fun d _ => congrArg₂ (· * ·) (congrArg p (congrArg₂ ix2 (Fin.ext ?_) (Fin.ext ?_))) rfl)
  · show (b.1 * 16 + i.1) * 256 + r.1 = b.1 * 4096 + (i.1 * 256 + r.1); omega
  · show h.1 * 128 + (f.1 * 64 + d.1) = h.1 * 128 + f.1 * 64 + d.1; omega

theorem fine_score (H : FineKeys p kc) (b h : Fin 8) (f : Fin 2) (s : Fin 4096) (n : Fin 4608) : Fine (val_main_v20 (F := Ideal) p kc (ix5 b h f s n)) := by
  rw [ref_score, eighth]
  exact Fine.mul (Fine.sum _ _ fun d => Fine.mul (H.own _ ⟨h.1 * 128 + f.1 * 64 + d.1, by omega⟩) (fine_key p kc H b h n _)) ⟨_, rfl⟩

theorem weight_eq (b h : Fin 8) (i : Fin 16) (f : Fin 2) (r : Fin 256) (n : Fin 4608) :
    weight (queries p b h i) (context kc b h) (ownKeys p b h) (half f) r n = refExp p kc b h f ⟨i.1 * 256 + r.1, by omega⟩ n := by
  simp only [weight, rowMax, score_eq, refExp]

theorem total_eq (b h : Fin 8) (i : Fin 16) (f : Fin 2) (r : Fin 256) :
    total (queries p b h i) (context kc b h) (ownKeys p b h) (half f) r = ∑ n, refExp p kc b h f ⟨i.1 * 256 + r.1, by omega⟩ n := by
  simp only [total, weight_eq]

theorem total_ne_zero (H : FineKeys p kc) (b h : Fin 8) (f : Fin 2) (s : Fin 4096) : (∑ n, refExp p kc b h f s n) ≠ 0 :=
  row_sum_ne_zero (by norm_num) _ fun n => fine_score p kc H b h f s n

theorem mixed_eq (H : FineKeys p kc) (b h : Fin 8) (i : Fin 16) (r : Fin 256) (e : Fin 128) :
    mixed (vectors l1 k1 l2 k2) (queries p b h i) (context kc b h) (context vc b h) (ownKeys p b h) (ownValues p b h) r e
      = refMixed p l1 k1 l2 k2 kc vc b h ⟨i.1 * 256 + r.1, by omega⟩ e := by
  unfold mixed refMixed
  refine Finset.sum_congr rfl fun n _ => ?_
  rw [diff, ← half_lo, ← half_hi, weight_eq, weight_eq, total_eq, total_eq, mul_div_one _ _ (total_ne_zero p kc H b h 0 _), mul_div_comm _ _ _ (total_ne_zero p kc H b h 1 _), mul_comm]

/-- The kernel's array is the reference's. -/
theorem attention_eq (H : FineKeys p kc) : attention p l1 k1 l2 k2 g kc vc = val_main_v57 (F := Ideal) p l1 k1 l2 k2 g kc vc := by
  funext y
  obtain ⟨r, e, rfl⟩ : ∃ (r : Fin 32768) (e : Fin 1024), y = ix2 r e := ⟨y 0, y 1, funext fun a => by match a with | ⟨0, _⟩ => rfl | ⟨1, _⟩ => rfl⟩
  rw [ref_out]
  unfold attention
  dsimp only
  rw [head]
  simp only [mixed_eq p l1 k1 l2 k2 kc vc H]
  have hs : (⟨r.1 / 256 % 16 * 256 + r.1 % 256, by omega⟩ : Fin 4096) = ⟨r.1 % 4096, by omega⟩ := Fin.ext (by show r.1 / 256 % 16 * 256 + r.1 % 256 = r.1 % 4096; omega)
  show refMixed p l1 k1 l2 k2 kc vc _ _ (⟨r.1 / 256 % 16 * 256 + r.1 % 256, _⟩ : Fin 4096) _
    * Ideal.rsqrt (Ideal.div (∑ d, refMixed p l1 k1 l2 k2 kc vc _ _ (⟨r.1 / 256 % 16 * 256 + r.1 % 256, _⟩ : Fin 4096) d * refMixed p l1 k1 l2 k2 kc vc _ _ (⟨r.1 / 256 % 16 * 256 + r.1 % 256, _⟩ : Fin 4096) d) _ + _) * _ * _ = _
  rw [hs]
  rfl

end Cert.Attn

end
-- ==== Proof.AttnPre.lean ====
/- What the precondition of the attention's claim says: every query and every key is a finite number. -/
module

public import proofs.«01_k».proof.Defs
public import proofs.«01_k».proof.Proof.AttnEq
public import Idealize.ShloMosaic.Lib.ReduceAll

@[expose] public section

set_option maxRecDepth 16384

noncomputable section

namespace Cert.Attn

open Idealize.ShloMosaic

/-- The side conditions of the precondition's operations. -/
theorem pre_facts : Cert.Pre_finite_keys.Facts where
  slices_S32768x3072_S32768x2048_0_0 := by decide
  bitsLt_bf16_f32 := by decide
  bcast_S_S32768x2048 := by decide
  reducesTo_S32768x2048_S_d0_1 := by decide
  h_S_ := by decide
  bcast_S_S8x512x8x128 := by decide
  reducesTo_S8x512x8x128_S_d0_1_2_3 := by decide

/-- A number whose absolute value is below infinity is finite. -/
theorem fine_of_lt (x : EReal) (h : Ideal.cmp .olt (max x (-x)) (Ideal.ofBits .f32 0x7F800000#32) = 1#1) : Fine x := by
  have top : Ideal.ofBits .f32 0x7F800000#32 = ⊤ := by simp [Ideal.ofBits, Ideal.ieee]
  rw [top] at h
  induction x using EReal.rec with
  | bot => simp [Ideal.cmp] at h
  | top => simp [Ideal.cmp] at h
  | coe r => exact ⟨r, rfl⟩

open Cert.Pre_finite_keys in
/-- The precondition gives finite queries and keys. -/
theorem fine_keys (p : FVec Ideal S32768x3072 .bf16) (l1 k1 l2 k2 : FVec Ideal S64 .f32) (g : FVec Ideal S128 .f32) (kc vc : FVec Ideal S8x512x8x128 .f32)
    (h : @Cert.Pre_finite_keys.fn pre_facts Ideal _ p l1 k1 l2 k2 g kc vc = fun _ => 1#1) : FineKeys p kc := by
  letI := pre_facts
  have sub : Subsingleton S_.Idx := ⟨fun a b => funext fun i => i.elim0⟩
  have h0 := congrFun h ix0
  unfold Cert.Pre_finite_keys.fn at h0
  obtain ⟨h1, h2⟩ := IntOp.andi_eq_one.mp h0
  refine ⟨fun r e => ?_, fun y => ?_⟩
  · have a := Host.reduce_andi_all _ _ _ _ _ h1 (ix2 r e)
    refine fine_of_lt _ (Eq.trans ?_ a)
    pointwise []
    rfl
  · have a := Host.reduce_andi_all _ _ _ _ _ h2 y
    exact fine_of_lt _ a

end Cert.Attn

end
-- ==== Proof.HalfSpec.lean ====
/- A gated half-step of the residual stream on one row, written over the extended reals: the modulated norm of the
   row, the gated unit of the feed-forward layer, the row with half of it added, and the norm at the end. -/
module

public import Idealize.ShloMosaic.PureOps.Ideal
public import Idealize.ShloMosaic.Lib.Pointwise

@[expose] public section

set_option maxRecDepth 16384

noncomputable section

namespace Cert.Half

open Idealize.ShloMosaic

/-- A row divided by the root of its mean square, times the norm's weights. -/
def normed (x g : Fin 1024 → EReal) (d : Fin 1024) : EReal :=
  x d * Ideal.rsqrt (Ideal.div (∑ e, x e * x e) (Ideal.ofBits .f32 0x44800000#32) + Ideal.ofBits .f32 0x358637BD#32) * g d

/-- The normed row, scaled and shifted by the modulation. -/
def modulated (x g shift scale : Fin 1024 → EReal) (d : Fin 1024) : EReal :=
  normed x g d * (1 + scale d) + shift d

/-- One lane of the gated unit, from a row and a column of each of the two matrices. -/
def gated (h a b : Fin 1024 → EReal) : EReal :=
  (∑ d, h d * a d) * Ideal.logistic (∑ d, h d * a d) * ∑ d, h d * b d

/-- The feed-forward layer of a row. -/
def layer (h : Fin 1024 → EReal) (w1 w3 : Fin 1024 → Fin 2816 → EReal) (w2 : Fin 2816 → Fin 1024 → EReal) (d : Fin 1024) : EReal :=
  ∑ f, gated h (fun e => w1 e f) (fun e => w3 e f) * w2 f d

/-- The row with half the gated layer of its modulated norm added. -/
def stepped (x g shift scale gate : Fin 1024 → EReal) (w1 w3 : Fin 1024 → Fin 2816 → EReal) (w2 : Fin 2816 → Fin 1024 → EReal) (d : Fin 1024) : EReal :=
  x d + Ideal.ofBits .f32 0x3F000000#32 * gate d * layer (modulated x g shift scale) w1 w3 w2 d

/-- The half-step of row `r` of the stream, rows `a`, `b` and `k` of the modulation of its sequence being the shift, the
    scale and the gate; a sequence has 4096 rows, and the first row of the modulations belongs to the other batch. -/
def step (x : (⟨2, ![32768, 1024]⟩ : Shape).Idx → EReal) (md : (⟨3, ![16, 9, 1024]⟩ : Shape).Idx → EReal) (g : (⟨1, ![1024]⟩ : Shape).Idx → EReal)
    (w1 w3 : (⟨2, ![1024, 2816]⟩ : Shape).Idx → EReal) (w2 : (⟨2, ![2816, 1024]⟩ : Shape).Idx → EReal) (a b k : Fin 9) (r : Fin 32768) : Fin 1024 → EReal :=
  stepped (fun d => x (ix2 r d)) (fun d => g (ix1 d)) (fun d => md (ix3 ⟨1 + r.1 / 4096, by omega⟩ a d)) (fun d => md (ix3 ⟨1 + r.1 / 4096, by omega⟩ b d))
    (fun d => md (ix3 ⟨1 + r.1 / 4096, by omega⟩ k d)) (fun d f => w1 (ix2 d f)) (fun d f => w3 (ix2 d f)) (fun f d => w2 (ix2 f d))

end Cert.Half

end
-- ==== Proof.HalfUnit.lean ====
/- The buffer of the feed-forward kernel: the gated unit of a block of rows, eleven tiles of 256 lanes side by side. -/
module

public import proofs.«01_k».proof.Proof.Gen.Kernel2Ideal.Value
public import proofs.«01_k».proof.Proof.HalfSpec
public import Idealize.ShloMosaic.Lib.Pipeline.ReadBack
public import Idealize.ShloMosaic.Lib.Pipeline.ValueKit.Geometry

@[expose] public section

set_option maxRecDepth 16384

noncomputable section

namespace Cert.Half

open Idealize.ShloMosaic Idealize.ShloMosaic.TcCoe Idealize.ShloMosaic.Tactic
open Cert.Kernel2Ideal Cert.Kernel2Ideal.Gen

/-- The origin of a block. -/
theorem zeros2 : (![0, 0] : Fin 2 → ℕ) = fun _ => 0 := funext fun a => by fin_cases a <;> rfl

/-- The tiles the kernel stores, the last one first, from the modulated block and the two matrices. -/
def tiles (h : Vec Ideal S512x1024 .bf16) (w1 w3 : Vec Ideal S1024x2816 .bf16) : List (View.Piece (Elt Ideal) S512x2816 .bf16) :=
  [⟨Rect.unit ![0, 2560] S512x256.size inb_S512x2816_S512x256_0_2560, k0_pay18 h (View.ld w1 (Rect.unit ![0, 2560] S1024x256.size inb_S1024x2816_S1024x256_0_2560)) (View.ld w3 (Rect.unit ![0, 2560] S1024x256.size inb_S1024x2816_S1024x256_0_2560))⟩,
    ⟨Rect.unit ![0, 2304] S512x256.size inb_S512x2816_S512x256_0_2304, k0_pay17 h (View.ld w1 (Rect.unit ![0, 2304] S1024x256.size inb_S1024x2816_S1024x256_0_2304)) (View.ld w3 (Rect.unit ![0, 2304] S1024x256.size inb_S1024x2816_S1024x256_0_2304))⟩,
    ⟨Rect.unit ![0, 2048] S512x256.size inb_S512x2816_S512x256_0_2048, k0_pay16 h (View.ld w1 (Rect.unit ![0, 2048] S1024x256.size inb_S1024x2816_S1024x256_0_2048)) (View.ld w3 (Rect.unit ![0, 2048] S1024x256.size inb_S1024x2816_S1024x256_0_2048))⟩,
    ⟨Rect.unit ![0, 1792] S512x256.size inb_S512x2816_S512x256_0_1792, k0_pay15 h (View.ld w1 (Rect.unit ![0, 1792] S1024x256.size inb_S1024x2816_S1024x256_0_1792)) (View.ld w3 (Rect.unit ![0, 1792] S1024x256.size inb_S1024x2816_S1024x256_0_1792))⟩,
    ⟨Rect.unit ![0, 1536] S512x256.size inb_S512x2816_S512x256_0_1536, k0_pay14 h (k0_pay13 h (View.ld w1 (Rect.unit ![0, 1536] S1024x256.size inb_S1024x2816_S1024x256_0_1536))) (View.ld w3 (Rect.unit ![0, 1536] S1024x256.size inb_S1024x2816_S1024x256_0_1536))⟩,
    ⟨Rect.unit ![0, 1280] S512x256.size inb_S512x2816_S512x256_0_1280, k0_pay12 h (View.ld w1 (Rect.unit ![0, 1280] S1024x256.size inb_S1024x2816_S1024x256_0_1280)) (View.ld w3 (Rect.unit ![0, 1280] S1024x256.size inb_S1024x2816_S1024x256_0_1280))⟩,
    ⟨Rect.unit ![0, 1024] S512x256.size inb_S512x2816_S512x256_0_1024, k0_pay11 h (View.ld w1 (Rect.unit ![0, 1024] S1024x256.size inb_S1024x2816_S1024x256_0_1024)) (View.ld w3 (Rect.unit ![0, 1024] S1024x256.size inb_S1024x2816_S1024x256_0_1024))⟩,
    ⟨Rect.unit ![0, 768] S512x256.size inb_S512x2816_S512x256_0_768, k0_pay10 (k0_pay7 h (View.ld w1 (Rect.unit ![0, 768] S1024x256.size inb_S1024x2816_S1024x256_0_768))) (k0_pay8 h (View.ld w3 (Rect.unit ![0, 768] S1024x256.size inb_S1024x2816_S1024x256_0_768))) (k0_pay9 h (View.ld w1 (Rect.unit ![0, 768] S1024x256.size inb_S1024x2816_S1024x256_0_768)))⟩,
    ⟨Rect.unit ![0, 512] S512x256.size inb_S512x2816_S512x256_0_512, k0_pay6 h (View.ld w1 (Rect.unit ![0, 512] S1024x256.size inb_S1024x2816_S1024x256_0_512)) (View.ld w3 (Rect.unit ![0, 512] S1024x256.size inb_S1024x2816_S1024x256_0_512))⟩,
    ⟨Rect.unit ![0, 256] S512x256.size inb_S512x2816_S512x256_0_256, k0_pay5 h (View.ld w1 (Rect.unit ![0, 256] S1024x256.size inb_S1024x2816_S1024x256_0_256)) (View.ld w3 (Rect.unit ![0, 256] S1024x256.size inb_S1024x2816_S1024x256_0_256))⟩,
    ⟨Rect.unit ![0, 0] S512x256.size inb_S512x2816_S512x256_0_0, k0_pay15 h (View.ld w1 (Rect.unit ![0, 0] S1024x256.size inb_S1024x2816_S1024x256_0_0)) (View.ld w3 (Rect.unit ![0, 0] S1024x256.size inb_S1024x2816_S1024x256_0_0))⟩]

/-- A coordinate of a tile's element, counted from the buffer's start. -/
theorem tile_val (o : ℕ) (inb) (j : (Rect.unit (s := S512x2816) ![0, o] ![512, 256] inb).shape.Idx) :
    ((Rect.unit (s := S512x2816) ![0, o] ![512, 256] inb).emb j 0).1 = (j 0).1 ∧ ((Rect.unit (s := S512x2816) ![0, o] ![512, 256] inb).emb j 1).1 = o + (j 1).1 :=
  ⟨(ValueKit.rect_emb_unit_val _ _ _ j 0).trans (Nat.zero_add _), ValueKit.rect_emb_unit_val _ _ _ j 1⟩

/-- A lane of a tile is the gated unit's lane. -/
theorem lane (h : Vec Ideal S512x1024 .bf16) (w1 w3 : Vec Ideal S1024x2816 .bf16) (r r' : Fin 512) (f f' : Fin 2816) (hr : r'.1 = r.1) (hf : f'.1 = f.1) :
    (∑ d, h (ix2 r d) * w1 (ix2 d f)) * Ideal.logistic (∑ d, h (ix2 r d) * w1 (ix2 d f)) * (∑ d, h (ix2 r d) * w3 (ix2 d f))
      = gated (fun d => h (ix2 r' d)) (fun d => w1 (ix2 d f')) (fun d => w3 (ix2 d f')) := by
  obtain rfl := Fin.ext hr
  obtain rfl := Fin.ext hf
  rfl

/-- Every tile is a part of the gated unit of the block. -/
theorem tiles_spec (h : Vec Ideal S512x1024 .bf16) (w1 w3 : Vec Ideal S1024x2816 .bf16) :
    View.PiecesOf (fun y : S512x2816.Idx => gated (fun d => h (ix2 (y 0) d)) (fun d => w1 (ix2 d (y 1))) (fun d => w3 (ix2 d (y 1)))) (tiles h w1 w3) := by
  unfold tiles
  refine ⟨?_, ?_, ?_, ?_, ?_, ?_, ?_, ?_, ?_, ?_, ?_, trivial⟩ <;> intro j <;> idx_vars j
  all_goals
    pointwise [k0_pay18, k0_pay17, k0_pay16, k0_pay15, k0_pay14, k0_pay13, k0_pay12, k0_pay11, k0_pay10, k0_pay9, k0_pay8, k0_pay7, k0_pay6, k0_pay5]
    exact lane h w1 w3 _ _ _ _ (tile_val _ _ (ix2 j0 j1)).1 ((tile_val _ _ (ix2 j0 j1)).2.trans (by simp))

/-- The buffer after the last tile. -/
theorem tiles_eq (h : Vec Ideal S512x1024 .bf16) (w1 w3 : Vec Ideal S1024x2816 .bf16) (y : S512x2816.Idx) :
    View.canon (tiles h w1 w3) y = gated (fun d => h (ix2 (y 0) d)) (fun d => w1 (ix2 d (y 1))) (fun d => w3 (ix2 d (y 1))) := by
  have hc := View.cover_of_tiledL (tiles h w1 w3) S512x256.size (by sl_kernel_rfl) y
  simpa using View.canon_append_of_piecesOf _ [] _ (tiles_spec h w1 w3) y hc

end Cert.Half

end
-- ==== Proof.HalfBlock.lean ====
/- One point of the feed-forward kernel, from its blocks to the block it writes. -/
module

public import proofs.«01_k».proof.Proof.HalfUnit

@[expose] public section

set_option maxRecDepth 16384

noncomputable section

namespace Cert.Half

open Idealize.ShloMosaic Idealize.ShloMosaic.TcCoe Idealize.ShloMosaic.Tactic
open Cert.Kernel2Ideal Cert.Kernel2Ideal.Gen

variable (c : Dev nD) (arg1 : Memref sig .tc .vmem S512x1024 .f32) (harg1 : arg1.IsWhole) (arg2 : Memref sig .tc .vmem S1x9x1024 .f32) (harg2 : arg2.IsWhole)
  (arg3 : Memref sig .tc .vmem S1x1024 .f32) (harg3 : arg3.IsWhole) (arg4 : Memref sig .tc .vmem S1024x2816 .bf16) (harg4 : arg4.IsWhole)
  (arg5 : Memref sig .tc .vmem S1024x2816 .bf16) (harg5 : arg5.IsWhole) (arg6 : Memref sig .tc .vmem S2816x1024 .bf16) (harg6 : arg6.IsWhole)
  (arg9 : Memref sig .tc .vmem S512x2816 .bf16)
  (x0 : Vec Ideal S512x1024 .f32) (x1 : Vec Ideal S1x9x1024 .f32) (x2 : Vec Ideal S1x1024 .f32) (x3 x4 : Vec Ideal S1024x2816 .bf16) (x5 : Vec Ideal S2816x1024 .bf16) (x6 : Vec Ideal S1x1024 .f32)

/-- The modulated norm of a row of the block. -/
theorem modulated_eq (r : Fin 512) (d : Fin 1024) :
    kernelRun0_A.sl.r_1 (F := Ideal) c arg1 harg1 arg2 harg2 arg3 harg3 x0 x1 x2 (ix2 r d)
      = modulated (fun d => x0 (ix2 r d)) (fun d => x2 (ix2 0 d)) (fun d => x1 (ix3 0 0 d)) (fun d => x1 (ix3 0 1 d)) d := by
  unfold kernelRun0_A.sl.r_1
  simp only [View.readAt_eq_ld, harg1.read_unread, harg2.read_unread, harg3.read_unread]
  pointwise [k0_pay2]
  rw [modulated, normed]

/-- The stored tiles are those of the modulated block. -/
theorem stored_eq : kernelRun0_A.sl.HS0_11 (F := Ideal) c arg1 harg1 arg2 harg2 arg3 harg3 arg4 harg4 arg5 harg5 x0 x1 x2 x3 x4
    = tiles (kernelRun0_A.sl.r_1 (F := Ideal) c arg1 harg1 arg2 harg2 arg3 harg3 x0 x1 x2) x3 x4 := by
  unfold kernelRun0_A.sl.HS0_11 kernelRun0_A.sl.r_2 kernelRun0_A.sl.r_4 kernelRun0_A.sl.r_5 kernelRun0_A.sl.r_6 kernelRun0_A.sl.r_7
  simp only [View.readAt_eq_ld, harg4.read_unread, harg5.read_unread]
  rfl

/-- The feed-forward layer of a row of the block. -/
theorem layer_eq (r : Fin 512) (e : Fin 1024) :
    kernelRun0_A.sl.r_9 (F := Ideal) c arg1 harg1 arg2 harg2 arg3 harg3 arg4 harg4 arg5 harg5 arg6 harg6 arg9 x0 x1 x2 x3 x4 x5 (ix2 r e)
      = layer (modulated (fun d => x0 (ix2 r d)) (fun d => x2 (ix2 0 d)) (fun d => x1 (ix3 0 0 d)) (fun d => x1 (ix3 0 1 d)))
          (fun d f => x3 (ix2 d f)) (fun d f => x4 (ix2 d f)) (fun f d => x5 (ix2 f d)) e := by
  unfold kernelRun0_A.sl.r_9 kernelRun0_A.sl.v173
  rw [stored_eq, View.readCov_eq_canon']
  simp only [tiles_eq, View.readAt_eq_ld, harg6.read_unread]
  pointwise [k0_pay20]
  simp only [modulated_eq, Ideal.ofBits_zero_f32, zero_add]
  rfl

/-- The block the kernel writes at a point, from the blocks it reads there. -/
theorem out_eq (i : grid0.Coords) (arg7 : Memref sig .tc .vmem S1x1024 .f32) (harg7 : arg7.IsWhole) (arg8 : Memref sig .tc .vmem S512x1024 .f32) (harg8 : arg8.IsWhole)
    (harg9 : arg9.IsWhole) (r : Fin 512) (e : Fin 1024) :
    out0_A_7 (F := Ideal) c i arg1 harg1 arg2 harg2 arg3 harg3 arg4 harg4 arg5 harg5 arg6 harg6 arg7 harg7 arg8 harg8 arg9 harg9 x0 x1 x2 x3 x4 x5 x6 (ix2 r e)
      = stepped (fun d => x0 (ix2 r d)) (fun d => x2 (ix2 0 d)) (fun d => x1 (ix3 0 0 d)) (fun d => x1 (ix3 0 1 d)) (fun d => x1 (ix3 0 2 d))
          (fun d f => x3 (ix2 d f)) (fun d f => x4 (ix2 d f)) (fun f d => x5 (ix2 f d)) e := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  unfold kernelRun0_A
  dsimp only
  rw [View.canon_unit_zero zeros2]
  unfold kernelRun0_A.sl.r kernelRun0_A.sl.r_8
  simp only [View.readAt_eq_ld, harg1.read_unread, harg2.read_unread]
  pointwise [k0_pay1, k0_pay19]
  rw [layer_eq, stepped]

end Cert.Half

end
-- ==== Proof.HalfArray.lean ====
/- The array the feed-forward kernel leaves: what the host hands to the call, the blocks read at a point as parts of the
   arguments, and the written blocks put together. -/
module

public import proofs.«01_k».proof.Proof.HalfBlock
public import Idealize.ShloMosaic.Lib.StableHlo.Run

@[expose] public section

set_option maxRecDepth 16384

noncomputable section

namespace Cert.Half

open Idealize.ShloMosaic Idealize.ShloMosaic.TcCoe Idealize.ShloMosaic.Tactic Idealize.ShloMosaic.StableHlo
open Cert.Kernel2Ideal Cert.Kernel2Ideal.Gen

variable (m : (ℓ : Loc nD τ sig) → Buf (Elt Ideal) ℓ) (c : Dev nD)

/-- The norm's weights as one row. -/
theorem norm_eq : V m c main_v0 = shapeCast S1x1024 (m ((c : Thread nD τ).loc main_arg2)) shapeCasts_S1024_S1x1024 := by
  show StableHlo.after hostOps0 _ (Proc.devRef .tc main_v0) = _
  after_results
  rfl

/-- The three matrices as the call finds them. -/
theorem first_eq : V m c main_v1 = m ((c : Thread nD τ).loc main_arg3) := by
  show StableHlo.after hostOps0 _ (Proc.devRef .tc main_v1) = _
  after_results
  rfl

theorem third_eq : V m c main_v2 = m ((c : Thread nD τ).loc main_arg4) := by
  show StableHlo.after hostOps0 _ (Proc.devRef .tc main_v2) = _
  after_results
  rfl

theorem second_eq : V m c main_v3 = m ((c : Thread nD τ).loc main_arg5) := by
  show StableHlo.after hostOps0 _ (Proc.devRef .tc main_v3) = _
  after_results
  rfl

theorem idx_x : ∀ t : Fin cfg0.N, win0_0.index t (0 : Fin 2) = t.1 ∧ win0_0.index t (1 : Fin 2) = 0 := (by decide +kernel : ∀ t : Fin grid0.N, _)
theorem idx_out : ∀ t : Fin cfg0.N, win0_7.index t (0 : Fin 2) = t.1 ∧ win0_7.index t (1 : Fin 2) = 0 := (by decide +kernel : ∀ t : Fin grid0.N, _)
theorem idx_mod : ∀ t : Fin cfg0.N, win0_1.index t (0 : Fin 3) = 1 + t.1 / 8 ∧ win0_1.index t (1 : Fin 3) = 0 ∧ win0_1.index t (2 : Fin 3) = 0 :=
  (by decide +kernel : ∀ t : Fin grid0.N, _)
theorem idx_norm : ∀ t : Fin cfg0.N, win0_2.index t (0 : Fin 2) = 0 ∧ win0_2.index t (1 : Fin 2) = 0 := (by decide +kernel : ∀ t : Fin grid0.N, _)
theorem idx_first : ∀ t : Fin cfg0.N, win0_3.index t (0 : Fin 2) = 0 ∧ win0_3.index t (1 : Fin 2) = 0 := (by decide +kernel : ∀ t : Fin grid0.N, _)
theorem idx_third : ∀ t : Fin cfg0.N, win0_4.index t (0 : Fin 2) = 0 ∧ win0_4.index t (1 : Fin 2) = 0 := (by decide +kernel : ∀ t : Fin grid0.N, _)
theorem idx_second : ∀ t : Fin cfg0.N, win0_5.index t (0 : Fin 2) = 0 ∧ win0_5.index t (1 : Fin 2) = 0 := (by decide +kernel : ∀ t : Fin grid0.N, _)

/-- Row `r` of the block a point works on, in the stream. -/
def rowAt (t : Fin cfg0.N) (r : Fin 512) : Fin 32768 := ⟨t.1 * 512 + r.1, by have := t.isLt; have h : cfg0.N = 64 := rfl; omega⟩

theorem block_x (t : Fin cfg0.N) (r : Fin 512) (d : Fin 1024) : iblk m c 0 t (ix2 r d) = m ((c : Thread nD τ).loc main_arg0) (ix2 (rowAt t r) d) := by
  obtain ⟨e0, e1⟩ := idx_x t
  show V m c main_arg0 (((cfg0.win 0).blk t).view.emb (ix2 r d)) = _
  rw [V_main_arg0]
  refine congrArg (m ((c : Thread nD τ).loc main_arg0)) (funext fun a => Fin.ext ?_)
  match a with
  | ⟨0, _⟩ => show win0_0.index t (0 : Fin 2) * 512 + 1 * r.1 = _; rw [e0, Nat.one_mul]; rfl
  | ⟨1, _⟩ => show win0_0.index t (1 : Fin 2) * 1024 + 1 * d.1 = _; rw [e1, Nat.one_mul, Nat.zero_mul, Nat.zero_add]; rfl

theorem block_mod (t : Fin cfg0.N) (r : Fin 512) (k : Fin 9) (d : Fin 1024) :
    iblk m c 1 t (ix3 0 k d) = m ((c : Thread nD τ).loc main_arg1) (ix3 ⟨1 + (rowAt t r).1 / 4096, by omega⟩ k d) := by
  obtain ⟨e0, e1, e2⟩ := idx_mod t
  show V m c main_arg1 (((cfg0.win 1).blk t).view.emb (ix3 0 k d)) = _
  rw [V_main_arg1]
  refine congrArg (m ((c : Thread nD τ).loc main_arg1)) (funext fun a => Fin.ext ?_)
  match a with
  | ⟨0, _⟩ =>
    show win0_1.index t (0 : Fin 3) * 1 + 1 * 0 = 1 + (t.1 * 512 + r.1) / 4096
    rw [e0]; omega
  | ⟨1, _⟩ => show win0_1.index t (1 : Fin 3) * 9 + 1 * k.1 = _; rw [e1, Nat.one_mul, Nat.zero_mul, Nat.zero_add]; rfl
  | ⟨2, _⟩ => show win0_1.index t (2 : Fin 3) * 1024 + 1 * d.1 = _; rw [e2, Nat.one_mul, Nat.zero_mul, Nat.zero_add]; rfl

theorem block_norm (t : Fin cfg0.N) (d : Fin 1024) : iblk m c 2 t (ix2 0 d) = m ((c : Thread nD τ).loc main_arg2) (ix1 d) := by
  obtain ⟨e0, e1⟩ := idx_norm t
  show V m c main_v0 (((cfg0.win 2).blk t).view.emb (ix2 0 d)) = _
  have e : ((cfg0.win 2).blk t).view.emb (ix2 0 d) = (ix2 0 d : S1x1024.Idx) := by
    funext a; apply Fin.ext
    match a with
    | ⟨0, _⟩ => show win0_2.index t (0 : Fin 2) * 1 + 1 * 0 = _; rw [e0]; rfl
    | ⟨1, _⟩ => show win0_2.index t (1 : Fin 2) * 1024 + 1 * d.1 = _; rw [e1, Nat.one_mul, Nat.zero_mul, Nat.zero_add]; rfl
  rw [e, norm_eq]
  pointwise []

theorem block_first (t : Fin cfg0.N) : iblk m c 3 t = m ((c : Thread nD τ).loc main_arg3) := by
  obtain ⟨e0, e1⟩ := idx_first t
  funext j
  show V m c main_v1 (((cfg0.win 3).blk t).view.emb j) = _
  rw [first_eq]
  refine congrArg (m ((c : Thread nD τ).loc main_arg3)) (funext fun a => Fin.ext ?_)
  match a with
  | ⟨0, _⟩ => show win0_3.index t (0 : Fin 2) * 1024 + 1 * (j 0).val = _; rw [e0, Nat.one_mul, Nat.zero_mul, Nat.zero_add]; rfl
  | ⟨1, _⟩ => show win0_3.index t (1 : Fin 2) * 2816 + 1 * (j 1).val = _; rw [e1, Nat.one_mul, Nat.zero_mul, Nat.zero_add]; rfl

theorem block_third (t : Fin cfg0.N) : iblk m c 4 t = m ((c : Thread nD τ).loc main_arg4) := by
  obtain ⟨e0, e1⟩ := idx_third t
  funext j
  show V m c main_v2 (((cfg0.win 4).blk t).view.emb j) = _
  rw [third_eq]
  refine congrArg (m ((c : Thread nD τ).loc main_arg4)) (funext fun a => Fin.ext ?_)
  match a with
  | ⟨0, _⟩ => show win0_4.index t (0 : Fin 2) * 1024 + 1 * (j 0).val = _; rw [e0, Nat.one_mul, Nat.zero_mul, Nat.zero_add]; rfl
  | ⟨1, _⟩ => show win0_4.index t (1 : Fin 2) * 2816 + 1 * (j 1).val = _; rw [e1, Nat.one_mul, Nat.zero_mul, Nat.zero_add]; rfl

theorem block_second (t : Fin cfg0.N) : iblk m c 5 t = m ((c : Thread nD τ).loc main_arg5) := by
  obtain ⟨e0, e1⟩ := idx_second t
  funext j
  show V m c main_v3 (((cfg0.win 5).blk t).view.emb j) = _
  rw [second_eq]
  refine congrArg (m ((c : Thread nD τ).loc main_arg5)) (funext fun a => Fin.ext ?_)
  match a with
  | ⟨0, _⟩ => show win0_5.index t (0 : Fin 2) * 2816 + 1 * (j 0).val = _; rw [e0, Nat.one_mul, Nat.zero_mul, Nat.zero_add]; rfl
  | ⟨1, _⟩ => show win0_5.index t (1 : Fin 2) * 1024 + 1 * (j 1).val = _; rw [e1, Nat.one_mul, Nat.zero_mul, Nat.zero_add]; rfl

/-- A block element of the output, in the output. -/
theorem emb_out (t : Fin cfg0.N) (r : Fin 512) (d : Fin 1024) : ((cfg0.win 7).blk t).view.emb (ix2 r d) = (ix2 (rowAt t r) d : S32768x1024.Idx) := by
  obtain ⟨e0, e1⟩ := idx_out t
  funext a; apply Fin.ext
  match a with
  | ⟨0, _⟩ => show win0_7.index t (0 : Fin 2) * 512 + 1 * r.1 = _; rw [e0, Nat.one_mul]; rfl
  | ⟨1, _⟩ => show win0_7.index t (1 : Fin 2) * 1024 + 1 * d.1 = _; rw [e1, Nat.one_mul, Nat.zero_mul, Nat.zero_add]; rfl

/-- The half-step over the whole stream, from the arguments. -/
def result : S32768x1024.Idx → EReal := fun y =>
  step (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) 0 1 2 (y 0) (y 1)

theorem flushed_eq (t : Fin cfg0.N) : (dats m 0 c).flushed 7 t = ((cfg0.win 7).blk t).view.read (Elt Ideal) (result m c) := by
  have cut : ∀ X : Vec Ideal S512x1024 .f32, (cfg0.win 7).cut (grid0.coords t) X = X := fun X => rfl
  rw [Value.flushed7_A, cut, block_first, block_third, block_second]
  funext j
  show _ = result m c (((cfg0.win 7).blk t).view.emb j)
  idx_vars j
  rw [emb_out, out_eq]
  simp only [block_x, block_mod m c t j0, block_norm]
  rfl

/-- Every element of the result is written at some point. -/
theorem covered (y : S32768x1024.Idx) : ∃ t : Fin cfg0.N, (cfg0.win 7).flush t = true ∧ y ∈ ((cfg0.win 7).blk t).view.set := by
  have h0 : (y 0).1 < 32768 := (y 0).isLt
  have h1 : (y 1).1 < 1024 := (y 1).isLt
  let t : Fin cfg0.N := ⟨(y 0).1 / 512, by show _ < 64; omega⟩
  refine ⟨t, flush0_7 _, ?_⟩
  have h := ((cfg0.win 7).blk t).view.emb_mem_set (ix2 ⟨(y 0).1 % 512, by omega⟩ ⟨(y 1).1, h1⟩ : S512x1024.Idx)
  rw [emb_out] at h
  refine (congrArg (· ∈ ((cfg0.win 7).blk t).view.set) (funext fun a => Fin.ext ?_)).mp h
  match a with
  | ⟨0, _⟩ => show (y 0).1 / 512 * 512 + (y 0).1 % 512 = (y 0).1; omega
  | ⟨1, _⟩ => rfl

/-- The array the feed-forward kernel leaves. -/
theorem array_eq : (dats m 0 c).arrAt 7 cfg0.N = result m c :=
  (dats m 0 c).arrAt_eq_of_cover 7 _ (fun t _ => flushed_eq m c t) covered

end Cert.Half

end
-- ==== Proof.HalfRef.lean ====
/- The feed-forward layer's reference read at an element: the modulated norm of a row, the gated unit, the row with half
   of the gated layer added. -/
module

public import proofs.«01_k».proof.Proof.Gen.Reference2Ideal.Read
public import proofs.«01_k».proof.Proof.HalfSpec

@[expose] public section

set_option maxRecDepth 16384

noncomputable section

namespace Cert.Half

open Idealize.ShloMosaic Idealize.ShloMosaic.TcCoe Idealize.ShloMosaic.Tactic
open Cert.Reference2Ideal Cert.Reference2Ideal.Gen Cert.Reference2Ideal.Read

variable (x : S32768x1024.Idx → EReal) (md : S16x9x1024.Idx → EReal) (g : S1024.Idx → EReal) (w1 w3 : S1024x2816.Idx → EReal) (w2 : S2816x1024.Idx → EReal)

/-- Row `s` of sequence `b` in the stream. -/
def rowOf (b : Fin 8) (s : Fin 4096) : Fin 32768 := ⟨b.1 * 4096 + s.1, by omega⟩

/-- An element of the stream, sequence by sequence. -/
theorem ref_row (b : Fin 8) (s : Fin 4096) (d : Fin 1024) : val_main_v0 (F := Ideal) x (ix3 b s d) = x (ix2 (rowOf b s) d) := by
  pointwise [val_main_v0]
  rfl

/-- The shift, the scale and the gate. -/
theorem ref_shift (b : Fin 8) (z : Fin 1) (d : Fin 1024) : val_main_v3 (F := Ideal) md (ix3 b z d) = md (ix3 ⟨1 + b.1, by omega⟩ 0 d) := by
  obtain rfl : z = 0 := Subsingleton.elim _ _
  pointwise [val_main_v3, val_main_v2, val_main_v1]
  exact congrArg md (congrArg₂ (ix3 _) (Fin.ext (by show d.1 / 1024 = 0; omega)) (Fin.ext (by show d.1 % 1024 = d.1; omega)))

theorem ref_scale (b : Fin 8) (z : Fin 1) (d : Fin 1024) : val_main_v4 (F := Ideal) md (ix3 b z d) = md (ix3 ⟨1 + b.1, by omega⟩ 1 d) := by
  obtain rfl : z = 0 := Subsingleton.elim _ _
  pointwise [val_main_v4, val_main_v2, val_main_v1]
  exact congrArg (fun k => md (ix3 _ k d)) (Fin.ext (by show (1024 + d.1) / 1024 = 1; omega))

theorem ref_gate (b : Fin 8) (z : Fin 1) (d : Fin 1024) : val_main_v5 (F := Ideal) md (ix3 b z d) = md (ix3 ⟨1 + b.1, by omega⟩ 2 d) := by
  obtain rfl : z = 0 := Subsingleton.elim _ _
  pointwise [val_main_v5, val_main_v2, val_main_v1]
  exact congrArg (fun k => md (ix3 _ k d)) (Fin.ext (by show (2048 + d.1) / 1024 = 2; omega))

/-- The modulated norm of a row. -/
theorem ref_modulated (b : Fin 8) (s : Fin 4096) (d : Fin 1024) :
    val_main_v30 (F := Ideal) x md g (ix3 b s d)
      = modulated (fun d => x (ix2 (rowOf b s) d)) (fun d => g (ix1 d)) (fun d => md (ix3 ⟨1 + b.1, by omega⟩ 0 d)) (fun d => md (ix3 ⟨1 + b.1, by omega⟩ 1 d)) d := by
  have h := ref_row x b s
  have h3 := ref_shift md b 0
  have h4 := ref_scale md b 0
  unfold val_main_v30 val_main_v29 val_main_v28 val_main_v27 val_main_v26 val_main_v24 val_main_v21 val_main_v20 val_main_v19 val_main_v18 val_main_v16 val_main_v14 val_main_v13 val_main_v12
  revert h h3 h4
  generalize val_main_v0 (F := Ideal) x = y
  generalize val_main_v3 (F := Ideal) md = y3
  generalize val_main_v4 (F := Ideal) md = y4
  intro h h3 h4
  pointwise [val_main_v25, val_main_v23, val_main_v22, val_main_v17, val_main_v15, val_main_cst, val_main_cst_0, val_main_cst_1, val_main_cst_2]
  simp only [h, h3, h4, modulated, normed]

/-- A product of the modulated row with one of the two matrices. -/
theorem ref_first (b : Fin 8) (s : Fin 4096) (f : Fin 2816) :
    val_main_v33 (F := Ideal) x md g w1 (ix3 b s f) = ∑ d, val_main_v30 (F := Ideal) x md g (ix3 b s d) * w1 (ix2 d f) := by
  unfold val_main_v33
  generalize val_main_v30 (F := Ideal) x md g = y
  pointwise []

theorem ref_third (b : Fin 8) (s : Fin 4096) (f : Fin 2816) :
    val_main_v35 (F := Ideal) x md g w3 (ix3 b s f) = ∑ d, val_main_v30 (F := Ideal) x md g (ix3 b s d) * w3 (ix2 d f) := by
  unfold val_main_v35
  generalize val_main_v30 (F := Ideal) x md g = y
  pointwise []

/-- A lane of the gated unit. -/
theorem ref_gated (b : Fin 8) (s : Fin 4096) (f : Fin 2816) :
    val_main_v36 (F := Ideal) x md g w1 w3 (ix3 b s f)
      = gated (fun d => val_main_v30 (F := Ideal) x md g (ix3 b s d)) (fun d => w1 (ix2 d f)) (fun d => w3 (ix2 d f)) := by
  have h1 := ref_first x md g w1 b s f
  have h3 := ref_third x md g w3 b s f
  unfold gated
  rw [← h1, ← h3]
  unfold val_main_v36 val_main_v34 val_main_call0_v5 val_main_call0_v3 val_main_call0_v1 val_main_call0_v0
  generalize val_main_v33 (F := Ideal) x md g w1 = y1
  generalize val_main_v35 (F := Ideal) x md g w3 = y3
  pointwise [val_main_call0_v4, val_main_call0_v2, val_main_call0_cst, val_main_call0_cst_0]
  rfl

/-- The gated layer of a row. -/
theorem ref_layer (b : Fin 8) (s : Fin 4096) (d : Fin 1024) :
    val_main_v37 (F := Ideal) x md g w1 w3 w2 (ix3 b s d)
      = layer (fun d => val_main_v30 (F := Ideal) x md g (ix3 b s d)) (fun d f => w1 (ix2 d f)) (fun d f => w3 (ix2 d f)) (fun f d => w2 (ix2 f d)) d := by
  have h := ref_gated x md g w1 w3 b s
  unfold layer
  simp only [← h]
  unfold val_main_v37
  generalize val_main_v36 (F := Ideal) x md g w1 w3 = y
  pointwise []

/-- The row with half the gated layer added. -/
theorem ref_stepped (b : Fin 8) (s : Fin 4096) (d : Fin 1024) :
    val_main_v40 (F := Ideal) x md g w1 w3 w2 (ix3 b s d)
      = x (ix2 (rowOf b s) d) + Ideal.ofBits .f32 0x3F000000#32 * md (ix3 ⟨1 + b.1, by omega⟩ 2 d)
          * layer (modulated (fun d => x (ix2 (rowOf b s) d)) (fun d => g (ix1 d)) (fun d => md (ix3 ⟨1 + b.1, by omega⟩ 0 d)) (fun d => md (ix3 ⟨1 + b.1, by omega⟩ 1 d)))
              (fun d f => w1 (ix2 d f)) (fun d f => w3 (ix2 d f)) (fun f d => w2 (ix2 f d)) d := by
  have h := ref_layer x md g w1 w3 w2 b s d
  simp only [ref_modulated] at h
  rw [← h, ← ref_gate md b 0 d, ← ref_row x b s d]
  unfold val_main_v40 val_main_v39 val_main_v38 val_main_v32
  generalize val_main_v37 (F := Ideal) x md g w1 w3 w2 = y
  generalize val_main_v5 (F := Ideal) md = y5
  generalize val_main_v0 (F := Ideal) x = y0
  pointwise [val_main_v31, val_main_cst_3]

/-- The reference's result is the half-step of every row. -/
theorem ref_eq : val_main_v41 (F := Ideal) x md g w1 w3 w2 = fun y => step x md g w1 w3 w2 0 1 2 (y 0) (y 1) := by
  funext y
  idx_vars y
  have hr := y0.isLt
  have e : y0 = rowOf ⟨y0.1 / 4096, by omega⟩ ⟨y0.1 % 4096, by omega⟩ := Fin.ext (by show y0.1 = y0.1 / 4096 * 4096 + y0.1 % 4096; omega)
  have h := ref_stepped x md g w1 w3 w2 ⟨y0.1 / 4096, by omega⟩ ⟨y0.1 % 4096, by omega⟩ y1
  rw [← e] at h
  refine Eq.trans ?_ h
  unfold val_main_v41
  generalize val_main_v40 (F := Ideal) x md g w1 w3 w2 = z
  pointwise []

end Cert.Half

end
-- ==== Proof.FinalBlock.lean ====
/- One point of the feed-forward kernel that ends the last layer: rows six to eight of the modulation instead of the first
   three, and the norm of the stream at the end. -/
module

public import proofs.«01_k».proof.Proof.Gen.Kernel3Ideal.Value
public import proofs.«01_k».proof.Proof.HalfUnit

@[expose] public section

set_option maxRecDepth 16384

noncomputable section

namespace Cert.Final

open Idealize.ShloMosaic Idealize.ShloMosaic.TcCoe Idealize.ShloMosaic.Tactic
open Cert.Half Cert.Kernel3Ideal Cert.Kernel3Ideal.Gen

variable (c : Dev nD) (arg1 : Memref sig .tc .vmem S512x1024 .f32) (harg1 : arg1.IsWhole) (arg2 : Memref sig .tc .vmem S1x9x1024 .f32) (harg2 : arg2.IsWhole)
  (arg3 : Memref sig .tc .vmem S1x1024 .f32) (harg3 : arg3.IsWhole) (arg4 : Memref sig .tc .vmem S1024x2816 .bf16) (harg4 : arg4.IsWhole)
  (arg5 : Memref sig .tc .vmem S1024x2816 .bf16) (harg5 : arg5.IsWhole) (arg6 : Memref sig .tc .vmem S2816x1024 .bf16) (harg6 : arg6.IsWhole)
  (arg9 : Memref sig .tc .vmem S512x2816 .bf16)
  (x0 : Vec Ideal S512x1024 .f32) (x1 : Vec Ideal S1x9x1024 .f32) (x2 : Vec Ideal S1x1024 .f32) (x3 x4 : Vec Ideal S1024x2816 .bf16) (x5 : Vec Ideal S2816x1024 .bf16) (x6 : Vec Ideal S1x1024 .f32)

/-- The modulated norm of a row of the block. -/
theorem modulated_eq (r : Fin 512) (d : Fin 1024) :
    kernelRun0_A.sl.r_1 (F := Ideal) c arg1 harg1 arg2 harg2 arg3 harg3 x0 x1 x2 (ix2 r d)
      = modulated (fun d => x0 (ix2 r d)) (fun d => x2 (ix2 0 d)) (fun d => x1 (ix3 0 6 d)) (fun d => x1 (ix3 0 7 d)) d := by
  unfold kernelRun0_A.sl.r_1
  simp only [View.readAt_eq_ld, harg1.read_unread, harg2.read_unread, harg3.read_unread]
  pointwise [k0_pay2]
  rw [modulated, normed]

/-- The stored tiles are those of the modulated block. -/
theorem stored_eq : kernelRun0_A.sl.HS0_11 (F := Ideal) c arg1 harg1 arg2 harg2 arg3 harg3 arg4 harg4 arg5 harg5 x0 x1 x2 x3 x4
    = tiles (kernelRun0_A.sl.r_1 (F := Ideal) c arg1 harg1 arg2 harg2 arg3 harg3 x0 x1 x2) x3 x4 := by
  unfold kernelRun0_A.sl.HS0_11 kernelRun0_A.sl.r_2 kernelRun0_A.sl.r_4 kernelRun0_A.sl.r_5 kernelRun0_A.sl.r_6 kernelRun0_A.sl.r_7
  simp only [View.readAt_eq_ld, harg4.read_unread, harg5.read_unread]
  rfl

/-- The feed-forward layer of a row of the block. -/
theorem layer_eq (r : Fin 512) (e : Fin 1024) :
    kernelRun0_A.sl.r_9 (F := Ideal) c arg1 harg1 arg2 harg2 arg3 harg3 arg4 harg4 arg5 harg5 arg6 harg6 arg9 x0 x1 x2 x3 x4 x5 (ix2 r e)
      = layer (modulated (fun d => x0 (ix2 r d)) (fun d => x2 (ix2 0 d)) (fun d => x1 (ix3 0 6 d)) (fun d => x1 (ix3 0 7 d)))
          (fun d f => x3 (ix2 d f)) (fun d f => x4 (ix2 d f)) (fun f d => x5 (ix2 f d)) e := by
  unfold kernelRun0_A.sl.r_9 kernelRun0_A.sl.v173
  rw [stored_eq, View.readCov_eq_canon']
  simp only [tiles_eq, View.readAt_eq_ld, harg6.read_unread]
  pointwise [k0_pay20]
  simp only [modulated_eq, Ideal.ofBits_zero_f32, zero_add]
  rfl

/-- The row with half of the gated layer added. -/
theorem stepped_eq (r : Fin 512) (e : Fin 1024) :
    x0 (ix2 r e) + kernelRun0_A.sl.r_8 (F := Ideal) c arg2 harg2 x1 (ix2 0 e)
        * kernelRun0_A.sl.r_9 (F := Ideal) c arg1 harg1 arg2 harg2 arg3 harg3 arg4 harg4 arg5 harg5 arg6 harg6 arg9 x0 x1 x2 x3 x4 x5 (ix2 r e)
      = stepped (fun d => x0 (ix2 r d)) (fun d => x2 (ix2 0 d)) (fun d => x1 (ix3 0 6 d)) (fun d => x1 (ix3 0 7 d)) (fun d => x1 (ix3 0 8 d))
          (fun d f => x3 (ix2 d f)) (fun d f => x4 (ix2 d f)) (fun f d => x5 (ix2 f d)) e := by
  unfold kernelRun0_A.sl.r_8
  simp only [View.readAt_eq_ld, harg2.read_unread]
  pointwise [k0_pay19]
  rw [layer_eq, stepped]

/-- The block the kernel writes at a point, from the blocks it reads there. -/
theorem out_eq (i : grid0.Coords) (arg7 : Memref sig .tc .vmem S1x1024 .f32) (harg7 : arg7.IsWhole) (arg8 : Memref sig .tc .vmem S512x1024 .f32) (harg8 : arg8.IsWhole)
    (harg9 : arg9.IsWhole) (r : Fin 512) (e : Fin 1024) :
    out0_A_7 (F := Ideal) c i arg1 harg1 arg2 harg2 arg3 harg3 arg4 harg4 arg5 harg5 arg6 harg6 arg7 harg7 arg8 harg8 arg9 harg9 x0 x1 x2 x3 x4 x5 x6 (ix2 r e)
      = normed (stepped (fun d => x0 (ix2 r d)) (fun d => x2 (ix2 0 d)) (fun d => x1 (ix3 0 6 d)) (fun d => x1 (ix3 0 7 d)) (fun d => x1 (ix3 0 8 d))
          (fun d f => x3 (ix2 d f)) (fun d f => x4 (ix2 d f)) (fun f d => x5 (ix2 f d))) (fun d => x6 (ix2 0 d)) e := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  unfold kernelRun0_A
  dsimp only
  rw [View.canon_unit_zero zeros2]
  unfold kernelRun0_A.sl.r
  simp only [View.readAt_eq_ld, harg1.read_unread, harg7.read_unread]
  pointwise [k0_pay1]
  have h := stepped_eq c arg1 harg1 arg2 harg2 arg3 harg3 arg4 harg4 arg5 harg5 arg6 harg6 arg9 x0 x1 x2 x3 x4 x5 r
  unfold normed
  simp only [← h]

end Cert.Final

end
-- ==== Proof.FinalArray.lean ====
/- The array the last layer's feed-forward kernel leaves. The host hands it the same arrays as in the other calls, and its
   blocks lie at the same places, so what the blocks hold is what `HalfArray` says. -/
module

public import proofs.«01_k».proof.Proof.FinalBlock
public import proofs.«01_k».proof.Proof.HalfArray

@[expose] public section

set_option maxRecDepth 16384

noncomputable section

namespace Cert.Final

open Idealize.ShloMosaic Idealize.ShloMosaic.TcCoe Idealize.ShloMosaic.Tactic Idealize.ShloMosaic.StableHlo
open Cert.Half Cert.Kernel3Ideal Cert.Kernel3Ideal.Gen

variable (m : (ℓ : Loc nD τ sig) → Buf (Elt Ideal) ℓ) (c : Dev nD)

theorem block_x (t : Fin cfg0.N) (r : Fin 512) (d : Fin 1024) : iblk m c 0 t (ix2 r d) = m ((c : Thread nD τ).loc main_arg0) (ix2 (rowAt t r) d) :=
  Cert.Half.block_x m c t r d

theorem block_mod (t : Fin cfg0.N) (r : Fin 512) (k : Fin 9) (d : Fin 1024) :
    iblk m c 1 t (ix3 0 k d) = m ((c : Thread nD τ).loc main_arg1) (ix3 ⟨1 + (rowAt t r).1 / 4096, by omega⟩ k d) :=
  Cert.Half.block_mod m c t r k d

theorem block_norm (t : Fin cfg0.N) (d : Fin 1024) : iblk m c 2 t (ix2 0 d) = m ((c : Thread nD τ).loc main_arg2) (ix1 d) :=
  Cert.Half.block_norm m c t d

theorem block_first (t : Fin cfg0.N) : iblk m c 3 t = m ((c : Thread nD τ).loc main_arg3) := Cert.Half.block_first m c t

theorem block_third (t : Fin cfg0.N) : iblk m c 4 t = m ((c : Thread nD τ).loc main_arg4) := Cert.Half.block_third m c t

theorem block_second (t : Fin cfg0.N) : iblk m c 5 t = m ((c : Thread nD τ).loc main_arg5) := Cert.Half.block_second m c t

/-- The last norm's weights as one row. -/
theorem last_eq : V m c main_v4 = shapeCast S1x1024 (m ((c : Thread nD τ).loc main_arg6)) shapeCasts_S1024_S1x1024 := by
  show StableHlo.after hostOps0 _ (Proc.devRef .tc main_v4) = _
  after_results
  rfl

theorem idx_last : ∀ t : Fin cfg0.N, win0_6.index t (0 : Fin 2) = 0 ∧ win0_6.index t (1 : Fin 2) = 0 := (by decide +kernel : ∀ t : Fin grid0.N, _)

theorem block_last (t : Fin cfg0.N) (d : Fin 1024) : iblk m c 6 t (ix2 0 d) = m ((c : Thread nD τ).loc main_arg6) (ix1 d) := by
  obtain ⟨e0, e1⟩ := idx_last t
  show V m c main_v4 (((cfg0.win 6).blk t).view.emb (ix2 0 d)) = _
  have e : ((cfg0.win 6).blk t).view.emb (ix2 0 d) = (ix2 0 d : S1x1024.Idx) := by
    funext a; apply Fin.ext
    match a with
    | ⟨0, _⟩ => show win0_6.index t (0 : Fin 2) * 1 + 1 * 0 = _; rw [e0]; rfl
    | ⟨1, _⟩ => show win0_6.index t (1 : Fin 2) * 1024 + 1 * d.1 = _; rw [e1, Nat.one_mul, Nat.zero_mul, Nat.zero_add]; rfl
  rw [e, last_eq]
  pointwise []

theorem emb_out (t : Fin cfg0.N) (r : Fin 512) (d : Fin 1024) : ((cfg0.win 7).blk t).view.emb (ix2 r d) = (ix2 (rowAt t r) d : S32768x1024.Idx) :=
  Cert.Half.emb_out t r d

/-- The norm of the half-step over the whole stream, from the arguments. -/
def result : S32768x1024.Idx → EReal := fun y =>
  normed (step (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) 6 7 8 (y 0)) (fun d => m ((c : Thread nD τ).loc main_arg6) (ix1 d)) (y 1)

theorem flushed_eq (t : Fin cfg0.N) : (dats m 0 c).flushed 7 t = ((cfg0.win 7).blk t).view.read (Elt Ideal) (result m c) := by
  have cut : ∀ X : Vec Ideal S512x1024 .f32, (cfg0.win 7).cut (grid0.coords t) X = X := fun X => rfl
  rw [Value.flushed7_A, cut, block_first, block_third, block_second]
  funext j
  show _ = result m c (((cfg0.win 7).blk t).view.emb j)
  idx_vars j
  rw [emb_out, out_eq]
  simp only [block_x, block_mod m c t j0, block_norm, block_last]
  rfl

/-- Every element of the result is written at some point. -/
theorem covered (y : S32768x1024.Idx) : ∃ t : Fin cfg0.N, (cfg0.win 7).flush t = true ∧ y ∈ ((cfg0.win 7).blk t).view.set := by
  obtain ⟨t, -, h⟩ := Cert.Half.covered y
  exact ⟨t, flush0_7 _, h⟩

/-- The array the kernel leaves. -/
theorem array_eq : (dats m 0 c).arrAt 7 cfg0.N = result m c :=
  (dats m 0 c).arrAt_eq_of_cover 7 _ (fun t _ => flushed_eq m c t) covered

end Cert.Final

end
-- ==== Proof.FinalRef.lean ====
/- The reference of the last layer's second half-step. Up to the norm at the end it is the other half-step's reference
   with three other rows of the modulation. -/
module

public import proofs.«01_k».proof.Proof.Gen.Reference3Ideal.Read
public import proofs.«01_k».proof.Proof.HalfRef

@[expose] public section

set_option maxRecDepth 16384

noncomputable section

namespace Cert.Final

open Idealize.ShloMosaic Idealize.ShloMosaic.TcCoe Idealize.ShloMosaic.Tactic
open Cert.Half Cert.Reference3Ideal Cert.Reference3Ideal.Gen Cert.Reference3Ideal.Read

variable (x : S32768x1024.Idx → EReal) (md : S16x9x1024.Idx → EReal) (g gf : S1024.Idx → EReal) (w1 w3 : S1024x2816.Idx → EReal) (w2 : S2816x1024.Idx → EReal)

/-- Six rows further, around the nine rows of a modulation. -/
def turn (k : Fin 9) : Fin 9 := k + 6

/-- The modulation with its last three rows in front. -/
def turned : S16x9x1024.Idx → EReal := fun i => md (ix3 (i 0) (turn (i 1)) (i 2))

/-- The shift, the scale and the gate are the first three rows of the turned modulation. -/
theorem ref_shift : val_main_v9 (F := Ideal) md = Cert.Reference2Ideal.Read.val_main_v3 (F := Ideal) (turned md) := by
  funext i
  idx_vars i
  obtain rfl : i1 = 0 := Subsingleton.elim _ _
  rw [Cert.Half.ref_shift]
  pointwise [val_main_v9, val_main_v2, val_main_v1]
  exact congrArg (fun k => md (ix3 _ k i2)) (Fin.ext (by show (6144 + i2.1) / 1024 = 6; omega))

theorem ref_scale : val_main_v10 (F := Ideal) md = Cert.Reference2Ideal.Read.val_main_v4 (F := Ideal) (turned md) := by
  funext i
  idx_vars i
  obtain rfl : i1 = 0 := Subsingleton.elim _ _
  rw [Cert.Half.ref_scale]
  pointwise [val_main_v10, val_main_v2, val_main_v1]
  exact congrArg (fun k => md (ix3 _ k i2)) (Fin.ext (by show (7168 + i2.1) / 1024 = 7; omega))

theorem ref_gate : val_main_v11 (F := Ideal) md = Cert.Reference2Ideal.Read.val_main_v5 (F := Ideal) (turned md) := by
  funext i
  idx_vars i
  obtain rfl : i1 = 0 := Subsingleton.elim _ _
  rw [Cert.Half.ref_gate]
  pointwise [val_main_v11, val_main_v2, val_main_v1]
  exact congrArg (fun k => md (ix3 _ k i2)) (Fin.ext (by show (8192 + i2.1) / 1024 = 8; omega))

/-- The modulated norm, and the stream after the half-step, are the other reference's. -/
theorem ref_modulated : val_main_v30 (F := Ideal) x md g = Cert.Reference2Ideal.Read.val_main_v30 (F := Ideal) x (turned md) g := by
  unfold val_main_v30 val_main_v29 val_main_v28 val_main_v27 val_main_v26
  rw [ref_shift, ref_scale]
  rfl

theorem ref_stepped : val_main_v40 (F := Ideal) x md g w1 w3 w2 = Cert.Reference2Ideal.Read.val_main_v40 (F := Ideal) x (turned md) g w1 w3 w2 := by
  unfold val_main_v40 val_main_v39 val_main_v38 val_main_v37 val_main_v36 val_main_v35 val_main_v34 val_main_call0_v5 val_main_call0_v3 val_main_call0_v1 val_main_call0_v0 val_main_v33 val_main_v32
  rw [ref_gate, ref_modulated]
  rfl

/-- The reference's result is the norm of the half-step of every row. -/
theorem ref_eq : val_main_v54 (F := Ideal) x md g w1 w3 w2 gf = fun y => normed (step x md g w1 w3 w2 6 7 8 (y 0)) (fun d => gf (ix1 d)) (y 1) := by
  funext y
  idx_vars y
  have hr := y0.isLt
  have e : y0 = rowOf ⟨y0.1 / 4096, by omega⟩ ⟨y0.1 % 4096, by omega⟩ := Fin.ext (by show y0.1 = y0.1 / 4096 * 4096 + y0.1 % 4096; omega)
  have h := fun d => Cert.Half.ref_stepped x (turned md) g w1 w3 w2 ⟨y0.1 / 4096, by omega⟩ ⟨y0.1 % 4096, by omega⟩ d
  rw [← e] at h
  replace h : ∀ d, _ = step x md g w1 w3 w2 6 7 8 y0 d := h
  show _ = normed (step x md g w1 w3 w2 6 7 8 y0) (fun d => gf (ix1 d)) y1
  unfold normed
  simp only [← h]
  unfold val_main_v54 val_main_v53 val_main_v50 val_main_v49 val_main_v48 val_main_v47 val_main_v45 val_main_v43 val_main_v42 val_main_v41
  rw [ref_stepped]
  generalize Cert.Reference2Ideal.Read.val_main_v40 (F := Ideal) x (turned md) g w1 w3 w2 = z
  pointwise [val_main_v52, val_main_v51, val_main_v46, val_main_v44, val_main_cst_4, val_main_cst_5, val_main_cst_6]

end Cert.Final

end
-- ==== Proof.OutC.lean ====
/- The output projection of the differential attention: the array its kernel leaves, its reference read at an element,
   and that the two are one function of the arguments. -/
module

public import proofs.«01_k».proof.Proof.Gen.Kernel4Ideal.Value
public import proofs.«01_k».proof.Proof.Gen.Reference4Ideal.Read
public import Idealize.ShloMosaic.Lib.Pointwise
public import Idealize.ShloMosaic.Lib.StableHlo.Run
public import Idealize.ShloMosaic.Lib.Pipeline.ReadBack

@[expose] public section

set_option maxRecDepth 16384

noncomputable section

namespace Cert.OutC

open Idealize.ShloMosaic Idealize.ShloMosaic.TcCoe Idealize.ShloMosaic.Tactic Idealize.ShloMosaic.StableHlo

/-- The stream with the gated projection added; a sequence has 4096 rows and row 5 of its modulation is the gate. -/
def projected (x : (⟨2, ![32768, 1024]⟩ : Shape).Idx → EReal) (md : (⟨3, ![16, 9, 1024]⟩ : Shape).Idx → EReal) (o : (⟨2, ![32768, 1024]⟩ : Shape).Idx → EReal)
    (w : (⟨2, ![1024, 1024]⟩ : Shape).Idx → EReal) (r : Fin 32768) (e : Fin 1024) : EReal :=
  x (ix2 r e) + md (ix3 ⟨1 + r.1 / 4096, by omega⟩ 5 e) * ∑ k : Fin 1024, o (ix2 r k) * w (ix2 k e)

section Kernel

open Cert.Kernel4Ideal Cert.Kernel4Ideal.Gen

variable (m : (ℓ : Loc nD τ sig) → Buf (Elt Ideal) ℓ) (c : Dev nD)

/-- The origin of a block. -/
theorem zeros2 : (![0, 0] : Fin 2 → ℕ) = fun _ => 0 := funext fun a => by fin_cases a <;> rfl

/-- The block the kernel writes at a point, from the blocks it reads there. -/
theorem out_eq (x0 : Vec Ideal S512x1024 .f32) (x1 : Vec Ideal S1x9x1024 .f32) (x2 : Vec Ideal S512x1024 .bf16) (x3 : Vec Ideal S1024x1024 .bf16) (r : Fin 512) (e : Fin 1024) :
    out0_4 (F := Ideal) x0 x1 x2 x3 (ix2 r e) = x0 (ix2 r e) + x1 (ix3 0 5 e) * ∑ k : Fin 1024, x2 (ix2 r k) * x3 (ix2 k e) := by
  unfold out0_4
  rw [View.canon_unit_zero zeros2]
  pointwise [k0_pay1]

/-- The matrix as the call finds it. -/
theorem weight_eq : V m c main_v0 = m ((c : Thread nD τ).loc main_arg3) := by
  show StableHlo.after hostOps0 _ (Proc.devRef .tc main_v0) = _
  after_results
  rfl

theorem idx_x : ∀ t : Fin cfg0.N, win0_0.index t (0 : Fin 2) = t.1 ∧ win0_0.index t (1 : Fin 2) = 0 := (by decide +kernel : ∀ t : Fin grid0.N, _)
theorem idx_mod : ∀ t : Fin cfg0.N, win0_1.index t (0 : Fin 3) = 1 + t.1 / 8 ∧ win0_1.index t (1 : Fin 3) = 0 ∧ win0_1.index t (2 : Fin 3) = 0 :=
  (by decide +kernel : ∀ t : Fin grid0.N, _)
theorem idx_act : ∀ t : Fin cfg0.N, win0_2.index t (0 : Fin 2) = t.1 ∧ win0_2.index t (1 : Fin 2) = 0 := (by decide +kernel : ∀ t : Fin grid0.N, _)
theorem idx_weight : ∀ t : Fin cfg0.N, win0_3.index t (0 : Fin 2) = 0 ∧ win0_3.index t (1 : Fin 2) = 0 := (by decide +kernel : ∀ t : Fin grid0.N, _)
theorem idx_out : ∀ t : Fin cfg0.N, win0_4.index t (0 : Fin 2) = t.1 ∧ win0_4.index t (1 : Fin 2) = 0 := (by decide +kernel : ∀ t : Fin grid0.N, _)

/-- Row `r` of the block a point works on, in the stream. -/
def rowAt (t : Fin cfg0.N) (r : Fin 512) : Fin 32768 := ⟨t.1 * 512 + r.1, by have := t.isLt; have h : cfg0.N = 64 := rfl; omega⟩

theorem block_x (t : Fin cfg0.N) (r : Fin 512) (d : Fin 1024) : iblk m c 0 t (ix2 r d) = m ((c : Thread nD τ).loc main_arg0) (ix2 (rowAt t r) d) := by
  obtain ⟨e0, e1⟩ := idx_x t
  show V m c main_arg0 (((cfg0.win 0).blk t).view.emb (ix2 r d)) = _
  rw [V_main_arg0]
  refine congrArg (m ((c : Thread nD τ).loc main_arg0)) (funext fun a => Fin.ext ?_)
  match a with
  | ⟨0, _⟩ => show win0_0.index t (0 : Fin 2) * 512 + 1 * r.1 = _; rw [e0, Nat.one_mul]; rfl
  | ⟨1, _⟩ => show win0_0.index t (1 : Fin 2) * 1024 + 1 * d.1 = _; rw [e1, Nat.one_mul, Nat.zero_mul, Nat.zero_add]; rfl

theorem block_mod (t : Fin cfg0.N) (r : Fin 512) (k : Fin 9) (d : Fin 1024) :
    iblk m c 1 t (ix3 0 k d) = m ((c : Thread nD τ).loc main_arg1) (ix3 ⟨1 + (rowAt t r).1 / 4096, by omega⟩ k d) := by
  obtain ⟨e0, e1, e2⟩ := idx_mod t
  show V m c main_arg1 (((cfg0.win 1).blk t).view.emb (ix3 0 k d)) = _
  rw [V_main_arg1]
  refine congrArg (m ((c : Thread nD τ).loc main_arg1)) (funext fun a => Fin.ext ?_)
  match a with
  | ⟨0, _⟩ =>
    show win0_1.index t (0 : Fin 3) * 1 + 1 * 0 = 1 + (t.1 * 512 + r.1) / 4096
    rw [e0]; omega
  | ⟨1, _⟩ => show win0_1.index t (1 : Fin 3) * 9 + 1 * k.1 = _; rw [e1, Nat.one_mul, Nat.zero_mul, Nat.zero_add]; rfl
  | ⟨2, _⟩ => show win0_1.index t (2 : Fin 3) * 1024 + 1 * d.1 = _; rw [e2, Nat.one_mul, Nat.zero_mul, Nat.zero_add]; rfl

theorem block_act (t : Fin cfg0.N) (r : Fin 512) (d : Fin 1024) : iblk m c 2 t (ix2 r d) = m ((c : Thread nD τ).loc main_arg2) (ix2 (rowAt t r) d) := by
  obtain ⟨e0, e1⟩ := idx_act t
  show V m c main_arg2 (((cfg0.win 2).blk t).view.emb (ix2 r d)) = _
  rw [V_main_arg2]
  refine congrArg (m ((c : Thread nD τ).loc main_arg2)) (funext fun a => Fin.ext ?_)
  match a with
  | ⟨0, _⟩ => show win0_2.index t (0 : Fin 2) * 512 + 1 * r.1 = _; rw [e0, Nat.one_mul]; rfl
  | ⟨1, _⟩ => show win0_2.index t (1 : Fin 2) * 1024 + 1 * d.1 = _; rw [e1, Nat.one_mul, Nat.zero_mul, Nat.zero_add]; rfl

theorem block_weight (t : Fin cfg0.N) : iblk m c 3 t = m ((c : Thread nD τ).loc main_arg3) := by
  obtain ⟨e0, e1⟩ := idx_weight t
  funext j
  show V m c main_v0 (((cfg0.win 3).blk t).view.emb j) = _
  rw [weight_eq]
  refine congrArg (m ((c : Thread nD τ).loc main_arg3)) (funext fun a => Fin.ext ?_)
  match a with
  | ⟨0, _⟩ => show win0_3.index t (0 : Fin 2) * 1024 + 1 * (j 0).val = _; rw [e0, Nat.one_mul, Nat.zero_mul, Nat.zero_add]; rfl
  | ⟨1, _⟩ => show win0_3.index t (1 : Fin 2) * 1024 + 1 * (j 1).val = _; rw [e1, Nat.one_mul, Nat.zero_mul, Nat.zero_add]; rfl

/-- A block element of the output, in the output. -/
theorem emb_out (t : Fin cfg0.N) (r : Fin 512) (d : Fin 1024) : ((cfg0.win 4).blk t).view.emb (ix2 r d) = (ix2 (rowAt t r) d : S32768x1024.Idx) := by
  obtain ⟨e0, e1⟩ := idx_out t
  funext a; apply Fin.ext
  match a with
  | ⟨0, _⟩ => show win0_4.index t (0 : Fin 2) * 512 + 1 * r.1 = _; rw [e0, Nat.one_mul]; rfl
  | ⟨1, _⟩ => show win0_4.index t (1 : Fin 2) * 1024 + 1 * d.1 = _; rw [e1, Nat.one_mul, Nat.zero_mul, Nat.zero_add]; rfl

/-- The projection over the whole stream, from the arguments. -/
def result : S32768x1024.Idx → EReal := fun y =>
  projected (m ((c : Thread nD τ).loc main_arg0)) (m ((c : Thread nD τ).loc main_arg1)) (m ((c : Thread nD τ).loc main_arg2)) (m ((c : Thread nD τ).loc main_arg3)) (y 0) (y 1)

theorem flushed_eq (t : Fin cfg0.N) : (dats m 0 c).flushed 4 t = ((cfg0.win 4).blk t).view.read (Elt Ideal) (result m c) := by
  have cut : ∀ X : Vec Ideal S512x1024 .f32, (cfg0.win 4).cut (grid0.coords t) X = X := fun X => rfl
  rw [Value.flushed4, cut, block_weight]
  funext j
  show _ = result m c (((cfg0.win 4).blk t).view.emb j)
  idx_vars j
  rw [emb_out, out_eq]
  simp only [block_x, block_mod m c t j0, block_act]
  rfl

/-- Every element of the result is written at some point. -/
theorem covered (y : S32768x1024.Idx) : ∃ t : Fin cfg0.N, (cfg0.win 4).flush t = true ∧ y ∈ ((cfg0.win 4).blk t).view.set := by
  have h0 : (y 0).1 < 32768 := (y 0).isLt
  have h1 : (y 1).1 < 1024 := (y 1).isLt
  let t : Fin cfg0.N := ⟨(y 0).1 / 512, by show _ < 64; omega⟩
  refine ⟨t, flush0_4 _, ?_⟩
  have h := ((cfg0.win 4).blk t).view.emb_mem_set (ix2 ⟨(y 0).1 % 512, by omega⟩ ⟨(y 1).1, h1⟩ : S512x1024.Idx)
  rw [emb_out] at h
  refine (congrArg (· ∈ ((cfg0.win 4).blk t).view.set) (funext fun a => Fin.ext ?_)).mp h
  match a with
  | ⟨0, _⟩ => show (y 0).1 / 512 * 512 + (y 0).1 % 512 = (y 0).1; omega
  | ⟨1, _⟩ => rfl

/-- The array the kernel leaves. -/
theorem array_eq : (dats m 0 c).arrAt 4 cfg0.N = result m c :=
  (dats m 0 c).arrAt_eq_of_cover 4 _ (fun t _ => flushed_eq m c t) covered

end Kernel

section Reference

open Cert.Reference4Ideal Cert.Reference4Ideal.Gen Cert.Reference4Ideal.Read

variable (x : S32768x1024.Idx → EReal) (md : S16x9x1024.Idx → EReal) (o : S32768x1024.Idx → EReal) (w : S1024x1024.Idx → EReal)

/-- The gate of a sequence. -/
theorem ref_gate (b : Fin 8) (z : Fin 1) (d : Fin 1024) : val_main_v8 (F := Ideal) md (ix3 b z d) = md (ix3 ⟨1 + b.1, by omega⟩ 5 d) := by
  obtain rfl : z = 0 := Subsingleton.elim _ _
  pointwise [val_main_v8, val_main_v2, val_main_v1]
  exact congrArg (fun k => md (ix3 _ k d)) (Fin.ext (by show (5120 + d.1) / 1024 = 5; omega))

/-- The stream with the gated projection added, sequence by sequence. -/
theorem ref_row (b : Fin 8) (s : Fin 4096) (d : Fin 1024) (r : Fin 32768) (h : r.1 = b.1 * 4096 + s.1) :
    val_main_v17 (F := Ideal) x md o w (ix3 b s d) = projected x md o w r d := by
  have hb : (⟨1 + b.1, by omega⟩ : Fin 16) = ⟨1 + r.1 / 4096, by omega⟩ := Fin.ext (by show 1 + b.1 = 1 + r.1 / 4096; omega)
  have hg := ref_gate md b 0 d
  rw [hb] at hg
  have hr : (⟨b.1 * 4096 + s.1, by omega⟩ : Fin 32768) = r := Fin.ext h.symm
  unfold projected
  rw [← hg]
  unfold val_main_v17 val_main_v16 val_main_v15
  generalize val_main_v8 (F := Ideal) md = y
  pointwise [val_main_v14, val_main_v13, val_main_v12, val_main_v0]
  simp only [hr]

/-- The reference's result is the gated projection of every row. -/
theorem ref_eq : val_main_v18 (F := Ideal) x md o w = fun y => projected x md o w (y 0) (y 1) := by
  funext y
  idx_vars y
  have hr := y0.isLt
  refine Eq.trans ?_ (ref_row x md o w ⟨y0.1 / 4096, by omega⟩ ⟨y0.1 % 4096, by omega⟩ y1 y0 (by show y0.1 = y0.1 / 4096 * 4096 + y0.1 % 4096; omega))
  unfold val_main_v18
  generalize val_main_v17 (F := Ideal) x md o w = z
  pointwise []

end Reference

end Cert.OutC

end
-- ==== Proof.OutAB.lean ====
/- The output projection of the two mixers of the other layers: the array its kernel leaves, its reference read at an
   element, and that the two are one function of the arguments. The kernel multiplies the two halves by the matrix's upper
   and lower rows and adds; the reference multiplies the halves side by side by the whole matrix. -/
module

public import proofs.«01_k».proof.Proof.Gen.Kernel5Ideal.Value
public import proofs.«01_k».proof.Proof.Gen.Reference5Ideal.Read
public import Idealize.ShloMosaic.Lib.Pointwise
public import Idealize.ShloMosaic.Lib.StableHlo.Run
public import Idealize.ShloMosaic.Lib.Pipeline.ReadBack

@[expose] public section

set_option maxRecDepth 16384

noncomputable section

namespace Cert.OutAB

open Idealize.ShloMosaic Idealize.ShloMosaic.TcCoe Idealize.ShloMosaic.Tactic Idealize.ShloMosaic.StableHlo

/-- A row of the two activations side by side. -/
def joined (oa ob : (⟨2, ![32768, 512]⟩ : Shape).Idx → EReal) (r : Fin 32768) (k : Fin 1024) : EReal :=
  if h : k.1 < 512 then oa (ix2 r ⟨k, h⟩) else ob (ix2 r ⟨k - 512, by omega⟩)

/-- The stream with the gated projection added; a sequence has 4096 rows and row 5 of its modulation is the gate. -/
def projected (x : (⟨2, ![32768, 1024]⟩ : Shape).Idx → EReal) (md : (⟨3, ![16, 9, 1024]⟩ : Shape).Idx → EReal) (oa ob : (⟨2, ![32768, 512]⟩ : Shape).Idx → EReal)
    (w : (⟨2, ![1024, 1024]⟩ : Shape).Idx → EReal) (r : Fin 32768) (e : Fin 1024) : EReal :=
  x (ix2 r e) + md (ix3 ⟨1 + r.1 / 4096, by omega⟩ 5 e) * ∑ k : Fin 1024, joined oa ob r k * w (ix2 k e)

/-- The product of the joined row is the sum of the two halves' products. -/
theorem sum_joined (oa ob : (⟨2, ![32768, 512]⟩ : Shape).Idx → EReal) (w : (⟨2, ![1024, 1024]⟩ : Shape).Idx → EReal) (r : Fin 32768) (e : Fin 1024) :
    ∑ k : Fin 1024, joined oa ob r k * w (ix2 k e)
      = (∑ k : Fin 512, oa (ix2 r k) * w (ix2 ⟨k.1, by omega⟩ e)) + ∑ k : Fin 512, ob (ix2 r k) * w (ix2 ⟨512 + k.1, by omega⟩ e) := by
  refine (Fin.sum_univ_add (a := 512) (b := 512) fun k : Fin 1024 => joined oa ob r k * w (ix2 k e)).trans (congrArg₂ (· + ·) ?_ ?_)
  · refine Finset.sum_congr rfl fun k _ => ?_
    have h : joined oa ob r (Fin.castAdd 512 k) = oa (ix2 r k) := dif_pos k.isLt
    rw [h]
    rfl
  · refine Finset.sum_congr rfl fun k _ => ?_
    have h : joined oa ob r (Fin.natAdd 512 k) = ob (ix2 r k) := by
      rw [joined, dif_neg (by show ¬ 512 + k.1 < 512; omega)]
      exact congrArg (fun k => ob (ix2 r k)) (Fin.ext (by show 512 + k.1 - 512 = k.1; omega))
    rw [h]
    rfl

section Kernel

open Cert.Kernel5Ideal Cert.Kernel5Ideal.Gen

variable (m : (ℓ : Loc nD τ sig) → Buf (Elt Ideal) ℓ) (c : Dev nD)

/-- The origin of a block. -/
theorem zeros2 : (![0, 0] : Fin 2 → ℕ) = fun _ => 0 := funext fun a => by fin_cases a <;> rfl

/-- The block the kernel writes at a point, from the blocks it reads there. -/
theorem out_eq (x0 : Vec Ideal S512x1024 .f32) (x1 : Vec Ideal S1x9x1024 .f32) (x2 x3 : Vec Ideal S512x512 .bf16) (x4 x5 : Vec Ideal S512x1024 .bf16) (r : Fin 512) (e : Fin 1024) :
    out0_6 (F := Ideal) x0 x1 x2 x3 x4 x5 (ix2 r e)
      = x0 (ix2 r e) + x1 (ix3 0 5 e) * ((∑ k : Fin 512, x2 (ix2 r k) * x4 (ix2 k e)) + ∑ k : Fin 512, x3 (ix2 r k) * x5 (ix2 k e)) := by
  unfold out0_6
  rw [View.canon_unit_zero zeros2]
  pointwise [k0_pay1]

/-- The matrix's upper and lower rows as the call finds them. -/
theorem upper_eq (k : Fin 512) (e : Fin 1024) : V m c main_v1 (ix2 k e) = m ((c : Thread nD τ).loc main_arg4) (ix2 ⟨k.1, by omega⟩ e) := by
  have h : V m c main_v1 = extractStridedSlice S512x1024 ![0, 0] (m ((c : Thread nD τ).loc main_arg4)) slices_S1024x1024_S512x1024_0_0 := by
    show StableHlo.after hostOps0 _ (Proc.devRef .tc main_v1) = _
    after_results
    rfl
  rw [h]
  pointwise []

theorem lower_eq (k : Fin 512) (e : Fin 1024) : V m c main_v2 (ix2 k e) = m ((c : Thread nD τ).loc main_arg4) (ix2 ⟨512 + k.1, by omega⟩ e) := by
  have h : V m c main_v2 = extractStridedSlice S512x1024 ![512, 0] (m ((c : Thread nD τ).loc main_arg4)) slices_S1024x1024_S512x1024_512_0 := by
    show StableHlo.after hostOps0 _ (Proc.devRef .tc main_v2) = _
    after_results
    rfl
  rw [h]
  pointwise []

theorem idx_x : ∀ t : Fin cfg0.N, win0_0.index t (0 : Fin 2) = t.1 ∧ win0_0.index t (1 : Fin 2) = 0 := (by decide +kernel : ∀ t : Fin grid0.N, _)
theorem idx_mod : ∀ t : Fin cfg0.N, win0_1.index t (0 : Fin 3) = 1 + t.1 / 8 ∧ win0_1.index t (1 : Fin 3) = 0 ∧ win0_1.index t (2 : Fin 3) = 0 :=
  (by decide +kernel : ∀ t : Fin grid0.N, _)
theorem idx_first : ∀ t : Fin cfg0.N, win0_2.index t (0 : Fin 2) = t.1 ∧ win0_2.index t (1 : Fin 2) = 0 := (by decide +kernel : ∀ t : Fin grid0.N, _)
theorem idx_second : ∀ t : Fin cfg0.N, win0_3.index t (0 : Fin 2) = t.1 ∧ win0_3.index t (1 : Fin 2) = 0 := (by decide +kernel : ∀ t : Fin grid0.N, _)
theorem idx_upper : ∀ t : Fin cfg0.N, win0_4.index t (0 : Fin 2) = 0 ∧ win0_4.index t (1 : Fin 2) = 0 := (by decide +kernel : ∀ t : Fin grid0.N, _)
theorem idx_lower : ∀ t : Fin cfg0.N, win0_5.index t (0 : Fin 2) = 0 ∧ win0_5.index t (1 : Fin 2) = 0 := (by decide +kernel : ∀ t : Fin grid0.N, _)
theorem idx_out : ∀ t : Fin cfg0.N, win0_6.index t (0 : Fin 2) = t.1 ∧ win0_6.index t (1 : Fin 2) = 0 := (by decide +kernel : ∀ t : Fin grid0.N, _)

/-- Row `r` of the block a point works on, in the stream. -/
def rowAt (t : Fin cfg0.N) (r : Fin 512) : Fin 32768 := ⟨t.1 * 512 + r.1, by have := t.isLt; have h : cfg0.N = 64 := rfl; omega⟩

theorem block_x (t : Fin cfg0.N) (r : Fin 512) (d : Fin 1024) : iblk m c 0 t (ix2 r d) = m ((c : Thread nD τ).loc main_arg0) (ix2 (rowAt t r) d) := by
  obtain ⟨e0, e1⟩ := idx_x t
  show V m c main_arg0 (((cfg0.win 0).blk t).view.emb (ix2 r d)) = _
  rw [V_main_arg0]
  refine congrArg (m ((c : Thread nD τ).loc main_arg0)) (funext fun a => Fin.ext ?_)
  match a with
  | ⟨0, _⟩ => show win0_0.index t (0 : Fin 2) * 512 + 1 * r.1 = _; rw [e0, Nat.one_mul]; rfl
  | ⟨1, _⟩ => show win0_0.index t (1 : Fin 2) * 1024 + 1 * d.1 = _; rw [e1, Nat.one_mul, Nat.zero_mul, Nat.zero_add]; rfl

theorem block_mod (t : Fin cfg0.N) (r : Fin 512) (k : Fin 9) (d : Fin 1024) :
    iblk m c 1 t (ix3 0 k d) = m ((c : Thread nD τ).loc main_arg1) (ix3 ⟨1 + (rowAt t r).1 / 4096, by omega⟩ k d) := by
  obtain ⟨e0, e1, e2⟩ := idx_mod t
  show V m c main_arg1 (((cfg0.win 1).blk t).view.emb (ix3 0 k d)) = _
  rw [V_main_arg1]
  refine congrArg (m ((c : Thread nD τ).loc main_arg1)) (funext fun a => Fin.ext ?_)
  match a with
  | ⟨0, _⟩ =>
    show win0_1.index t (0 : Fin 3) * 1 + 1 * 0 = 1 + (t.1 * 512 + r.1) / 4096
    rw [e0]; omega
  | ⟨1, _⟩ => show win0_1.index t (1 : Fin 3) * 9 + 1 * k.1 = _; rw [e1, Nat.one_mul, Nat.zero_mul, Nat.zero_add]; rfl
  | ⟨2, _⟩ => show win0_1.index t (2 : Fin 3) * 1024 + 1 * d.1 = _; rw [e2, Nat.one_mul, Nat.zero_mul, Nat.zero_add]; rfl

theorem block_first (t : Fin cfg0.N) (r : Fin 512) (d : Fin 512) : iblk m c 2 t (ix2 r d) = m ((c : Thread nD τ).loc main_arg2) (ix2 (rowAt t r) d) := by
  obtain ⟨e0, e1⟩ := idx_first t
  show V m c main_arg2 (((cfg0.win 2).blk t).view.emb (ix2 r d)) = _
  rw [V_main_arg2]
  refine congrArg (m ((c : Thread nD τ).loc main_arg2)) (funext fun a => Fin.ext ?_)
  match a with
  | ⟨0, _⟩ => show win0_2.index t (0 : Fin 2) * 512 + 1 * r.1 = _; rw [e0, Nat.one_mul]; rfl
  | ⟨1, _⟩ => show win0_2.index t (1 : Fin 2) * 512 + 1 * d.1 = _; rw [e1, Nat.one_mul, Nat.zero_mul, Nat.zero_add]; rfl

theorem block_second (t : Fin cfg0.N) (r : Fin 512) (d : Fin 512) : iblk m c 3 t (ix2 r d) = m ((c : Thread nD τ).loc main_arg3) (ix2 (rowAt t r) d) := by
  obtain ⟨e0, e1⟩ := idx_second t
  show V m c main_arg3 (((cfg0.win 3).blk t).view.emb (ix2 r d)) = _
  rw [V_main_arg3]
  refine congrArg (m ((c : Thread nD τ).loc main_arg3)) (funext fun a => Fin.ext ?_)
  match a with
  | ⟨0, _⟩ => show win0_3.index t (0 : Fin 2) * 512 + 1 * r.1 = _; rw [e0, Nat.one_mul]; rfl
  | ⟨1, _⟩ => show win0_3.index t (1 : Fin 2) * 512 + 1 * d.1 = _; rw [e1, Nat.one_mul, Nat.zero_mul, Nat.zero_add]; rfl

theorem block_upper (t : Fin cfg0.N) (k : Fin 512) (e : Fin 1024) : iblk m c 4 t (ix2 k e) = m ((c : Thread nD τ).loc main_arg4) (ix2 ⟨k.1, by omega⟩ e) := by
  obtain ⟨e0, e1⟩ := idx_upper t
  refine Eq.trans ?_ (upper_eq m c k e)
  refine congrArg (V m c main_v1) (funext fun a => Fin.ext ?_)
  match a with
  | ⟨0, _⟩ => show win0_4.index t (0 : Fin 2) * 512 + 1 * k.1 = _; rw [e0, Nat.one_mul, Nat.zero_mul, Nat.zero_add]; rfl
  | ⟨1, _⟩ => show win0_4.index t (1 : Fin 2) * 1024 + 1 * e.1 = _; rw [e1, Nat.one_mul, Nat.zero_mul, Nat.zero_add]; rfl

theorem block_lower (t : Fin cfg0.N) (k : Fin 512) (e : Fin 1024) : iblk m c 5 t (ix2 k e) = m ((c : Thread nD τ).loc main_arg4) (ix2 ⟨512 + k.1, by omega⟩ e) := by
  obtain ⟨e0, e1⟩ := idx_lower t
  refine Eq.trans ?_ (lower_eq m c k e)
  refine congrArg (V m c main_v2) (funext fun a => Fin.ext ?_)
  match a with
  | ⟨0, _⟩ => show win0_5.index t (0 : Fin 2) * 512 + 1 * k.1 = _; rw [e0, Nat.one_mul, Nat.zero_mul, Nat.zero_add]; rfl
  | ⟨1, _⟩ => show win0_5.index t (1 : Fin 2) * 1024 + 1 * e.1 = _; rw [e1, Nat.one_mul, Nat.zero_mul, Nat.zero_add]; rfl

/-- A block element of the output, in the output. -/
theorem emb_out (t : Fin cfg0.N) (r : Fin 512) (d : Fin 1024) : ((cfg0.win 6).blk t).view.emb (ix2 r d) = (ix2 (rowAt t r) d : S32768x1024.Idx) := by
  obtain ⟨e0, e1⟩ := idx_out t
  funext a; apply Fin.ext
  match a with
  | ⟨0, _⟩ => show win0_6.index t (0 : Fin 2) * 512 + 1 * r.1 = _; rw [e0, Nat.one_mul]; rfl
  | ⟨1, _⟩ => show win0_6.index t (1 : Fin 2) * 1024 + 1 * d.1 = _; rw [e1, Nat.one_mul, Nat.zero_mul, Nat.zero_add]; rfl

/-- The projection over the whole stream, from the arguments. -/
def result : S32768x1024.Idx → EReal := fun y =>
  projected (m ((c : Thread nD τ).loc main_arg0)) (m ((c : Thread nD τ).loc main_arg1)) (m ((c : Thread nD τ).loc main_arg2)) (m ((c : Thread nD τ).loc main_arg3)) (m ((c : Thread nD τ).loc main_arg4)) (y 0) (y 1)

theorem flushed_eq (t : Fin cfg0.N) : (dats m 0 c).flushed 6 t = ((cfg0.win 6).blk t).view.read (Elt Ideal) (result m c) := by
  have cut : ∀ X : Vec Ideal S512x1024 .f32, (cfg0.win 6).cut (grid0.coords t) X = X := fun X => rfl
  rw [Value.flushed6, cut]
  funext j
  show _ = result m c (((cfg0.win 6).blk t).view.emb j)
  idx_vars j
  rw [emb_out, out_eq]
  simp only [block_x, block_mod m c t j0, block_first, block_second, block_upper, block_lower]
  show _ = projected _ _ _ _ _ (rowAt t j0) j1
  rw [projected, sum_joined]

/-- Every element of the result is written at some point. -/
theorem covered (y : S32768x1024.Idx) : ∃ t : Fin cfg0.N, (cfg0.win 6).flush t = true ∧ y ∈ ((cfg0.win 6).blk t).view.set := by
  have h0 : (y 0).1 < 32768 := (y 0).isLt
  have h1 : (y 1).1 < 1024 := (y 1).isLt
  let t : Fin cfg0.N := ⟨(y 0).1 / 512, by show _ < 64; omega⟩
  refine ⟨t, flush0_6 _, ?_⟩
  have h := ((cfg0.win 6).blk t).view.emb_mem_set (ix2 ⟨(y 0).1 % 512, by omega⟩ ⟨(y 1).1, h1⟩ : S512x1024.Idx)
  rw [emb_out] at h
  refine (congrArg (· ∈ ((cfg0.win 6).blk t).view.set) (funext fun a => Fin.ext ?_)).mp h
  match a with
  | ⟨0, _⟩ => show (y 0).1 / 512 * 512 + (y 0).1 % 512 = (y 0).1; omega
  | ⟨1, _⟩ => rfl

/-- The array the kernel leaves. -/
theorem array_eq : (dats m 0 c).arrAt 6 cfg0.N = result m c :=
  (dats m 0 c).arrAt_eq_of_cover 6 _ (fun t _ => flushed_eq m c t) covered

end Kernel

section Reference

open Cert.Reference5Ideal Cert.Reference5Ideal.Gen Cert.Reference5Ideal.Read

variable (x : S32768x1024.Idx → EReal) (md : S16x9x1024.Idx → EReal) (oa ob : S32768x512.Idx → EReal) (w : S1024x1024.Idx → EReal)

/-- The gate of a sequence. -/
theorem ref_gate (b : Fin 8) (z : Fin 1) (d : Fin 1024) : val_main_v8 (F := Ideal) md (ix3 b z d) = md (ix3 ⟨1 + b.1, by omega⟩ 5 d) := by
  obtain rfl : z = 0 := Subsingleton.elim _ _
  pointwise [val_main_v8, val_main_v2, val_main_v1]
  exact congrArg (fun k => md (ix3 _ k d)) (Fin.ext (by show (5120 + d.1) / 1024 = 5; omega))

/-- The stream with the gated projection added, sequence by sequence. -/
theorem ref_row (b : Fin 8) (s : Fin 4096) (d : Fin 1024) (r : Fin 32768) (h : r.1 = b.1 * 4096 + s.1) :
    val_main_v20 (F := Ideal) x md oa ob w (ix3 b s d) = projected x md oa ob w r d := by
  have hb : (⟨1 + b.1, by omega⟩ : Fin 16) = ⟨1 + r.1 / 4096, by omega⟩ := Fin.ext (by show 1 + b.1 = 1 + r.1 / 4096; omega)
  have hg := ref_gate md b 0 d
  rw [hb] at hg
  have hr : (⟨b.1 * 4096 + s.1, by omega⟩ : Fin 32768) = r := Fin.ext h.symm
  unfold projected
  rw [← hg]
  unfold val_main_v20 val_main_v19 val_main_v18
  generalize val_main_v8 (F := Ideal) md = y
  pointwise [val_main_v17, val_main_v16, val_main_v15, val_main_v14, val_main_v13, val_main_v12, val_main_v0]
  simp only [hr]
  rw [sum_joined]

/-- The reference's result is the gated projection of every row. -/
theorem ref_eq : val_main_v21 (F := Ideal) x md oa ob w = fun y => projected x md oa ob w (y 0) (y 1) := by
  funext y
  idx_vars y
  have hr := y0.isLt
  refine Eq.trans ?_ (ref_row x md oa ob w ⟨y0.1 / 4096, by omega⟩ ⟨y0.1 % 4096, by omega⟩ y1 y0 (by show y0.1 = y0.1 / 4096 * 4096 + y0.1 % 4096; omega))
  unfold val_main_v21
  generalize val_main_v20 (F := Ideal) x md oa ob w = z
  pointwise []

end Reference

end Cert.OutAB

end
-- ==== Proof.InSpec.lean ====
/- An input projection on one row, written over the extended reals: the product of the modulated norm of the row with the
   projection's matrix, its query and key lanes turned by the row's place in the grid. -/
module

public import proofs.«01_k».proof.Proof.HalfSpec

@[expose] public section

set_option maxRecDepth 16384

noncomputable section

namespace Cert.InC

open Idealize.ShloMosaic Cert.Half

/-- A place in the grid as a number. -/
def place (n : ℕ) : EReal := FloatOps.sitofp (F := Ideal) .f32 (BitVec.ofNat 32 n)

/-- The frequency of a lane: the sixteen powers of ten thousand from one down. -/
def freq (k : ℕ) : EReal :=
  Ideal.pow (Ideal.ofBits .f32 0x461C4000#32) (Ideal.div (-place k) (Ideal.ofBits .f32 0x41800000#32))

/-- The angle of a lane at position `s` of a sequence: a grid row has 64 positions, and of the 64 lanes of a head the first
    32 are turned by the grid row, the last 32 by the place in it. -/
def angle (s l : ℕ) : EReal := place (if l % 64 < 32 then s / 64 else s % 64) * freq (l % 16)

/-- The sine of a lane's angle, negated for the first lane of a pair. -/
def signed (s l : ℕ) : EReal := if l % 32 < 16 then -Ideal.sin (angle s l) else Ideal.sin (angle s l)

/-- The lane that is turned together with a lane: sixteen lanes on or back. -/
def partner (l : ℕ) : ℕ := if l % 32 < 16 then l + 16 else l - 16

/-- A lane of the product of a row with the matrix, counted round its columns. -/
def lane {n : ℕ} [NeZero n] (h : Fin 1024 → EReal) (w : Fin 1024 → Fin n → EReal) (f : ℕ) : EReal := ∑ d, h d * w d (Fin.ofNat n f)

/-- A lane of the result: the query and key lanes, the first `k`, are turned, the others are not; `a` and `b` are the factors
    of the lane and of its partner. -/
def turned (k : ℕ) (p : ℕ → EReal) (a b : ℕ → EReal) (f : ℕ) : EReal := if f < k then p f * a f + p (partner f) * b f else p f

/-- The projection of a modulated row at position `s` of its sequence. -/
def projected {n : ℕ} [NeZero n] (k : ℕ) (h : Fin 1024 → EReal) (w : Fin 1024 → Fin n → EReal) (s f : ℕ) : EReal :=
  turned k (lane h w) (fun l => Ideal.cos (angle s l)) (fun l => signed s l) f

/-- The projection of row `r` of the stream, rows 3 and 4 of the modulation of its sequence being the shift and the scale;
    a sequence has 4096 rows, and the first row of the modulations belongs to the other batch. -/
def project {n : ℕ} [NeZero n] (k : ℕ) (x : (⟨2, ![32768, 1024]⟩ : Shape).Idx → EReal) (md : (⟨3, ![16, 9, 1024]⟩ : Shape).Idx → EReal) (g : (⟨1, ![1024]⟩ : Shape).Idx → EReal)
    (w : (⟨2, ![1024, n]⟩ : Shape).Idx → EReal) (r : Fin 32768) (f : ℕ) : EReal :=
  projected k (modulated (fun d => x (ix2 r d)) (fun d => g (ix1 d)) (fun d => md (ix3 ⟨1 + r.1 / 4096, by omega⟩ 3 d)) (fun d => md (ix3 ⟨1 + r.1 / 4096, by omega⟩ 4 d)))
    (fun d f => w (ix2 d f)) (r.1 % 4096) f

/-- A lane's angle depends on the lane within a block of 128 only. -/
theorem angle_mod (s l : ℕ) : angle s (l % 128) = angle s l := by
  unfold angle
  rw [Nat.mod_mod_of_dvd l (by decide : 64 ∣ 128), Nat.mod_mod_of_dvd l (by decide : 16 ∣ 128)]

theorem signed_mod (s l : ℕ) : signed s (l % 128) = signed s l := by
  unfold signed
  rw [angle_mod, Nat.mod_mod_of_dvd l (by decide : 32 ∣ 128)]

end Cert.InC

end
-- ==== Proof.InBlock.lean ====
/- One point of the input projection's kernel, from its blocks to the block it writes: twenty-four tiles of 128 lanes. -/
module

public import proofs.«01_k».proof.Proof.Gen.Kernel6Ideal.Value
public import proofs.«01_k».proof.Proof.InSpec
public import Idealize.ShloMosaic.Lib.Pipeline.ReadBack
public import Idealize.ShloMosaic.Lib.Pipeline.ValueKit.Geometry

@[expose] public section

set_option maxRecDepth 16384

noncomputable section

namespace Cert.InC

open Idealize.ShloMosaic Idealize.ShloMosaic.TcCoe Idealize.ShloMosaic.Tactic
open Cert.Kernel6Ideal Cert.Kernel6Ideal.Gen Cert.Half

/-- The lane of a tile that is turned together with a lane. -/
def other (l : Fin 128) : Fin 128 := ⟨partner l.1, by unfold partner; split <;> omega⟩

/-- The kernel's test for the first lane of a pair. -/
theorem mask : ∀ l : Fin 128, (IntOp.cmpi CmpIPredicate.slt
    (Scalar.select
      (IntOp.andi
        (IntOp.xori
          (IntOp.cmpi CmpIPredicate.slt (IntOp.remsi ArithUnit.vector (BitVec.ofNat 32 l.1) (Scalar.select (Scalar.cmpi CmpIPredicate.eq 32#32 0#32) 1#32 32#32)) 0#32)
          (Scalar.cmpi CmpIPredicate.slt (Scalar.select (Scalar.cmpi CmpIPredicate.eq 32#32 0#32) 1#32 32#32) 0#32))
        (IntOp.cmpi CmpIPredicate.ne (IntOp.remsi ArithUnit.vector (BitVec.ofNat 32 l.1) (Scalar.select (Scalar.cmpi CmpIPredicate.eq 32#32 0#32) 1#32 32#32)) 0#32))
      (IntOp.addi (IntOp.remsi ArithUnit.vector (BitVec.ofNat 32 l.1) (Scalar.select (Scalar.cmpi CmpIPredicate.eq 32#32 0#32) 1#32 32#32))
        (Scalar.select (Scalar.cmpi CmpIPredicate.eq 32#32 0#32) 1#32 32#32))
      (IntOp.remsi ArithUnit.vector (BitVec.ofNat 32 l.1) (Scalar.select (Scalar.cmpi CmpIPredicate.eq 32#32 0#32) 1#32 32#32)))
    16#32) = if l.1 % 32 < 16 then 1#1 else 0#1 := by decide +kernel

/-- A turned tile: each lane times its cosine, and its partner times its signed sine. -/
theorem turn (v : FVec Ideal S512x128 .f32) (a b : Vec Ideal S512x128 .f32) (r : Fin 512) (l : Fin 128) :
    k0_pay29 v a b (ix2 r l) = v (ix2 r l) * a (ix2 r l) + v (ix2 r (other l)) * b (ix2 r l) := by
  pointwise [k0_pay29]
  rw [mask l]
  refine congrArg (fun z => v (ix2 r l) * a (ix2 r l) + z * b (ix2 r l)) ?_
  by_cases hl : l.1 % 32 < 16
  · rw [if_pos hl]
    refine congrArg (fun z => v (ix2 r z)) (Fin.ext ?_)
    show (l.1 + 128 - 112) % 128 = partner l.1
    rw [partner, if_pos hl]; omega
  · rw [if_neg hl]
    refine congrArg (fun z => v (ix2 r z)) (Fin.ext ?_)
    show (l.1 + 128 - 16) % 128 = partner l.1
    rw [partner, if_neg hl]; omega

/-- The two halves of a tile's 256 columns, as columns of the matrix. -/
theorem half_first (h : FVec Ideal S512x1024 .bf16) (w : Vec Ideal S1024x3072 .bf16) (o : ℕ) (inb) (r : Fin 512) (l : Fin 128) (ho : o + 128 ≤ 3072) :
    k0_pay31 h (View.ld w (Rect.unit (s := S1024x3072) ![0, o] S1024x256.size inb)) (ix2 r l) = lane (fun d => h (ix2 r d)) (fun d f => w (ix2 d f)) (o + l.1) := by
  pointwise [k0_pay31, k0_pay30]
  refine Finset.sum_congr rfl fun d _ => congrArg (fun z => h (ix2 r d) * w (ix2 d z)) (Fin.ext ?_)
  show o + l.1 = (o + l.1) % 3072
  omega

theorem half_second (h : FVec Ideal S512x1024 .bf16) (w : Vec Ideal S1024x3072 .bf16) (o : ℕ) (inb) (r : Fin 512) (l : Fin 128) (ho : o + 256 ≤ 3072) :
    k0_pay28 h (View.ld w (Rect.unit (s := S1024x3072) ![0, o] S1024x256.size inb)) (ix2 r l) = lane (fun d => h (ix2 r d)) (fun d f => w (ix2 d f)) (o + 128 + l.1) := by
  pointwise [k0_pay28, k0_pay26]
  refine Finset.sum_congr rfl fun d _ => congrArg (fun z => h (ix2 r d) * w (ix2 d z)) (Fin.ext ?_)
  show o + (128 + l.1) = (o + 128 + l.1) % 3072
  omega

/-- The block a point leaves, from the modulated block, the matrix and the two tables of factors. -/
def block (h : FVec Ideal S512x1024 .bf16) (w : Vec Ideal S1024x3072 .bf16) (a b : Vec Ideal S512x128 .f32) (y : S512x3072.Idx) : EReal :=
  turned 2048 (lane (fun d => h (ix2 (y 0) d)) (fun d f => w (ix2 d f))) (fun l => a (ix2 (y 0) ⟨l % 128, Nat.mod_lt _ (by decide)⟩))
    (fun l => b (ix2 (y 0) ⟨l % 128, Nat.mod_lt _ (by decide)⟩)) (y 1).1

/-- A lane of a turned tile is the block's lane. -/
theorem turn_eq (h : FVec Ideal S512x1024 .bf16) (w : Vec Ideal S1024x3072 .bf16) (a b : Vec Ideal S512x128 .f32) (v : FVec Ideal S512x128 .f32) (o : ℕ) (ho : o % 128 = 0) (hlt : o < 2048)
    (hv : ∀ r l, v (ix2 r l) = lane (fun d => h (ix2 r d)) (fun d f => w (ix2 d f)) (o + l.1)) (r : Fin 512) (l : Fin 128) (y : S512x3072.Idx) (h0 : (y 0).1 = r.1) (h1 : (y 1).1 = o + l.1) :
    k0_pay29 v a b (ix2 r l) = block h w a b y := by
  rw [turn, hv, hv]
  obtain rfl : y 0 = r := Fin.ext h0
  have e : (⟨(o + l.1) % 128, Nat.mod_lt _ (by decide)⟩ : Fin 128) = l := Fin.ext (by show (o + l.1) % 128 = l.1; omega)
  have p : o + (other l).1 = partner (o + l.1) := by
    show o + partner l.1 = _
    unfold partner
    have : (o + l.1) % 32 = l.1 % 32 := by omega
    rw [this]
    split <;> omega
  unfold block turned
  simp only [h1]
  rw [if_pos (by omega), e, p]

/-- A lane of a tile that is not turned. -/
theorem plain_eq (h : FVec Ideal S512x1024 .bf16) (w : Vec Ideal S1024x3072 .bf16) (a b : Vec Ideal S512x128 .f32) (v : FVec Ideal S512x128 .bf16) (o : ℕ) (hlt : 2048 ≤ o)
    (hv : ∀ r l, v (ix2 r l) = lane (fun d => h (ix2 r d)) (fun d f => w (ix2 d f)) (o + l.1)) (r : Fin 512) (l : Fin 128) (y : S512x3072.Idx) (h0 : (y 0).1 = r.1) (h1 : (y 1).1 = o + l.1) :
    v (ix2 r l) = block h w a b y := by
  rw [hv]
  obtain rfl : y 0 = r := Fin.ext h0
  unfold block turned
  rw [h1, if_neg (by omega)]

/-- Two tiles side by side in front of others, turned or not: the stores of one product of 256 columns. -/
def turnedPair (h : FVec Ideal S512x1024 .bf16) (w : Vec Ideal S1024x3072 .bf16) (a b : Vec Ideal S512x128 .f32) (o : ℕ) (i : ∀ k, ![0, o] k + S1024x256.size k ≤ S1024x3072.size k)
    (i0 : ∀ k, ![0, o] k + S512x128.size k ≤ S512x3072.size k) (i1 : ∀ k, ![0, o + 128] k + S512x128.size k ≤ S512x3072.size k)
    (rest : List (View.Piece (Elt Ideal) S512x3072 .bf16)) : List (View.Piece (Elt Ideal) S512x3072 .bf16) :=
  ⟨Rect.unit ![0, o + 128] S512x128.size i1, k0_pay29 (k0_pay28 h (View.ld w (Rect.unit ![0, o] S1024x256.size i))) a b⟩
    :: ⟨Rect.unit ![0, o] S512x128.size i0, k0_pay29 (k0_pay31 h (View.ld w (Rect.unit ![0, o] S1024x256.size i))) a b⟩ :: rest

def plainPair (h : FVec Ideal S512x1024 .bf16) (w : Vec Ideal S1024x3072 .bf16) (o : ℕ) (i : ∀ k, ![0, o] k + S1024x256.size k ≤ S1024x3072.size k)
    (i0 : ∀ k, ![0, o] k + S512x128.size k ≤ S512x3072.size k) (i1 : ∀ k, ![0, o + 128] k + S512x128.size k ≤ S512x3072.size k)
    (rest : List (View.Piece (Elt Ideal) S512x3072 .bf16)) : List (View.Piece (Elt Ideal) S512x3072 .bf16) :=
  ⟨Rect.unit ![0, o + 128] S512x128.size i1, k0_pay5 h (View.ld w (Rect.unit ![0, o] S1024x256.size i))⟩
    :: ⟨Rect.unit ![0, o] S512x128.size i0, k0_pay4 h (View.ld w (Rect.unit ![0, o] S1024x256.size i))⟩ :: rest

theorem tile_val (o : ℕ) (inb) (j : (Rect.unit (s := S512x3072) ![0, o] ![512, 128] inb).shape.Idx) :
    ((Rect.unit (s := S512x3072) ![0, o] ![512, 128] inb).emb j 0).1 = (j 0).1 ∧ ((Rect.unit (s := S512x3072) ![0, o] ![512, 128] inb).emb j 1).1 = o + (j 1).1 :=
  ⟨(ValueKit.rect_emb_unit_val _ _ _ j 0).trans (Nat.zero_add _), ValueKit.rect_emb_unit_val _ _ _ j 1⟩

variable (h : FVec Ideal S512x1024 .bf16) (w : Vec Ideal S1024x3072 .bf16) (a b : Vec Ideal S512x128 .f32)

theorem turnedPair_spec (o : ℕ) (i i0 i1) (ho : o % 128 = 0) (hlt : o + 256 ≤ 2048) (rest) (hr : View.PiecesOf (block h w a b) rest) :
    View.PiecesOf (block h w a b) (turnedPair h w a b o i i0 i1 rest) := by
  refine ⟨?_, ?_, hr⟩ <;> intro j <;> idx_vars j
  · exact turn_eq h w a b _ (o + 128) (by omega) (by omega) (fun r l => half_second h w o i r l (by omega)) j0 j1 _ (tile_val _ _ (ix2 j0 j1)).1 (tile_val _ _ (ix2 j0 j1)).2
  · exact turn_eq h w a b _ o ho (by omega) (fun r l => half_first h w o i r l (by omega)) j0 j1 _ (tile_val _ _ (ix2 j0 j1)).1 (tile_val _ _ (ix2 j0 j1)).2

theorem plainPair_spec (o : ℕ) (i i0 i1) (hlt : 2048 ≤ o) (hle : o + 256 ≤ 3072) (rest) (hr : View.PiecesOf (block h w a b) rest) :
    View.PiecesOf (block h w a b) (plainPair h w o i i0 i1 rest) := by
  refine ⟨?_, ?_, hr⟩ <;> intro j <;> idx_vars j
  · exact plain_eq h w a b _ (o + 128) (by omega) (fun r l => half_second h w o i r l (by omega)) j0 j1 _ (tile_val _ _ (ix2 j0 j1)).1 (tile_val _ _ (ix2 j0 j1)).2
  · exact plain_eq h w a b _ o hlt (fun r l => half_first h w o i r l (by omega)) j0 j1 _ (tile_val _ _ (ix2 j0 j1)).1 (tile_val _ _ (ix2 j0 j1)).2

/-- The tiles the kernel stores, the last ones first. -/
def tiles : List (View.Piece (Elt Ideal) S512x3072 .bf16) :=
  (plainPair h w 2816 inb_S1024x3072_S1024x256_0_2816 inb_S512x3072_S512x128_0_2816 inb_S512x3072_S512x128_0_2944
    (plainPair h w 2560 inb_S1024x3072_S1024x256_0_2560 inb_S512x3072_S512x128_0_2560 inb_S512x3072_S512x128_0_2688
    (plainPair h w 2304 inb_S1024x3072_S1024x256_0_2304 inb_S512x3072_S512x128_0_2304 inb_S512x3072_S512x128_0_2432
    (plainPair h w 2048 inb_S1024x3072_S1024x256_0_2048 inb_S512x3072_S512x128_0_2048 inb_S512x3072_S512x128_0_2176
    (turnedPair h w a b 1792 inb_S1024x3072_S1024x256_0_1792 inb_S512x3072_S512x128_0_1792 inb_S512x3072_S512x128_0_1920
    (turnedPair h w a b 1536 inb_S1024x3072_S1024x256_0_1536 inb_S512x3072_S512x128_0_1536 inb_S512x3072_S512x128_0_1664
    (turnedPair h w a b 1280 inb_S1024x3072_S1024x256_0_1280 inb_S512x3072_S512x128_0_1280 inb_S512x3072_S512x128_0_1408
    (turnedPair h w a b 1024 inb_S1024x3072_S1024x256_0_1024 inb_S512x3072_S512x128_0_1024 inb_S512x3072_S512x128_0_1152
    (turnedPair h w a b 768 inb_S1024x3072_S1024x256_0_768 inb_S512x3072_S512x128_0_768 inb_S512x3072_S512x128_0_896
    (turnedPair h w a b 512 inb_S1024x3072_S1024x256_0_512 inb_S512x3072_S512x128_0_512 inb_S512x3072_S512x128_0_640
    (turnedPair h w a b 256 inb_S1024x3072_S1024x256_0_256 inb_S512x3072_S512x128_0_256 inb_S512x3072_S512x128_0_384
    (turnedPair h w a b 0 inb_S1024x3072_S1024x256_0_0 inb_S512x3072_S512x128_0_0 inb_S512x3072_S512x128_0_128
    []))))))))))))

theorem tiles_spec : View.PiecesOf (block h w a b) (tiles h w a b) := by
  unfold tiles
  repeat' first | exact trivial | refine plainPair_spec h w a b _ _ _ _ (by decide) (by decide) _ ?_ | refine turnedPair_spec h w a b _ _ _ _ (by decide) (by decide) _ ?_

/-- The block after the last tile. -/
theorem tiles_eq (y : S512x3072.Idx) : View.canon (tiles h w a b) y = block h w a b y := by
  have hc := View.cover_of_tiledL (tiles h w a b) S512x128.size (by sl_kernel_rfl) y
  simpa using View.canon_append_of_piecesOf _ [] _ (tiles_spec h w a b) y hc

/-- The origin of a block. -/
theorem origin : (![0, 0] : Fin 2 → ℕ) = fun _ => 0 := funext fun a => by fin_cases a <;> rfl

variable (x0 : Vec Ideal S512x1024 .f32) (x1 : Vec Ideal S1x9x1024 .f32) (x2 : Vec Ideal S1x1024 .f32) (x3 : Vec Ideal S1024x3072 .bf16) (x4 x5 : Vec Ideal S512x128 .f32)

/-- The modulated norm of a row of the block. -/
theorem modulated_eq (r : Fin 512) (d : Fin 1024) :
    k0_pay82 (F := Ideal) x0 x1 x2 x3 x4 x5 (ix2 r d)
      = modulated (fun d => x0 (ix2 r d)) (fun d => x2 (ix2 0 d)) (fun d => x1 (ix3 0 3 d)) (fun d => x1 (ix3 0 4 d)) d := by
  pointwise [k0_pay82, k0_pay6]
  rw [modulated, normed]

/-- The block the kernel writes at a point, from the blocks it reads there. -/
theorem out_eq (r : Fin 512) (f : Fin 3072) :
    out0_6 (F := Ideal) x0 x1 x2 x3 x4 x5 (ix2 r f)
      = turned 2048 (lane (modulated (fun d => x0 (ix2 r d)) (fun d => x2 (ix2 0 d)) (fun d => x1 (ix3 0 3 d)) (fun d => x1 (ix3 0 4 d))) (fun d f => x3 (ix2 d f)))
          (fun l => x4 (ix2 r ⟨l % 128, Nat.mod_lt _ (by decide)⟩)) (fun l => x5 (ix2 r ⟨l % 128, Nat.mod_lt _ (by decide)⟩)) f.1 := by
  have e : out0_6 (F := Ideal) x0 x1 x2 x3 x4 x5 = View.canon (tiles (k0_pay82 x0 x1 x2 x3 x4 x5) x3 (View.ld x4 r0_5) (View.ld x5 r0_5)) := rfl
  have e4 : View.ld x4 r0_5 = x4 := View.ld_unit_zero origin _ _
  have e5 : View.ld x5 r0_5 = x5 := View.ld_unit_zero origin _ _
  have hm := funext (modulated_eq x0 x1 x2 x3 x4 x5 r)
  rw [e, e4, e5, tiles_eq, ← hm]
  rfl

end Cert.InC

end
-- ==== Proof.InTables.lean ====
/- What the host hands to the input projection's kernel: the norm's weights as a row, the matrix, and the two tables of the
   turning, the cosines and the signed sines of every position's lanes. -/
module

public import proofs.«01_k».proof.Proof.Gen.Kernel6Ideal.Value
public import proofs.«01_k».proof.Proof.InSpec
public import Idealize.ShloMosaic.Lib.StableHlo.Run

@[expose] public section

set_option maxRecDepth 16384

noncomputable section

namespace Cert.InC

open Idealize.ShloMosaic Idealize.ShloMosaic.TcCoe Idealize.ShloMosaic.Tactic
open Cert.Kernel6Ideal Cert.Kernel6Ideal.Gen

/-- The sixteen frequencies, as the host computes them. -/
def freqs : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- The angles of all positions, from their places. -/
def angles (p : FVec Ideal S4096 .f32) : FVec Ideal S4096x16 .f32 :=
  mulf (broadcastInDim S4096x16 ![0, 1] bcast_S4096x1_S4096x16_0_1 (broadcastInDim S4096x1 ![0] bcast_S4096_S4096x1_0 p))
    (broadcastInDim S4096x16 ![0, 1] bcast_S1x16_S4096x16_0_1 (broadcastInDim S1x16 ![1] bcast_S16_S1x16_1 freqs))

/-- A table of 128 lanes: four times sixteen lanes side by side, twice. -/
def table (a b c d : FVec Ideal S4096x16 .f32) : FVec Ideal S4096x128 .f32 :=
  shapeCast S4096x128
    (broadcastInDim S1x4096x2x64 ![0, 1, 2, 3] bcast_S1x4096x1x64_S1x4096x2x64_0_1_2_3
      (shapeCast S1x4096x1x64
        (concatenate S4096x64 1 [⟨S4096x16, a⟩, ⟨S4096x16, b⟩, ⟨S4096x16, c⟩, ⟨S4096x16, d⟩] concatenates_S4096x16_S4096x16_S4096x16_S4096x16_S4096x64_d1)
        shapeCasts_S4096x64_S1x4096x1x64))
    shapeCasts_S1x4096x2x64_S4096x128

/-- The floored quotient by a number. -/
def quotients (v : IVec S4096 32) (n : IVec S_ 32) : IVec S4096 32 :=
  select
    (andi (cmpi .ne (signi v) (broadcastInDim S4096 ![] bcast_S_S4096 (signi n)))
      (cmpi .ne (Host.remsi v (broadcastInDim S4096 ![] bcast_S_S4096 n)) (broadcastInDim S4096 ![] bcast_S_S4096 (constantI S_ 32 0#32))))
    (subi (Host.divsi v (broadcastInDim S4096 ![] bcast_S_S4096 n)) (broadcastInDim S4096 ![] bcast_S_S4096 (constantI S_ 32 1#32)))
    (Host.divsi v (broadcastInDim S4096 ![] bcast_S_S4096 n))

/-- The divisor, one in place of zero. -/
def divisor (n : IVec S_ 32) : IVec S_ 32 := select (cmpi .eq n (constantI S_ 32 0#32)) (constantI S_ 32 1#32) n

/-- The remainder with the divisor's sign. -/
def remainders (v : IVec S4096 32) (n : IVec S_ 32) : IVec S4096 32 :=
  select
    (andi
      (cmpi .ne (cmpi .slt (Host.remsi v (broadcastInDim S4096 ![] bcast_S_S4096 (divisor n))) (broadcastInDim S4096 ![] bcast_S_S4096 (constantI S_ 32 0#32)))
        (broadcastInDim S4096 ![] bcast_S_S4096 (cmpi .slt (divisor n) (constantI S_ 32 0#32))))
      (cmpi .ne (Host.remsi v (broadcastInDim S4096 ![] bcast_S_S4096 (divisor n))) (broadcastInDim S4096 ![] bcast_S_S4096 (constantI S_ 32 0#32))))
    (addi (Host.remsi v (broadcastInDim S4096 ![] bcast_S_S4096 (divisor n))) (broadcastInDim S4096 ![] bcast_S_S4096 (divisor n)))
    (Host.remsi v (broadcastInDim S4096 ![] bcast_S_S4096 (divisor n)))

/-- The grid rows and the places in them of all positions. -/
def gridRows : IVec S4096 32 := quotients (iotaInDim S4096 32 0) (constantI S_ 32 64#32)
def gridCols : IVec S4096 32 := remainders (iotaInDim S4096 32 0) (constantI S_ 32 64#32)

theorem gridRows_at (s : Fin 4096) : gridRows (ix1 s) = BitVec.ofNat 32 (s.1 / 64) := by
  pointwise [gridRows, quotients]
  revert s
  decide +kernel

theorem gridCols_at (s : Fin 4096) : gridCols (ix1 s) = BitVec.ofNat 32 (s.1 % 64) := by
  pointwise [gridCols, remainders, divisor]
  revert s
  decide +kernel

/-- An angle of the first or the second table half. -/
theorem angle_row (s : Fin 4096) (k : Fin 16) : angles (sitofp .f32 gridRows) (ix2 s k) = place (s.1 / 64) * freq k.1 := by
  have h := gridRows_at s
  generalize gridRows = z at h ⊢
  pointwise [angles, freqs]
  rw [h]
  rfl

theorem angle_col (s : Fin 4096) (k : Fin 16) : angles (sitofp .f32 gridCols) (ix2 s k) = place (s.1 % 64) * freq k.1 := by
  have h := gridCols_at s
  generalize gridCols = z at h ⊢
  pointwise [angles, freqs]
  rw [h]
  rfl

/-- A table whose four parts are one function of the angle, up to the sign of the first of each pair. -/
theorem table_at (a b c d : FVec Ideal S4096x16 .f32) (s : Fin 4096) (l : Fin 128) (v : EReal)
    (ha : l.1 % 64 < 16 → a (ix2 s ⟨l.1 % 16, Nat.mod_lt _ (by decide)⟩) = v)
    (hb : 16 ≤ l.1 % 64 → l.1 % 64 < 32 → b (ix2 s ⟨l.1 % 16, Nat.mod_lt _ (by decide)⟩) = v)
    (hc : 32 ≤ l.1 % 64 → l.1 % 64 < 48 → c (ix2 s ⟨l.1 % 16, Nat.mod_lt _ (by decide)⟩) = v)
    (hd : 48 ≤ l.1 % 64 → d (ix2 s ⟨l.1 % 16, Nat.mod_lt _ (by decide)⟩) = v) : table a b c d (ix2 s l) = v := by
  pointwise [table]
  have part : ∀ (z : S4096x16.Idx → EReal) (n : ℕ) (hn : n < 16), n = l.1 % 16 → z (ix2 s ⟨l.1 % 16, Nat.mod_lt _ (by decide)⟩) = v → z (ix2 s ⟨n, hn⟩) = v := by
    intro z n hn e hz
    subst e
    exact hz
  by_cases h0 : l.1 % 64 < 16
  · exact (dif_pos h0).trans (part a _ _ (by omega) (ha h0))
  refine (dif_neg h0).trans ?_
  by_cases h1 : l.1 % 64 - 16 < 16
  · exact (dif_pos h1).trans (part b _ (by omega) (by omega) (hb (by omega) (by omega)))
  refine (dif_neg h1).trans ?_
  by_cases h2 : l.1 % 64 - 16 - 16 < 16
  · exact (dif_pos h2).trans (part c _ (by omega) (by omega) (hc (by omega) (by omega)))
  · exact (dif_neg h2).trans (part d _ (by omega) (by omega) (hd (by omega)))

/-! ## The host's lines -/

section Lines

variable (U : Valuation τ sig (Elt Ideal))

theorem table_cos : StableHlo.after (hostOps0_4 (F := Ideal)) U (Proc.devRef .tc main_v37)
    = table (Host.cos (angles (U (Proc.devRef .tc main_v4)))) (Host.cos (angles (U (Proc.devRef .tc main_v4))))
        (Host.cos (angles (sitofp .f32 (U (Proc.devRef .tc main_v5) : IVec S4096 32)))) (Host.cos (angles (sitofp .f32 (U (Proc.devRef .tc main_v5) : IVec S4096 32)))) := rfl

theorem table_sin : StableHlo.after (hostOps0_4 (F := Ideal)) U (Proc.devRef .tc main_v40)
    = table (Host.negf (Host.sin (angles (U (Proc.devRef .tc main_v4))))) (Host.sin (angles (U (Proc.devRef .tc main_v4))))
        (Host.negf (Host.sin (angles (sitofp .f32 (U (Proc.devRef .tc main_v5) : IVec S4096 32))))) (Host.sin (angles (sitofp .f32 (U (Proc.devRef .tc main_v5) : IVec S4096 32)))) := rfl

theorem quotient : StableHlo.after (hostOps0_1 (F := Ideal)) U (Proc.devRef .tc main_v3) = quotients (U (Proc.devRef .tc main_v2)) (U (Proc.devRef .tc main_c)) := rfl

theorem remainder : StableHlo.after (hostOps0_3 (F := Ideal)) U (Proc.devRef .tc main_v5) = remainders (U (Proc.devRef .tc main_v2)) (U (Proc.devRef .tc main_c_0)) := by
  after_results
  simp only [StableHlo.TRef.ofBuf_toBuf]
  unfold remainders divisor
  rfl

theorem kept_rows : StableHlo.after (hostOps0_3 (F := Ideal)) U (Proc.devRef .tc main_v4) = U (Proc.devRef .tc main_v4) := by
  after_results

theorem kept_positions : StableHlo.after (hostOps0_1 (F := Ideal)) U (Proc.devRef .tc main_v2) = U (Proc.devRef .tc main_v2) := by
  after_results

end Lines

variable (m : (ℓ : Loc nD τ sig) → Buf (Elt Ideal) ℓ) (c : Dev nD)

/-- The core's buffers before the last line of host operations. -/
def before : Valuation τ sig (Elt Ideal) :=
  StableHlo.after hostOps0_3 (StableHlo.after hostOps0_2 (StableHlo.after hostOps0_1 (StableHlo.after hostOps0 fun b => m (c, b))))

theorem before_rows : before m c (Proc.devRef .tc main_v4) = sitofp (F := Ideal) .f32 gridRows := by
  unfold before
  rw [kept_rows]
  exact congrArg (sitofp (F := Ideal) .f32) (quotient (StableHlo.after hostOps0 fun b => m (c, b)))

theorem before_cols : before m c (Proc.devRef .tc main_v5) = gridCols := by
  unfold before
  rw [remainder]
  exact congrArg (fun v => remainders v (constantI S_ 32 64#32)) (kept_positions (StableHlo.after hostOps0 fun b => m (c, b)))

/-- The table of cosines. -/
theorem cos_at (s : Fin 4096) (l : Fin 128) : (@V Ideal _ m c main_v37 : FVec Ideal S4096x128 .f32) (ix2 s l) = Ideal.cos (angle s.1 l.1) := by
  have e : (@V Ideal _ m c main_v37 : FVec Ideal S4096x128 .f32) = _ := table_cos (before m c)
  have hr := fun k => angle_row s k
  have hc := fun k => angle_col s k
  rw [e, before_rows, before_cols]
  refine table_at _ _ _ _ s l _ (fun h => ?_) (fun h h' => ?_) (fun h h' => ?_) (fun h => ?_)
  · show Ideal.cos (angles _ _) = _
    rw [hr, angle, if_pos (by omega)]
  · show Ideal.cos (angles _ _) = _
    rw [hr, angle, if_pos (by omega)]
  · show Ideal.cos (angles _ _) = _
    rw [hc, angle, if_neg (by omega)]
  · show Ideal.cos (angles _ _) = _
    rw [hc, angle, if_neg (by omega)]

/-- The table of signed sines. -/
theorem sin_at (s : Fin 4096) (l : Fin 128) : (@V Ideal _ m c main_v40 : FVec Ideal S4096x128 .f32) (ix2 s l) = signed s.1 l.1 := by
  have e : (@V Ideal _ m c main_v40 : FVec Ideal S4096x128 .f32) = _ := table_sin (before m c)
  have hr := fun k => angle_row s k
  have hc := fun k => angle_col s k
  rw [e, before_rows, before_cols]
  refine table_at _ _ _ _ s l _ (fun h => ?_) (fun h h' => ?_) (fun h h' => ?_) (fun h => ?_)
  · show -Ideal.sin (angles _ _) = _
    rw [hr, signed, if_pos (by omega), angle, if_pos (by omega)]
  · show Ideal.sin (angles _ _) = _
    rw [hr, signed, if_neg (by omega), angle, if_pos (by omega)]
  · show -Ideal.sin (angles _ _) = _
    rw [hc, signed, if_pos (by omega), angle, if_neg (by omega)]
  · show Ideal.sin (angles _ _) = _
    rw [hc, signed, if_neg (by omega), angle, if_neg (by omega)]

/-- The norm's weights as one row, and the matrix. -/
theorem norm_eq : @V Ideal _ m c main_v0 = shapeCast S1x1024 (m ((c : Thread nD τ).loc main_arg2)) shapeCasts_S1024_S1x1024 := by
  show StableHlo.after (hostOps0_4 (F := Ideal)) (StableHlo.after hostOps0_3 (StableHlo.after hostOps0_2 (StableHlo.after hostOps0_1 (StableHlo.after hostOps0 fun b => m (c, b))))) (Proc.devRef .tc main_v0) = _
  after_results
  rfl

theorem matrix_eq : @V Ideal _ m c main_v1 = m ((c : Thread nD τ).loc main_arg3) := by
  show StableHlo.after (hostOps0_4 (F := Ideal)) (StableHlo.after hostOps0_3 (StableHlo.after hostOps0_2 (StableHlo.after hostOps0_1 (StableHlo.after hostOps0 fun b => m (c, b))))) (Proc.devRef .tc main_v1) = _
  after_results
  rfl

end Cert.InC

end
-- ==== Proof.InArray.lean ====
/- The array the input projection's kernel leaves: the blocks read at a point as parts of the arguments and of the tables,
   and the written blocks put together. -/
module

public import proofs.«01_k».proof.Proof.InBlock
public import proofs.«01_k».proof.Proof.InTables

@[expose] public section

set_option maxRecDepth 16384

noncomputable section

namespace Cert.InC

open Idealize.ShloMosaic Idealize.ShloMosaic.TcCoe Idealize.ShloMosaic.Tactic Idealize.ShloMosaic.StableHlo
open Cert.Kernel6Ideal Cert.Kernel6Ideal.Gen Cert.Half

variable (m : (ℓ : Loc nD τ sig) → Buf (Elt Ideal) ℓ) (c : Dev nD)

theorem idx_x : ∀ t : Fin cfg0.N, win0_0.index t (0 : Fin 2) = t.1 ∧ win0_0.index t (1 : Fin 2) = 0 := (by decide +kernel : ∀ t : Fin grid0.N, _)
theorem idx_out : ∀ t : Fin cfg0.N, win0_6.index t (0 : Fin 2) = t.1 ∧ win0_6.index t (1 : Fin 2) = 0 := (by decide +kernel : ∀ t : Fin grid0.N, _)
theorem idx_mod : ∀ t : Fin cfg0.N, win0_1.index t (0 : Fin 3) = 1 + t.1 / 8 ∧ win0_1.index t (1 : Fin 3) = 0 ∧ win0_1.index t (2 : Fin 3) = 0 :=
  (by decide +kernel : ∀ t : Fin grid0.N, _)
theorem idx_norm : ∀ t : Fin cfg0.N, win0_2.index t (0 : Fin 2) = 0 ∧ win0_2.index t (1 : Fin 2) = 0 := (by decide +kernel : ∀ t : Fin grid0.N, _)
theorem idx_matrix : ∀ t : Fin cfg0.N, win0_3.index t (0 : Fin 2) = 0 ∧ win0_3.index t (1 : Fin 2) = 0 := (by decide +kernel : ∀ t : Fin grid0.N, _)
theorem idx_cos : ∀ t : Fin cfg0.N, win0_4.index t (0 : Fin 2) = t.1 % 8 ∧ win0_4.index t (1 : Fin 2) = 0 := (by decide +kernel : ∀ t : Fin grid0.N, _)
theorem idx_sin : ∀ t : Fin cfg0.N, win0_5.index t (0 : Fin 2) = t.1 % 8 ∧ win0_5.index t (1 : Fin 2) = 0 := (by decide +kernel : ∀ t : Fin grid0.N, _)

/-- Row `r` of the block a point works on, in the stream. -/
def rowAt (t : Fin cfg0.N) (r : Fin 512) : Fin 32768 := ⟨t.1 * 512 + r.1, by have := t.isLt; have h : cfg0.N = 64 := rfl; omega⟩

theorem block_x (t : Fin cfg0.N) (r : Fin 512) (d : Fin 1024) : iblk m c 0 t (ix2 r d) = m ((c : Thread nD τ).loc main_arg0) (ix2 (rowAt t r) d) := by
  obtain ⟨e0, e1⟩ := idx_x t
  show V m c main_arg0 (((cfg0.win 0).blk t).view.emb (ix2 r d)) = _
  rw [V_main_arg0]
  refine congrArg (m ((c : Thread nD τ).loc main_arg0)) (funext fun a => Fin.ext ?_)
  match a with
  | ⟨0, _⟩ => show win0_0.index t (0 : Fin 2) * 512 + 1 * r.1 = _; rw [e0, Nat.one_mul]; rfl
  | ⟨1, _⟩ => show win0_0.index t (1 : Fin 2) * 1024 + 1 * d.1 = _; rw [e1, Nat.one_mul, Nat.zero_mul, Nat.zero_add]; rfl

theorem block_mod (t : Fin cfg0.N) (r : Fin 512) (k : Fin 9) (d : Fin 1024) :
    iblk m c 1 t (ix3 0 k d) = m ((c : Thread nD τ).loc main_arg1) (ix3 ⟨1 + (rowAt t r).1 / 4096, by omega⟩ k d) := by
  obtain ⟨e0, e1, e2⟩ := idx_mod t
  show V m c main_arg1 (((cfg0.win 1).blk t).view.emb (ix3 0 k d)) = _
  rw [V_main_arg1]
  refine congrArg (m ((c : Thread nD τ).loc main_arg1)) (funext fun a => Fin.ext ?_)
  match a with
  | ⟨0, _⟩ =>
    show win0_1.index t (0 : Fin 3) * 1 + 1 * 0 = 1 + (t.1 * 512 + r.1) / 4096
    rw [e0]; omega
  | ⟨1, _⟩ => show win0_1.index t (1 : Fin 3) * 9 + 1 * k.1 = _; rw [e1, Nat.one_mul, Nat.zero_mul, Nat.zero_add]; rfl
  | ⟨2, _⟩ => show win0_1.index t (2 : Fin 3) * 1024 + 1 * d.1 = _; rw [e2, Nat.one_mul, Nat.zero_mul, Nat.zero_add]; rfl

theorem block_norm (t : Fin cfg0.N) (d : Fin 1024) : iblk m c 2 t (ix2 0 d) = m ((c : Thread nD τ).loc main_arg2) (ix1 d) := by
  obtain ⟨e0, e1⟩ := idx_norm t
  show V m c main_v0 (((cfg0.win 2).blk t).view.emb (ix2 0 d)) = _
  have e : ((cfg0.win 2).blk t).view.emb (ix2 0 d) = (ix2 0 d : S1x1024.Idx) := by
    funext a; apply Fin.ext
    match a with
    | ⟨0, _⟩ => show win0_2.index t (0 : Fin 2) * 1 + 1 * 0 = _; rw [e0]; rfl
    | ⟨1, _⟩ => show win0_2.index t (1 : Fin 2) * 1024 + 1 * d.1 = _; rw [e1, Nat.one_mul, Nat.zero_mul, Nat.zero_add]; rfl
  rw [e, norm_eq]
  pointwise []

theorem block_matrix (t : Fin cfg0.N) : iblk m c 3 t = m ((c : Thread nD τ).loc main_arg3) := by
  obtain ⟨e0, e1⟩ := idx_matrix t
  funext j
  show V m c main_v1 (((cfg0.win 3).blk t).view.emb j) = _
  rw [matrix_eq]
  refine congrArg (m ((c : Thread nD τ).loc main_arg3)) (funext fun a => Fin.ext ?_)
  match a with
  | ⟨0, _⟩ => show win0_3.index t (0 : Fin 2) * 1024 + 1 * (j 0).val = _; rw [e0, Nat.one_mul, Nat.zero_mul, Nat.zero_add]; rfl
  | ⟨1, _⟩ => show win0_3.index t (1 : Fin 2) * 3072 + 1 * (j 1).val = _; rw [e1, Nat.one_mul, Nat.zero_mul, Nat.zero_add]; rfl

/-- The tables' blocks: the factors of a row's position in its sequence. -/
theorem block_cos (t : Fin cfg0.N) (r : Fin 512) (l : Fin 128) : iblk m c 4 t (ix2 r l) = Ideal.cos (angle ((rowAt t r).1 % 4096) l.1) := by
  obtain ⟨e0, e1⟩ := idx_cos t
  show V m c main_v37 (((cfg0.win 4).blk t).view.emb (ix2 r l)) = _
  have e : ((cfg0.win 4).blk t).view.emb (ix2 r l) = (ix2 ⟨(rowAt t r).1 % 4096, Nat.mod_lt _ (by decide)⟩ l : S4096x128.Idx) := by
    funext a; apply Fin.ext
    match a with
    | ⟨0, _⟩ => show win0_4.index t (0 : Fin 2) * 512 + 1 * r.1 = (t.1 * 512 + r.1) % 4096; rw [e0]; omega
    | ⟨1, _⟩ => show win0_4.index t (1 : Fin 2) * 128 + 1 * l.1 = _; rw [e1, Nat.one_mul, Nat.zero_mul, Nat.zero_add]; rfl
  rw [e]
  exact cos_at m c _ l

theorem block_sin (t : Fin cfg0.N) (r : Fin 512) (l : Fin 128) : iblk m c 5 t (ix2 r l) = signed ((rowAt t r).1 % 4096) l.1 := by
  obtain ⟨e0, e1⟩ := idx_sin t
  show V m c main_v40 (((cfg0.win 5).blk t).view.emb (ix2 r l)) = _
  have e : ((cfg0.win 5).blk t).view.emb (ix2 r l) = (ix2 ⟨(rowAt t r).1 % 4096, Nat.mod_lt _ (by decide)⟩ l : S4096x128.Idx) := by
    funext a; apply Fin.ext
    match a with
    | ⟨0, _⟩ => show win0_5.index t (0 : Fin 2) * 512 + 1 * r.1 = (t.1 * 512 + r.1) % 4096; rw [e0]; omega
    | ⟨1, _⟩ => show win0_5.index t (1 : Fin 2) * 128 + 1 * l.1 = _; rw [e1, Nat.one_mul, Nat.zero_mul, Nat.zero_add]; rfl
  rw [e]
  exact sin_at m c _ l

/-- A block element of the output, in the output. -/
theorem emb_out (t : Fin cfg0.N) (r : Fin 512) (f : Fin 3072) : ((cfg0.win 6).blk t).view.emb (ix2 r f) = (ix2 (rowAt t r) f : S32768x3072.Idx) := by
  obtain ⟨e0, e1⟩ := idx_out t
  funext a; apply Fin.ext
  match a with
  | ⟨0, _⟩ => show win0_6.index t (0 : Fin 2) * 512 + 1 * r.1 = _; rw [e0, Nat.one_mul]; rfl
  | ⟨1, _⟩ => show win0_6.index t (1 : Fin 2) * 3072 + 1 * f.1 = _; rw [e1, Nat.one_mul, Nat.zero_mul, Nat.zero_add]; rfl

/-- The projection of the whole stream, from the arguments. -/
def result : S32768x3072.Idx → EReal := fun y =>
  project 2048 (m ((c : Thread nD τ).loc main_arg0)) (m ((c : Thread nD τ).loc main_arg1)) (m ((c : Thread nD τ).loc main_arg2)) (m ((c : Thread nD τ).loc main_arg3)) (y 0) (y 1).1

theorem flushed_eq (t : Fin cfg0.N) : (dats m 0 c).flushed 6 t = ((cfg0.win 6).blk t).view.read (Elt Ideal) (result m c) := by
  have cut : ∀ X : Vec Ideal S512x3072 .bf16, (cfg0.win 6).cut (grid0.coords t) X = X := fun X => rfl
  rw [Value.flushed6, cut, block_matrix]
  funext j
  show _ = result m c (((cfg0.win 6).blk t).view.emb j)
  idx_vars j
  rw [emb_out, out_eq]
  simp only [block_x, block_mod m c t j0, block_norm, block_cos, block_sin, angle_mod, signed_mod]
  rfl

/-- Every element of the result is written at some point. -/
theorem covered (y : S32768x3072.Idx) : ∃ t : Fin cfg0.N, (cfg0.win 6).flush t = true ∧ y ∈ ((cfg0.win 6).blk t).view.set := by
  have h0 : (y 0).1 < 32768 := (y 0).isLt
  have h1 : (y 1).1 < 3072 := (y 1).isLt
  let t : Fin cfg0.N := ⟨(y 0).1 / 512, by show _ < 64; omega⟩
  refine ⟨t, flush0_6 _, ?_⟩
  have h := ((cfg0.win 6).blk t).view.emb_mem_set (ix2 ⟨(y 0).1 % 512, by omega⟩ ⟨(y 1).1, h1⟩ : S512x3072.Idx)
  rw [emb_out] at h
  refine (congrArg (· ∈ ((cfg0.win 6).blk t).view.set) (funext fun a => Fin.ext ?_)).mp h
  match a with
  | ⟨0, _⟩ => show (y 0).1 / 512 * 512 + (y 0).1 % 512 = (y 0).1; omega
  | ⟨1, _⟩ => rfl

/-- The array the input projection's kernel leaves. -/
theorem array_eq : (dats m 0 c).arrAt 6 cfg0.N = result m c :=
  (dats m 0 c).arrAt_eq_of_cover 6 _ (fun t _ => flushed_eq m c t) covered

end Cert.InC

end
-- ==== Proof.InRef.lean ====
/- The input projection's reference read at an element: the modulated norm of a row, its product with the matrix, and the
   queries and keys turned by the position's angles. -/
module

public import proofs.«01_k».proof.Proof.Gen.Reference6Ideal.Read
public import proofs.«01_k».proof.Proof.InSpec

@[expose] public section

set_option maxRecDepth 16384

noncomputable section

namespace Cert.InC

open Idealize.ShloMosaic Idealize.ShloMosaic.TcCoe Idealize.ShloMosaic.Tactic
open Cert.Reference6Ideal Cert.Reference6Ideal.Gen Cert.Reference6Ideal.Read Cert.Half

variable (x : S32768x1024.Idx → EReal) (md : S16x9x1024.Idx → EReal) (g : S1024.Idx → EReal) (w : S1024x3072.Idx → EReal)

/-- Row `s` of sequence `b` in the stream. -/
def rowOf (b : Fin 8) (s : Fin 4096) : Fin 32768 := ⟨b.1 * 4096 + s.1, by omega⟩

/-- An element of the stream, sequence by sequence. -/
theorem ref_row (b : Fin 8) (s : Fin 4096) (d : Fin 1024) : val_main_v0 (F := Ideal) x (ix3 b s d) = x (ix2 (rowOf b s) d) := by
  pointwise [val_main_v0]
  rfl

/-- The shift and the scale. -/
theorem ref_shift (b : Fin 8) (z : Fin 1) (d : Fin 1024) : val_main_v6 (F := Ideal) md (ix3 b z d) = md (ix3 ⟨1 + b.1, by omega⟩ 3 d) := by
  obtain rfl : z = 0 := Subsingleton.elim _ _
  pointwise [val_main_v6, val_main_v2, val_main_v1]
  exact congrArg (fun k => md (ix3 _ k d)) (Fin.ext (by show (3072 + d.1) / 1024 = 3; omega))

theorem ref_scale (b : Fin 8) (z : Fin 1) (d : Fin 1024) : val_main_v7 (F := Ideal) md (ix3 b z d) = md (ix3 ⟨1 + b.1, by omega⟩ 4 d) := by
  obtain rfl : z = 0 := Subsingleton.elim _ _
  pointwise [val_main_v7, val_main_v2, val_main_v1]
  exact congrArg (fun k => md (ix3 _ k d)) (Fin.ext (by show (4096 + d.1) / 1024 = 4; omega))

/-- The modulated norm of a row. -/
theorem ref_modulated (b : Fin 8) (s : Fin 4096) (d : Fin 1024) :
    val_main_v30 (F := Ideal) x md g (ix3 b s d)
      = modulated (fun d => x (ix2 (rowOf b s) d)) (fun d => g (ix1 d)) (fun d => md (ix3 ⟨1 + b.1, by omega⟩ 3 d)) (fun d => md (ix3 ⟨1 + b.1, by omega⟩ 4 d)) d := by
  have h := ref_row x b s
  have h3 := ref_shift md b 0
  have h4 := ref_scale md b 0
  unfold val_main_v30 val_main_v29 val_main_v28 val_main_v27 val_main_v26 val_main_v24 val_main_v21 val_main_v20 val_main_v19 val_main_v18 val_main_v16 val_main_v14 val_main_v13 val_main_v12
  revert h h3 h4
  generalize val_main_v0 (F := Ideal) x = y
  generalize val_main_v6 (F := Ideal) md = y3
  generalize val_main_v7 (F := Ideal) md = y4
  intro h h3 h4
  pointwise [val_main_v25, val_main_v23, val_main_v22, val_main_v17, val_main_v15, val_main_cst, val_main_cst_0, val_main_cst_1, val_main_cst_2]
  simp only [h, h3, h4, modulated, normed]

/-- The product of the modulated row with the matrix. -/
theorem ref_product (b : Fin 8) (s : Fin 4096) (f : Fin 3072) :
    val_main_v31 (F := Ideal) x md g w (ix3 b s f) = lane (fun d => val_main_v30 (F := Ideal) x md g (ix3 b s d)) (fun d f => w (ix2 d f)) f.1 := by
  have e : Fin.ofNat 3072 f.1 = f := Fin.ext (Nat.mod_eq_of_lt f.2)
  unfold val_main_v31 lane
  rw [e]
  generalize val_main_v30 (F := Ideal) x md g = y
  pointwise []

/-- The cosines and sines of the grid rows and of the places in them. -/
theorem ref_cos_row (s : Fin 4096) (z : Fin 1) (k : Fin 16) : val_main_v60 (F := Ideal) (ix3 s z k) = Ideal.cos (place (s.1 / 64) * freq k.1) := by
  unfold val_main_v60 val_main_v53 val_main_v52 val_main_v51 val_main_v50 val_main_v49 val_main_v48 val_main_v47 val_main_v45 val_main_v43 val_main_v37 val_main_v36
  pointwise [val_main_v35, val_main_v42, val_main_v44, val_main_v46, val_main_cst_3, val_main_cst_4]
  rfl

theorem ref_sin_row (s : Fin 4096) (z : Fin 1) (k : Fin 16) : val_main_v61 (F := Ideal) (ix3 s z k) = Ideal.sin (place (s.1 / 64) * freq k.1) := by
  unfold val_main_v61 val_main_v53 val_main_v52 val_main_v51 val_main_v50 val_main_v49 val_main_v48 val_main_v47 val_main_v45 val_main_v43 val_main_v37 val_main_v36
  pointwise [val_main_v35, val_main_v42, val_main_v44, val_main_v46, val_main_cst_3, val_main_cst_4]
  rfl

theorem ref_cos_col (s : Fin 4096) (z : Fin 1) (k : Fin 16) : val_main_v62 (F := Ideal) (ix3 s z k) = Ideal.cos (place (s.1 % 64) * freq k.1) := by
  unfold val_main_v62 val_main_v59 val_main_v58 val_main_v57 val_main_v56 val_main_v55 val_main_v54 val_main_v47 val_main_v45 val_main_v43 val_main_v41 val_main_v40 val_main_v39
  pointwise [val_main_v38, val_main_v42, val_main_v44, val_main_v46, val_main_cst_3, val_main_cst_4]
  rfl

theorem ref_sin_col (s : Fin 4096) (z : Fin 1) (k : Fin 16) : val_main_v63 (F := Ideal) (ix3 s z k) = Ideal.sin (place (s.1 % 64) * freq k.1) := by
  unfold val_main_v63 val_main_v59 val_main_v58 val_main_v57 val_main_v56 val_main_v55 val_main_v54 val_main_v47 val_main_v45 val_main_v43 val_main_v41 val_main_v40 val_main_v39
  pointwise [val_main_v38, val_main_v42, val_main_v44, val_main_v46, val_main_cst_3, val_main_cst_4]
  rfl

/-- A lane of a turned head in the four cases of the reference, in one formula; `p` is the head's first lane. -/
theorem heads (q : ℕ → EReal) (s : Fin 4096) (l : Fin 64) (p : ℕ) (hp : p % 64 = 0) (k : ℕ) (hlt : p + 64 ≤ k) (v : EReal)
    (h : v = if l.1 < 32 then
        if l.1 < 16 then q (p + l.1) * Ideal.cos (place (s.1 / 64) * freq l.1) - q (p + (16 + l.1)) * Ideal.sin (place (s.1 / 64) * freq l.1)
        else q (p + (16 + (l.1 - 16))) * Ideal.cos (place (s.1 / 64) * freq (l.1 - 16)) + q (p + (l.1 - 16)) * Ideal.sin (place (s.1 / 64) * freq (l.1 - 16))
      else if l.1 - 32 < 16 then
        q (p + (32 + (l.1 - 32))) * Ideal.cos (place (s.1 % 64) * freq (l.1 - 32)) - q (p + (32 + (16 + (l.1 - 32)))) * Ideal.sin (place (s.1 % 64) * freq (l.1 - 32))
      else q (p + (32 + (16 + (l.1 - 32 - 16)))) * Ideal.cos (place (s.1 % 64) * freq (l.1 - 32 - 16))
        + q (p + (32 + (l.1 - 32 - 16))) * Ideal.sin (place (s.1 % 64) * freq (l.1 - 32 - 16))) :
    v = turned k q (fun l => Ideal.cos (angle s.1 l)) (fun l => signed s.1 l) (p + l.1) := by
  have hl := l.2
  have neg : ∀ a b c : EReal, a - b * c = a + b * -c := fun a b c => by rw [sub_eq_add_neg, mul_neg]
  rw [h]
  unfold turned
  rw [if_pos (by omega : p + l.1 < k)]
  beta_reduce
  split_ifs with h0 h1 h1
  · have e1 : (p + l.1) % 16 = l.1 := by omega
    have e2 : p + (16 + l.1) = p + l.1 + 16 := by omega
    rw [neg, signed, if_pos (by omega), angle, if_pos (by omega), partner, if_pos (by omega), e1, e2]
  · have e1 : (p + l.1) % 16 = l.1 - 16 := by omega
    have e2 : p + (16 + (l.1 - 16)) = p + l.1 := by omega
    have e3 : p + (l.1 - 16) = p + l.1 - 16 := by omega
    rw [signed, if_neg (by omega), angle, if_pos (by omega), partner, if_neg (by omega), e1, e2, e3]
  · have e1 : (p + l.1) % 16 = l.1 - 32 := by omega
    have e2 : p + (32 + (l.1 - 32)) = p + l.1 := by omega
    have e3 : p + (32 + (16 + (l.1 - 32))) = p + l.1 + 16 := by omega
    rw [neg, signed, if_pos (by omega), angle, if_neg (by omega), partner, if_pos (by omega), e1, e2, e3]
  · have e1 : (p + l.1) % 16 = l.1 - 32 - 16 := by omega
    have e2 : p + (32 + (16 + (l.1 - 32 - 16))) = p + l.1 := by omega
    have e3 : p + (32 + (l.1 - 32 - 16)) = p + l.1 - 16 := by omega
    rw [signed, if_neg (by omega), angle, if_neg (by omega), partner, if_neg (by omega), e1, e2, e3]

/-- The queries and the keys of a position, head by head. -/
theorem ref_queries (b : Fin 8) (s : Fin 4096) (n : Fin 16) (l : Fin 64) :
    val_main_v65 (F := Ideal) x md g w (ix4 b s n l) = lane (fun d => val_main_v30 (F := Ideal) x md g (ix3 b s d)) (fun d f => w (ix2 d f)) (n.1 * 64 + l.1) := by
  rw [← ref_product x md g w b s ⟨n.1 * 64 + l.1, by omega⟩]
  unfold val_main_v65 val_main_v64 val_main_v32
  generalize val_main_v31 (F := Ideal) x md g w = y
  pointwise []

theorem ref_keys (b : Fin 8) (s : Fin 4096) (n : Fin 16) (l : Fin 64) :
    val_main_v105 (F := Ideal) x md g w (ix4 b s n l) = lane (fun d => val_main_v30 (F := Ideal) x md g (ix3 b s d)) (fun d f => w (ix2 d f)) (1024 + n.1 * 64 + l.1) := by
  rw [← ref_product x md g w b s ⟨1024 + n.1 * 64 + l.1, by omega⟩]
  unfold val_main_v105 val_main_v104 val_main_v33
  generalize val_main_v31 (F := Ideal) x md g w = y
  pointwise []
  exact congrArg (fun f => y (ix3 b s f)) (Fin.ext (by show 1024 + (n.1 * 64 + l.1) = 1024 + n.1 * 64 + l.1; omega))

/-- The queries turned. -/
theorem ref_turned_queries (b : Fin 8) (s : Fin 4096) (n : Fin 16) (l : Fin 64) :
    val_main_v102 (F := Ideal) x md g w (ix4 b s n l)
      = projected 2048 (fun d => val_main_v30 (F := Ideal) x md g (ix3 b s d)) (fun d f => w (ix2 d f)) s.1 (n.1 * 64 + l.1) := by
  have hq := fun l => ref_queries x md g w b s n l
  have h60 := ref_cos_row s
  have h61 := ref_sin_row s
  have h62 := ref_cos_col s
  have h63 := ref_sin_col s
  refine heads _ s l (n.1 * 64) (by omega) 2048 (by omega) _ ?_
  unfold val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66
  generalize val_main_v65 (F := Ideal) x md g w = y at hq ⊢
  generalize val_main_v60 (F := Ideal) = cr at h60 ⊢
  generalize val_main_v61 (F := Ideal) = sr at h61 ⊢
  generalize val_main_v62 (F := Ideal) = cc at h62 ⊢
  generalize val_main_v63 (F := Ideal) = sc at h63 ⊢
  pointwise []
  simp only [hq, h60, h61, h62, h63, dite_eq_ite]

/-- The keys turned. -/
theorem ref_turned_keys (b : Fin 8) (s : Fin 4096) (n : Fin 16) (l : Fin 64) :
    val_main_v142 (F := Ideal) x md g w (ix4 b s n l)
      = projected 2048 (fun d => val_main_v30 (F := Ideal) x md g (ix3 b s d)) (fun d f => w (ix2 d f)) s.1 (1024 + n.1 * 64 + l.1) := by
  have hk := fun l => ref_keys x md g w b s n l
  have h60 := ref_cos_row s
  have h61 := ref_sin_row s
  have h62 := ref_cos_col s
  have h63 := ref_sin_col s
  refine heads _ s l (1024 + n.1 * 64) (by omega) 2048 (by omega) _ ?_
  unfold val_main_v142 val_main_v141 val_main_v140 val_main_v139 val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106
  generalize val_main_v105 (F := Ideal) x md g w = y at hk ⊢
  generalize val_main_v60 (F := Ideal) = cr at h60 ⊢
  generalize val_main_v61 (F := Ideal) = sr at h61 ⊢
  generalize val_main_v62 (F := Ideal) = cc at h62 ⊢
  generalize val_main_v63 (F := Ideal) = sc at h63 ⊢
  pointwise []
  simp only [hk, h60, h61, h62, h63, dite_eq_ite]

/-- The values of a position. -/
theorem ref_values (b : Fin 8) (s : Fin 4096) (f : Fin 3072) (hf : 2048 ≤ f.1) :
    val_main_v31 (F := Ideal) x md g w (ix3 b s f)
      = projected 2048 (fun d => val_main_v30 (F := Ideal) x md g (ix3 b s d)) (fun d f => w (ix2 d f)) s.1 f.1 := by
  rw [ref_product, projected, turned, if_neg (by omega)]

/-- The reference's result is the projection of every row. -/
theorem ref_eq : val_main_v148 (F := Ideal) x md g w = fun y => project 2048 x md g w (y 0) (y 1).1 := by
  funext y
  idx_vars y
  have hr := y0.isLt
  have hf := y1.isLt
  have e : rowOf ⟨y0.1 / 4096, by omega⟩ ⟨y0.1 % 4096, by omega⟩ = y0 := Fin.ext (by show y0.1 / 4096 * 4096 + y0.1 % 4096 = y0.1; omega)
  have hm := funext (ref_modulated x md g ⟨y0.1 / 4096, by omega⟩ ⟨y0.1 % 4096, by omega⟩)
  rw [e] at hm
  show _ = project 2048 x md g w y0 y1.1
  unfold project
  rw [← hm]
  have hq := fun n l => ref_turned_queries x md g w ⟨y0.1 / 4096, by omega⟩ ⟨y0.1 % 4096, by omega⟩ n l
  have hk := fun n l => ref_turned_keys x md g w ⟨y0.1 / 4096, by omega⟩ ⟨y0.1 % 4096, by omega⟩ n l
  have hv := fun f h => ref_values x md g w ⟨y0.1 / 4096, by omega⟩ ⟨y0.1 % 4096, by omega⟩ f h
  unfold val_main_v148 val_main_v147 val_main_v146 val_main_v145 val_main_v144 val_main_v143 val_main_v103 val_main_v34
  generalize val_main_v31 (F := Ideal) x md g w = v at hv ⊢
  generalize val_main_v102 (F := Ideal) x md g w = q at hq ⊢
  generalize val_main_v142 (F := Ideal) x md g w = k at hk ⊢
  pointwise []
  by_cases h0 : y1.1 < 1024
  · refine (dif_pos h0).trans ((hq _ _).trans ?_)
    exact congrArg (projected _ _ _ _) (by show y1.1 / 64 * 64 + y1.1 % 64 = y1.1; omega)
  refine (dif_neg h0).trans ?_
  by_cases h1 : y1.1 - 1024 < 1024
  · refine (dif_pos h1).trans ((hk _ _).trans ?_)
    exact congrArg (projected _ _ _ _) (by show 1024 + (y1.1 - 1024) / 64 * 64 + (y1.1 - 1024) % 64 = y1.1; omega)
  · refine (dif_neg h1).trans ((hv ⟨2048 + (y1.1 - 1024 - 1024), by omega⟩ (Nat.le_add_right _ _)).trans ?_)
    exact congrArg (projected _ _ _ _) (by show 2048 + (y1.1 - 1024 - 1024) = y1.1; omega)

end Cert.InC

end
-- ==== Proof.ABBlock.lean ====
/- One point of the mixers' input projection's kernel, from its blocks to the two blocks it writes: six tiles of 128 lanes of
   the windowed attention's part, of which five are turned, and fifteen of the RWKV-7 mixer's part. -/
module

public import proofs.«01_k».proof.Proof.Gen.Kernel7Ideal.Value
public import proofs.«01_k».proof.Proof.InBlock

@[expose] public section

set_option maxRecDepth 16384

noncomputable section

namespace Cert.InAB

open Idealize.ShloMosaic Idealize.ShloMosaic.TcCoe Idealize.ShloMosaic.Tactic
open Cert.Kernel7Ideal Cert.Kernel7Ideal.Gen Cert.Half
open Cert.InC (lane turned partner other turn origin)

/-- A turned tile, as the other input projection has it. -/
abbrev turnTile (v : FVec Ideal S512x128 .f32) (a b : Vec Ideal S512x128 .f32) : FVec Ideal S512x128 .bf16 := Cert.Kernel6Ideal.Gen.k0_pay29 v a b

variable (h : FVec Ideal S512x1024 .bf16) (w : Vec Ideal S1024x2688 .bf16) (a b : Vec Ideal S512x128 .f32)

/-- The two halves of a product of 256 columns, and the last product of 128 columns, as columns of the matrix. -/
theorem half_first (o : ℕ) (inb) (ho : o + 128 ≤ 2688) (r : Fin 512) (l : Fin 128) :
    k0_pay15 h (View.ld w (Rect.unit (s := S1024x2688) ![0, o] S1024x256.size inb)) (ix2 r l) = lane (fun d => h (ix2 r d)) (fun d f => w (ix2 d f)) (o + l.1) := by
  pointwise [k0_pay15, k0_pay14]
  refine Finset.sum_congr rfl fun d _ => congrArg (fun z => h (ix2 r d) * w (ix2 d z)) (Fin.ext ?_)
  show o + l.1 = (o + l.1) % 2688
  omega

theorem half_second (o : ℕ) (inb) (ho : o + 256 ≤ 2688) (r : Fin 512) (l : Fin 128) :
    k0_pay24 h (View.ld w (Rect.unit (s := S1024x2688) ![0, o] S1024x256.size inb)) (ix2 r l) = lane (fun d => h (ix2 r d)) (fun d f => w (ix2 d f)) (o + 128 + l.1) := by
  pointwise [k0_pay24, k0_pay22]
  refine Finset.sum_congr rfl fun d _ => congrArg (fun z => h (ix2 r d) * w (ix2 d z)) (Fin.ext ?_)
  show o + (128 + l.1) = (o + 128 + l.1) % 2688
  omega

theorem last_columns (o : ℕ) (inb) (ho : o + 128 ≤ 2688) (r : Fin 512) (l : Fin 128) :
    k0_pay1 h (View.ld w (Rect.unit (s := S1024x2688) ![0, o] S1024x128.size inb)) (ix2 r l) = lane (fun d => h (ix2 r d)) (fun d f => w (ix2 d f)) (o + l.1) := by
  pointwise [k0_pay1]
  refine Finset.sum_congr rfl fun d _ => congrArg (fun z => h (ix2 r d) * w (ix2 d z)) (Fin.ext ?_)
  show o + l.1 = (o + l.1) % 2688
  omega

/-- A lane of the point's row `r`: the first 640 lanes are turned. -/
def row (r : Fin 512) (f : ℕ) : EReal :=
  turned 640 (lane (fun d => h (ix2 r d)) (fun d f => w (ix2 d f))) (fun l => a (ix2 r ⟨l % 128, Nat.mod_lt _ (by decide)⟩))
    (fun l => b (ix2 r ⟨l % 128, Nat.mod_lt _ (by decide)⟩)) f

/-- A lane of a turned tile is the row's lane. -/
theorem turn_eq (v : FVec Ideal S512x128 .f32) (o : ℕ) (ho : o % 128 = 0) (hlt : o < 640)
    (hv : ∀ r l, v (ix2 r l) = lane (fun d => h (ix2 r d)) (fun d f => w (ix2 d f)) (o + l.1)) (r : Fin 512) (l : Fin 128) :
    turnTile v a b (ix2 r l) = row h w a b r (o + l.1) := by
  refine (turn v a b r l).trans ?_
  rw [hv, hv]
  have e : (⟨(o + l.1) % 128, Nat.mod_lt _ (by decide)⟩ : Fin 128) = l := Fin.ext (by show (o + l.1) % 128 = l.1; omega)
  have p : o + (other l).1 = partner (o + l.1) := by
    show o + partner l.1 = _
    unfold partner
    have : (o + l.1) % 32 = l.1 % 32 := by omega
    rw [this]
    split <;> omega
  unfold row turned
  rw [if_pos (by omega)]
  beta_reduce
  rw [e, p]

/-- A lane of a tile that is not turned. -/
theorem plain_eq (v : FVec Ideal S512x128 .f32) (o : ℕ) (hlt : 640 ≤ o)
    (hv : ∀ r l, v (ix2 r l) = lane (fun d => h (ix2 r d)) (fun d f => w (ix2 d f)) (o + l.1)) (r : Fin 512) (l : Fin 128) :
    v (ix2 r l) = row h w a b r (o + l.1) := by
  rw [hv]
  unfold row turned
  rw [if_neg (by omega)]

/-- The block of the windowed attention's part and that of the RWKV-7 mixer's part. -/
def blockA (y : S512x768.Idx) : EReal := row h w a b (y 0) (y 1).1
def blockB (y : S512x1920.Idx) : EReal := row h w a b (y 0) (768 + (y 1).1)

theorem at_A (o : ℕ) (inb) (r : Fin 512) (l : Fin 128) :
    row h w a b r (o + l.1) = blockA h w a b ((Rect.unit (s := S512x768) ![0, o] S512x128.size inb).emb (ix2 r l)) := by
  have v0 : ((Rect.unit (s := S512x768) ![0, o] S512x128.size inb).emb (ix2 r l) 0).1 = r.1 := by
    rw [ValueKit.rect_emb_unit_val]
    exact Nat.zero_add _
  have e0 : (Rect.unit (s := S512x768) ![0, o] S512x128.size inb).emb (ix2 r l) 0 = r := Fin.ext v0
  have e1 : ((Rect.unit (s := S512x768) ![0, o] S512x128.size inb).emb (ix2 r l) 1).1 = o + l.1 := by
    rw [ValueKit.rect_emb_unit_val]
    rfl
  exact (congrArg₂ (row h w a b) e0 e1).symm

theorem at_B (o p : ℕ) (hp : p = 768 + o) (inb) (r : Fin 512) (l : Fin 128) :
    row h w a b r (p + l.1) = blockB h w a b ((Rect.unit (s := S512x1920) ![0, o] S512x128.size inb).emb (ix2 r l)) := by
  have v0 : ((Rect.unit (s := S512x1920) ![0, o] S512x128.size inb).emb (ix2 r l) 0).1 = r.1 := by
    rw [ValueKit.rect_emb_unit_val]
    exact Nat.zero_add _
  have e0 : (Rect.unit (s := S512x1920) ![0, o] S512x128.size inb).emb (ix2 r l) 0 = r := Fin.ext v0
  have e1 : ((Rect.unit (s := S512x1920) ![0, o] S512x128.size inb).emb (ix2 r l) 1).1 = o + l.1 := by
    rw [ValueKit.rect_emb_unit_val]
    rfl
  have e2 : 768 + ((Rect.unit (s := S512x1920) ![0, o] S512x128.size inb).emb (ix2 r l) 1).1 = p + l.1 := by rw [e1]; omega
  exact (congrArg₂ (row h w a b) e0 e2).symm

/-- The tiles the kernel stores, the last ones first. -/
def tilesA : List (View.Piece (Elt Ideal) S512x768 .bf16) :=
  [⟨r0_13, k0_pay25 (k0_pay24 h (View.ld w r0_11))⟩,
    ⟨r0_12, turnTile (k0_pay15 h (View.ld w r0_11)) a b⟩,
    ⟨r0_10, turnTile (k0_pay24 h (View.ld w r0_8)) a b⟩,
    ⟨r0_9, turnTile (k0_pay15 h (View.ld w r0_8)) a b⟩,
    ⟨r0_7, turnTile (k0_pay24 h (View.ld w r0_4)) a b⟩,
    ⟨r0_6, turnTile (k0_pay15 h (View.ld w r0_4)) a b⟩]

def tilesB : List (View.Piece (Elt Ideal) S512x1920 .f32) :=
  [⟨r0_36, k0_pay1 h (View.ld w r0_35)⟩,
    ⟨r0_34, k0_pay24 h (View.ld w r0_32)⟩,
    ⟨r0_33, k0_pay15 h (View.ld w r0_32)⟩,
    ⟨r0_31, k0_pay24 h (View.ld w r0_29)⟩,
    ⟨r0_30, k0_pay15 h (View.ld w r0_29)⟩,
    ⟨r0_28, k0_pay24 h (View.ld w r0_26)⟩,
    ⟨r0_27, k0_pay15 h (View.ld w r0_26)⟩,
    ⟨r0_25, k0_pay24 h (View.ld w r0_23)⟩,
    ⟨r0_24, k0_pay15 h (View.ld w r0_23)⟩,
    ⟨r0_22, k0_pay24 h (View.ld w r0_20)⟩,
    ⟨r0_21, k0_pay15 h (View.ld w r0_20)⟩,
    ⟨r0_19, k0_pay24 h (View.ld w r0_17)⟩,
    ⟨r0_18, k0_pay15 h (View.ld w r0_17)⟩,
    ⟨r0_16, k0_pay24 h (View.ld w r0_14)⟩,
    ⟨r0_15, k0_pay15 h (View.ld w r0_14)⟩]

theorem tilesA_spec : View.PiecesOf (blockA h w a b) (tilesA h w a b) := by
  refine ⟨?_, ?_, ?_, ?_, ?_, ?_, trivial⟩ <;> intro j <;> idx_vars j
  · exact (plain_eq h w a b _ (512 + 128) (by decide) (half_second h w 512 _ (by decide)) j0 j1).trans (at_A h w a b 640 _ j0 j1)
  · exact (turn_eq h w a b _ 512 (by decide) (by decide) (half_first h w 512 _ (by decide)) j0 j1).trans (at_A h w a b 512 _ j0 j1)
  · exact (turn_eq h w a b _ (256 + 128) (by decide) (by decide) (half_second h w 256 _ (by decide)) j0 j1).trans (at_A h w a b 384 _ j0 j1)
  · exact (turn_eq h w a b _ 256 (by decide) (by decide) (half_first h w 256 _ (by decide)) j0 j1).trans (at_A h w a b 256 _ j0 j1)
  · exact (turn_eq h w a b _ (0 + 128) (by decide) (by decide) (half_second h w 0 _ (by decide)) j0 j1).trans (at_A h w a b 128 _ j0 j1)
  · exact (turn_eq h w a b _ 0 (by decide) (by decide) (half_first h w 0 _ (by decide)) j0 j1).trans (at_A h w a b 0 _ j0 j1)

theorem tilesB_spec : View.PiecesOf (blockB h w a b) (tilesB h w) := by
  refine ⟨?_, ?_, ?_, ?_, ?_, ?_, ?_, ?_, ?_, ?_, ?_, ?_, ?_, ?_, ?_, trivial⟩ <;> intro j <;> idx_vars j
  · exact (plain_eq h w a b _ 2560 (by decide) (last_columns h w 2560 _ (by decide)) j0 j1).trans (at_B h w a b 1792 _ (by decide) _ j0 j1)
  · exact (plain_eq h w a b _ (2304 + 128) (by decide) (half_second h w 2304 _ (by decide)) j0 j1).trans (at_B h w a b 1664 _ (by decide) _ j0 j1)
  · exact (plain_eq h w a b _ 2304 (by decide) (half_first h w 2304 _ (by decide)) j0 j1).trans (at_B h w a b 1536 _ (by decide) _ j0 j1)
  · exact (plain_eq h w a b _ (2048 + 128) (by decide) (half_second h w 2048 _ (by decide)) j0 j1).trans (at_B h w a b 1408 _ (by decide) _ j0 j1)
  · exact (plain_eq h w a b _ 2048 (by decide) (half_first h w 2048 _ (by decide)) j0 j1).trans (at_B h w a b 1280 _ (by decide) _ j0 j1)
  · exact (plain_eq h w a b _ (1792 + 128) (by decide) (half_second h w 1792 _ (by decide)) j0 j1).trans (at_B h w a b 1152 _ (by decide) _ j0 j1)
  · exact (plain_eq h w a b _ 1792 (by decide) (half_first h w 1792 _ (by decide)) j0 j1).trans (at_B h w a b 1024 _ (by decide) _ j0 j1)
  · exact (plain_eq h w a b _ (1536 + 128) (by decide) (half_second h w 1536 _ (by decide)) j0 j1).trans (at_B h w a b 896 _ (by decide) _ j0 j1)
  · exact (plain_eq h w a b _ 1536 (by decide) (half_first h w 1536 _ (by decide)) j0 j1).trans (at_B h w a b 768 _ (by decide) _ j0 j1)
  · exact (plain_eq h w a b _ (1280 + 128) (by decide) (half_second h w 1280 _ (by decide)) j0 j1).trans (at_B h w a b 640 _ (by decide) _ j0 j1)
  · exact (plain_eq h w a b _ 1280 (by decide) (half_first h w 1280 _ (by decide)) j0 j1).trans (at_B h w a b 512 _ (by decide) _ j0 j1)
  · exact (plain_eq h w a b _ (1024 + 128) (by decide) (half_second h w 1024 _ (by decide)) j0 j1).trans (at_B h w a b 384 _ (by decide) _ j0 j1)
  · exact (plain_eq h w a b _ 1024 (by decide) (half_first h w 1024 _ (by decide)) j0 j1).trans (at_B h w a b 256 _ (by decide) _ j0 j1)
  · exact (plain_eq h w a b _ (768 + 128) (by decide) (half_second h w 768 _ (by decide)) j0 j1).trans (at_B h w a b 128 _ (by decide) _ j0 j1)
  · exact (plain_eq h w a b _ 768 (by decide) (half_first h w 768 _ (by decide)) j0 j1).trans (at_B h w a b 0 _ (by decide) _ j0 j1)

/-- The blocks after the last tile. -/
theorem tilesA_eq (y : S512x768.Idx) : View.canon (tilesA h w a b) y = blockA h w a b y := by
  have hc := View.cover_of_tiledL (tilesA h w a b) S512x128.size (by sl_kernel_rfl) y
  simpa using View.canon_append_of_piecesOf _ [] _ (tilesA_spec h w a b) y hc

theorem tilesB_eq (y : S512x1920.Idx) : View.canon (tilesB h w) y = blockB h w a b y := by
  have hc := View.cover_of_tiledL (tilesB h w) S512x128.size (by sl_kernel_rfl) y
  simpa using View.canon_append_of_piecesOf _ [] _ (tilesB_spec h w a b) y hc

variable (x0 : Vec Ideal S512x1024 .f32) (x1 : Vec Ideal S1x9x1024 .f32) (x2 : Vec Ideal S1x1024 .f32) (x3 : Vec Ideal S1024x2688 .bf16) (x4 x5 : Vec Ideal S512x128 .f32)

/-- The modulated norm of a row of the block. -/
theorem modulated_eq (r : Fin 512) (d : Fin 1024) :
    k0_pay47 (F := Ideal) x0 x1 x2 x3 x4 x5 (ix2 r d)
      = modulated (fun d => x0 (ix2 r d)) (fun d => x2 (ix2 0 d)) (fun d => x1 (ix3 0 3 d)) (fun d => x1 (ix3 0 4 d)) d := by
  pointwise [k0_pay47, k0_pay2]
  rw [modulated, normed]

/-- Lane `f` of row `r` that the kernel writes at a point, from the blocks it reads there. -/
def written (r : Fin 512) (f : ℕ) : EReal :=
  turned 640 (lane (modulated (fun d => x0 (ix2 r d)) (fun d => x2 (ix2 0 d)) (fun d => x1 (ix3 0 3 d)) (fun d => x1 (ix3 0 4 d))) (fun d f => x3 (ix2 d f)))
    (fun l => x4 (ix2 r ⟨l % 128, Nat.mod_lt _ (by decide)⟩)) (fun l => x5 (ix2 r ⟨l % 128, Nat.mod_lt _ (by decide)⟩)) f

theorem out_A (r : Fin 512) (f : Fin 768) : out0_6 (F := Ideal) x0 x1 x2 x3 x4 x5 (ix2 r f) = written x0 x1 x2 x3 x4 x5 r f.1 := by
  have e : out0_6 (F := Ideal) x0 x1 x2 x3 x4 x5 = View.canon (tilesA (k0_pay47 x0 x1 x2 x3 x4 x5) x3 (View.ld x4 r0_5) (View.ld x5 r0_5)) := rfl
  have e4 : View.ld x4 r0_5 = x4 := View.ld_unit_zero origin _ _
  have e5 : View.ld x5 r0_5 = x5 := View.ld_unit_zero origin _ _
  have hm := funext (modulated_eq x0 x1 x2 x3 x4 x5 r)
  unfold written
  rw [e, e4, e5, tilesA_eq, ← hm]
  rfl

theorem out_B (r : Fin 512) (f : Fin 1920) : out0_7 (F := Ideal) x0 x1 x2 x3 x4 x5 (ix2 r f) = written x0 x1 x2 x3 x4 x5 r (768 + f.1) := by
  have e : out0_7 (F := Ideal) x0 x1 x2 x3 x4 x5 = View.canon (tilesB (k0_pay47 x0 x1 x2 x3 x4 x5) x3) := rfl
  have hm := funext (modulated_eq x0 x1 x2 x3 x4 x5 r)
  unfold written
  rw [e, tilesB_eq _ _ x4 x5, ← hm]
  rfl

end Cert.InAB

end
-- ==== Proof.ABTables.lean ====
/- What the host hands to the mixers' input projection's kernel: the norm's weights as a row, the matrix, and the two tables
   of the turning, computed as for the other input projection. -/
module

public import proofs.«01_k».proof.Proof.Gen.Kernel7Ideal.Value
public import proofs.«01_k».proof.Proof.InTables

@[expose] public section

set_option maxRecDepth 16384

noncomputable section

namespace Cert.InAB

open Idealize.ShloMosaic Idealize.ShloMosaic.TcCoe Idealize.ShloMosaic.Tactic
open Cert.Kernel7Ideal Cert.Kernel7Ideal.Gen
open Cert.InC (angle signed angles table quotients remainders divisor gridRows gridCols angle_row angle_col table_at)

/-! ## The host's lines -/

section Lines

variable (U : Valuation τ sig (Elt Ideal))

theorem table_cos : StableHlo.after (hostOps0_4 (F := Ideal)) U (Proc.devRef .tc main_v37)
    = table (Host.cos (angles (U (Proc.devRef .tc main_v4)))) (Host.cos (angles (U (Proc.devRef .tc main_v4))))
        (Host.cos (angles (sitofp .f32 (U (Proc.devRef .tc main_v5) : IVec S4096 32)))) (Host.cos (angles (sitofp .f32 (U (Proc.devRef .tc main_v5) : IVec S4096 32)))) := rfl

theorem table_sin : StableHlo.after (hostOps0_4 (F := Ideal)) U (Proc.devRef .tc main_v40)
    = table (Host.negf (Host.sin (angles (U (Proc.devRef .tc main_v4))))) (Host.sin (angles (U (Proc.devRef .tc main_v4))))
        (Host.negf (Host.sin (angles (sitofp .f32 (U (Proc.devRef .tc main_v5) : IVec S4096 32))))) (Host.sin (angles (sitofp .f32 (U (Proc.devRef .tc main_v5) : IVec S4096 32)))) := rfl

theorem quotient : StableHlo.after (hostOps0_1 (F := Ideal)) U (Proc.devRef .tc main_v3) = quotients (U (Proc.devRef .tc main_v2)) (U (Proc.devRef .tc main_c)) := rfl

theorem remainder : StableHlo.after (hostOps0_3 (F := Ideal)) U (Proc.devRef .tc main_v5) = remainders (U (Proc.devRef .tc main_v2)) (U (Proc.devRef .tc main_c_0)) := by
  after_results
  simp only [StableHlo.TRef.ofBuf_toBuf]
  unfold remainders divisor
  rfl

theorem kept_rows : StableHlo.after (hostOps0_3 (F := Ideal)) U (Proc.devRef .tc main_v4) = U (Proc.devRef .tc main_v4) := by
  after_results

theorem kept_positions : StableHlo.after (hostOps0_1 (F := Ideal)) U (Proc.devRef .tc main_v2) = U (Proc.devRef .tc main_v2) := by
  after_results

end Lines

variable (m : (ℓ : Loc nD τ sig) → Buf (Elt Ideal) ℓ) (c : Dev nD)

/-- The core's buffers before the last line of host operations. -/
def before : Valuation τ sig (Elt Ideal) :=
  StableHlo.after hostOps0_3 (StableHlo.after hostOps0_2 (StableHlo.after hostOps0_1 (StableHlo.after hostOps0 fun b => m (c, b))))

theorem before_rows : before m c (Proc.devRef .tc main_v4) = sitofp (F := Ideal) .f32 gridRows := by
  unfold before
  rw [kept_rows]
  exact congrArg (sitofp (F := Ideal) .f32) (quotient (StableHlo.after hostOps0 fun b => m (c, b)))

theorem before_cols : before m c (Proc.devRef .tc main_v5) = gridCols := by
  unfold before
  rw [remainder]
  exact congrArg (fun v => remainders v (constantI S_ 32 64#32)) (kept_positions (StableHlo.after hostOps0 fun b => m (c, b)))

/-- The table of cosines. -/
theorem cos_at (s : Fin 4096) (l : Fin 128) : (@V Ideal _ m c main_v37 : FVec Ideal S4096x128 .f32) (ix2 s l) = Ideal.cos (angle s.1 l.1) := by
  have e : (@V Ideal _ m c main_v37 : FVec Ideal S4096x128 .f32) = _ := table_cos (before m c)
  have hr := fun k => angle_row s k
  have hc := fun k => angle_col s k
  rw [e, before_rows, before_cols]
  refine table_at _ _ _ _ s l _ (fun h => ?_) (fun h h' => ?_) (fun h h' => ?_) (fun h => ?_)
  · show Ideal.cos (angles _ _) = _
    rw [hr, angle, if_pos (by omega)]
  · show Ideal.cos (angles _ _) = _
    rw [hr, angle, if_pos (by omega)]
  · show Ideal.cos (angles _ _) = _
    rw [hc, angle, if_neg (by omega)]
  · show Ideal.cos (angles _ _) = _
    rw [hc, angle, if_neg (by omega)]

/-- The table of signed sines. -/
theorem sin_at (s : Fin 4096) (l : Fin 128) : (@V Ideal _ m c main_v40 : FVec Ideal S4096x128 .f32) (ix2 s l) = signed s.1 l.1 := by
  have e : (@V Ideal _ m c main_v40 : FVec Ideal S4096x128 .f32) = _ := table_sin (before m c)
  have hr := fun k => angle_row s k
  have hc := fun k => angle_col s k
  rw [e, before_rows, before_cols]
  refine table_at _ _ _ _ s l _ (fun h => ?_) (fun h h' => ?_) (fun h h' => ?_) (fun h => ?_)
  · show -Ideal.sin (angles _ _) = _
    rw [hr, signed, if_pos (by omega), angle, if_pos (by omega)]
  · show Ideal.sin (angles _ _) = _
    rw [hr, signed, if_neg (by omega), angle, if_pos (by omega)]
  · show -Ideal.sin (angles _ _) = _
    rw [hc, signed, if_pos (by omega), angle, if_neg (by omega)]
  · show Ideal.sin (angles _ _) = _
    rw [hc, signed, if_neg (by omega), angle, if_neg (by omega)]

/-- The norm's weights as one row, and the matrix. -/
theorem norm_eq : @V Ideal _ m c main_v0 = shapeCast S1x1024 (m ((c : Thread nD τ).loc main_arg2)) shapeCasts_S1024_S1x1024 := by
  show StableHlo.after (hostOps0_4 (F := Ideal)) (StableHlo.after hostOps0_3 (StableHlo.after hostOps0_2 (StableHlo.after hostOps0_1 (StableHlo.after hostOps0 fun b => m (c, b))))) (Proc.devRef .tc main_v0) = _
  after_results
  rfl

theorem matrix_eq : @V Ideal _ m c main_v1 = m ((c : Thread nD τ).loc main_arg3) := by
  show StableHlo.after (hostOps0_4 (F := Ideal)) (StableHlo.after hostOps0_3 (StableHlo.after hostOps0_2 (StableHlo.after hostOps0_1 (StableHlo.after hostOps0 fun b => m (c, b))))) (Proc.devRef .tc main_v1) = _
  after_results
  rfl

end Cert.InAB

end
-- ==== Proof.ABArray.lean ====
/- The two arrays the mixers' input projection's kernel leaves: the blocks read at a point as parts of the arguments and of
   the tables, and the written blocks put together. -/
module

public import proofs.«01_k».proof.Proof.ABBlock
public import proofs.«01_k».proof.Proof.ABTables

@[expose] public section

set_option maxRecDepth 16384

noncomputable section

namespace Cert.InAB

open Idealize.ShloMosaic Idealize.ShloMosaic.TcCoe Idealize.ShloMosaic.Tactic Idealize.ShloMosaic.StableHlo
open Cert.Kernel7Ideal Cert.Kernel7Ideal.Gen Cert.Half
open Cert.InC (angle signed angle_mod signed_mod project)

variable (m : (ℓ : Loc nD τ sig) → Buf (Elt Ideal) ℓ) (c : Dev nD)

theorem idx_x : ∀ t : Fin cfg0.N, win0_0.index t (0 : Fin 2) = t.1 ∧ win0_0.index t (1 : Fin 2) = 0 := (by decide +kernel : ∀ t : Fin grid0.N, _)
theorem idx_A : ∀ t : Fin cfg0.N, win0_6.index t (0 : Fin 2) = t.1 ∧ win0_6.index t (1 : Fin 2) = 0 := (by decide +kernel : ∀ t : Fin grid0.N, _)
theorem idx_B : ∀ t : Fin cfg0.N, win0_7.index t (0 : Fin 2) = t.1 ∧ win0_7.index t (1 : Fin 2) = 0 := (by decide +kernel : ∀ t : Fin grid0.N, _)
theorem idx_mod : ∀ t : Fin cfg0.N, win0_1.index t (0 : Fin 3) = 1 + t.1 / 8 ∧ win0_1.index t (1 : Fin 3) = 0 ∧ win0_1.index t (2 : Fin 3) = 0 :=
  (by decide +kernel : ∀ t : Fin grid0.N, _)
theorem idx_norm : ∀ t : Fin cfg0.N, win0_2.index t (0 : Fin 2) = 0 ∧ win0_2.index t (1 : Fin 2) = 0 := (by decide +kernel : ∀ t : Fin grid0.N, _)
theorem idx_matrix : ∀ t : Fin cfg0.N, win0_3.index t (0 : Fin 2) = 0 ∧ win0_3.index t (1 : Fin 2) = 0 := (by decide +kernel : ∀ t : Fin grid0.N, _)
theorem idx_cos : ∀ t : Fin cfg0.N, win0_4.index t (0 : Fin 2) = t.1 % 8 ∧ win0_4.index t (1 : Fin 2) = 0 := (by decide +kernel : ∀ t : Fin grid0.N, _)
theorem idx_sin : ∀ t : Fin cfg0.N, win0_5.index t (0 : Fin 2) = t.1 % 8 ∧ win0_5.index t (1 : Fin 2) = 0 := (by decide +kernel : ∀ t : Fin grid0.N, _)

/-- Row `r` of the block a point works on, in the stream. -/
def rowAt (t : Fin cfg0.N) (r : Fin 512) : Fin 32768 := ⟨t.1 * 512 + r.1, by have := t.isLt; have h : cfg0.N = 64 := rfl; omega⟩

theorem block_x (t : Fin cfg0.N) (r : Fin 512) (d : Fin 1024) : iblk m c 0 t (ix2 r d) = m ((c : Thread nD τ).loc main_arg0) (ix2 (rowAt t r) d) := by
  obtain ⟨e0, e1⟩ := idx_x t
  show V m c main_arg0 (((cfg0.win 0).blk t).view.emb (ix2 r d)) = _
  rw [V_main_arg0]
  refine congrArg (m ((c : Thread nD τ).loc main_arg0)) (funext fun a => Fin.ext ?_)
  match a with
  | ⟨0, _⟩ => show win0_0.index t (0 : Fin 2) * 512 + 1 * r.1 = _; rw [e0, Nat.one_mul]; rfl
  | ⟨1, _⟩ => show win0_0.index t (1 : Fin 2) * 1024 + 1 * d.1 = _; rw [e1, Nat.one_mul, Nat.zero_mul, Nat.zero_add]; rfl

theorem block_mod (t : Fin cfg0.N) (r : Fin 512) (k : Fin 9) (d : Fin 1024) :
    iblk m c 1 t (ix3 0 k d) = m ((c : Thread nD τ).loc main_arg1) (ix3 ⟨1 + (rowAt t r).1 / 4096, by omega⟩ k d) := by
  obtain ⟨e0, e1, e2⟩ := idx_mod t
  show V m c main_arg1 (((cfg0.win 1).blk t).view.emb (ix3 0 k d)) = _
  rw [V_main_arg1]
  refine congrArg (m ((c : Thread nD τ).loc main_arg1)) (funext fun a => Fin.ext ?_)
  match a with
  | ⟨0, _⟩ =>
    show win0_1.index t (0 : Fin 3) * 1 + 1 * 0 = 1 + (t.1 * 512 + r.1) / 4096
    rw [e0]; omega
  | ⟨1, _⟩ => show win0_1.index t (1 : Fin 3) * 9 + 1 * k.1 = _; rw [e1, Nat.one_mul, Nat.zero_mul, Nat.zero_add]; rfl
  | ⟨2, _⟩ => show win0_1.index t (2 : Fin 3) * 1024 + 1 * d.1 = _; rw [e2, Nat.one_mul, Nat.zero_mul, Nat.zero_add]; rfl

theorem block_norm (t : Fin cfg0.N) (d : Fin 1024) : iblk m c 2 t (ix2 0 d) = m ((c : Thread nD τ).loc main_arg2) (ix1 d) := by
  obtain ⟨e0, e1⟩ := idx_norm t
  show V m c main_v0 (((cfg0.win 2).blk t).view.emb (ix2 0 d)) = _
  have e : ((cfg0.win 2).blk t).view.emb (ix2 0 d) = (ix2 0 d : S1x1024.Idx) := by
    funext a; apply Fin.ext
    match a with
    | ⟨0, _⟩ => show win0_2.index t (0 : Fin 2) * 1 + 1 * 0 = _; rw [e0]; rfl
    | ⟨1, _⟩ => show win0_2.index t (1 : Fin 2) * 1024 + 1 * d.1 = _; rw [e1, Nat.one_mul, Nat.zero_mul, Nat.zero_add]; rfl
  rw [e, norm_eq]
  pointwise []

theorem block_matrix (t : Fin cfg0.N) : iblk m c 3 t = m ((c : Thread nD τ).loc main_arg3) := by
  obtain ⟨e0, e1⟩ := idx_matrix t
  funext j
  show V m c main_v1 (((cfg0.win 3).blk t).view.emb j) = _
  rw [matrix_eq]
  refine congrArg (m ((c : Thread nD τ).loc main_arg3)) (funext fun a => Fin.ext ?_)
  match a with
  | ⟨0, _⟩ => show win0_3.index t (0 : Fin 2) * 1024 + 1 * (j 0).val = _; rw [e0, Nat.one_mul, Nat.zero_mul, Nat.zero_add]; rfl
  | ⟨1, _⟩ => show win0_3.index t (1 : Fin 2) * 2688 + 1 * (j 1).val = _; rw [e1, Nat.one_mul, Nat.zero_mul, Nat.zero_add]; rfl

/-- The tables' blocks: the factors of a row's position in its sequence. -/
theorem block_cos (t : Fin cfg0.N) (r : Fin 512) (l : Fin 128) : iblk m c 4 t (ix2 r l) = Ideal.cos (angle ((rowAt t r).1 % 4096) l.1) := by
  obtain ⟨e0, e1⟩ := idx_cos t
  show V m c main_v37 (((cfg0.win 4).blk t).view.emb (ix2 r l)) = _
  have e : ((cfg0.win 4).blk t).view.emb (ix2 r l) = (ix2 ⟨(rowAt t r).1 % 4096, Nat.mod_lt _ (by decide)⟩ l : S4096x128.Idx) := by
    funext a; apply Fin.ext
    match a with
    | ⟨0, _⟩ => show win0_4.index t (0 : Fin 2) * 512 + 1 * r.1 = (t.1 * 512 + r.1) % 4096; rw [e0]; omega
    | ⟨1, _⟩ => show win0_4.index t (1 : Fin 2) * 128 + 1 * l.1 = _; rw [e1, Nat.one_mul, Nat.zero_mul, Nat.zero_add]; rfl
  rw [e]
  exact cos_at m c _ l

theorem block_sin (t : Fin cfg0.N) (r : Fin 512) (l : Fin 128) : iblk m c 5 t (ix2 r l) = signed ((rowAt t r).1 % 4096) l.1 := by
  obtain ⟨e0, e1⟩ := idx_sin t
  show V m c main_v40 (((cfg0.win 5).blk t).view.emb (ix2 r l)) = _
  have e : ((cfg0.win 5).blk t).view.emb (ix2 r l) = (ix2 ⟨(rowAt t r).1 % 4096, Nat.mod_lt _ (by decide)⟩ l : S4096x128.Idx) := by
    funext a; apply Fin.ext
    match a with
    | ⟨0, _⟩ => show win0_5.index t (0 : Fin 2) * 512 + 1 * r.1 = (t.1 * 512 + r.1) % 4096; rw [e0]; omega
    | ⟨1, _⟩ => show win0_5.index t (1 : Fin 2) * 128 + 1 * l.1 = _; rw [e1, Nat.one_mul, Nat.zero_mul, Nat.zero_add]; rfl
  rw [e]
  exact sin_at m c _ l

/-- The blocks read at a point give the projection of the rows. -/
theorem written_eq (t : Fin cfg0.N) (r : Fin 512) (f : ℕ) :
    written (iblk m c 0 t) (iblk m c 1 t) (iblk m c 2 t) (iblk m c 3 t) (iblk m c 4 t) (iblk m c 5 t) r f
      = project 640 (m ((c : Thread nD τ).loc main_arg0)) (m ((c : Thread nD τ).loc main_arg1)) (m ((c : Thread nD τ).loc main_arg2)) (m ((c : Thread nD τ).loc main_arg3)) (rowAt t r) f := by
  unfold written
  rw [block_matrix]
  simp only [block_x, block_mod m c t r, block_norm, block_cos, block_sin, angle_mod, signed_mod]
  rfl

/-- A block element of the output, in the output. -/
theorem emb_A (t : Fin cfg0.N) (r : Fin 512) (f : Fin 768) : ((cfg0.win 6).blk t).view.emb (ix2 r f) = (ix2 (rowAt t r) f : S32768x768.Idx) := by
  obtain ⟨e0, e1⟩ := idx_A t
  funext a; apply Fin.ext
  match a with
  | ⟨0, _⟩ => show win0_6.index t (0 : Fin 2) * 512 + 1 * r.1 = _; rw [e0, Nat.one_mul]; rfl
  | ⟨1, _⟩ => show win0_6.index t (1 : Fin 2) * 768 + 1 * f.1 = _; rw [e1, Nat.one_mul, Nat.zero_mul, Nat.zero_add]; rfl

/-- The windowed attention's part of the projection of the whole stream, from the arguments. -/
def resultA : S32768x768.Idx → EReal := fun y =>
  project 640 (m ((c : Thread nD τ).loc main_arg0)) (m ((c : Thread nD τ).loc main_arg1)) (m ((c : Thread nD τ).loc main_arg2)) (m ((c : Thread nD τ).loc main_arg3)) (y 0) (y 1).1

theorem flushed_A (t : Fin cfg0.N) : (dats m 0 c).flushed 6 t = ((cfg0.win 6).blk t).view.read (Elt Ideal) (resultA m c) := by
  have cut : ∀ X : Vec Ideal S512x768 .bf16, (cfg0.win 6).cut (grid0.coords t) X = X := fun X => rfl
  rw [Value.flushed6, cut]
  funext j
  show _ = resultA m c (((cfg0.win 6).blk t).view.emb j)
  idx_vars j
  rw [emb_A, out_A, written_eq]
  rfl

/-- Every element of the result is written at some point. -/
theorem covered_A (y : S32768x768.Idx) : ∃ t : Fin cfg0.N, (cfg0.win 6).flush t = true ∧ y ∈ ((cfg0.win 6).blk t).view.set := by
  have h0 : (y 0).1 < 32768 := (y 0).isLt
  have h1 : (y 1).1 < 768 := (y 1).isLt
  let t : Fin cfg0.N := ⟨(y 0).1 / 512, by show _ < 64; omega⟩
  refine ⟨t, flush0_6 _, ?_⟩
  have h := ((cfg0.win 6).blk t).view.emb_mem_set (ix2 ⟨(y 0).1 % 512, by omega⟩ ⟨(y 1).1, h1⟩ : S512x768.Idx)
  rw [emb_A] at h
  refine (congrArg (· ∈ ((cfg0.win 6).blk t).view.set) (funext fun a => Fin.ext ?_)).mp h
  match a with
  | ⟨0, _⟩ => show (y 0).1 / 512 * 512 + (y 0).1 % 512 = (y 0).1; omega
  | ⟨1, _⟩ => rfl

/-- The array the kernel leaves. -/
theorem array_A : (dats m 0 c).arrAt 6 cfg0.N = resultA m c :=
  (dats m 0 c).arrAt_eq_of_cover 6 _ (fun t _ => flushed_A m c t) covered_A

/-- A block element of the output, in the output. -/
theorem emb_B (t : Fin cfg0.N) (r : Fin 512) (f : Fin 1920) : ((cfg0.win 7).blk t).view.emb (ix2 r f) = (ix2 (rowAt t r) f : S32768x1920.Idx) := by
  obtain ⟨e0, e1⟩ := idx_B t
  funext a; apply Fin.ext
  match a with
  | ⟨0, _⟩ => show win0_7.index t (0 : Fin 2) * 512 + 1 * r.1 = _; rw [e0, Nat.one_mul]; rfl
  | ⟨1, _⟩ => show win0_7.index t (1 : Fin 2) * 1920 + 1 * f.1 = _; rw [e1, Nat.one_mul, Nat.zero_mul, Nat.zero_add]; rfl

/-- The RWKV-7 mixer's part of the projection of the whole stream, from the arguments. -/
def resultB : S32768x1920.Idx → EReal := fun y =>
  project 640 (m ((c : Thread nD τ).loc main_arg0)) (m ((c : Thread nD τ).loc main_arg1)) (m ((c : Thread nD τ).loc main_arg2)) (m ((c : Thread nD τ).loc main_arg3)) (y 0) (768 + (y 1).1)

theorem flushed_B (t : Fin cfg0.N) : (dats m 0 c).flushed 7 t = ((cfg0.win 7).blk t).view.read (Elt Ideal) (resultB m c) := by
  have cut : ∀ X : Vec Ideal S512x1920 .f32, (cfg0.win 7).cut (grid0.coords t) X = X := fun X => rfl
  rw [Value.flushed7, cut]
  funext j
  show _ = resultB m c (((cfg0.win 7).blk t).view.emb j)
  idx_vars j
  rw [emb_B, out_B, written_eq]
  rfl

/-- Every element of the result is written at some point. -/
theorem covered_B (y : S32768x1920.Idx) : ∃ t : Fin cfg0.N, (cfg0.win 7).flush t = true ∧ y ∈ ((cfg0.win 7).blk t).view.set := by
  have h0 : (y 0).1 < 32768 := (y 0).isLt
  have h1 : (y 1).1 < 1920 := (y 1).isLt
  let t : Fin cfg0.N := ⟨(y 0).1 / 512, by show _ < 64; omega⟩
  refine ⟨t, flush0_7 _, ?_⟩
  have h := ((cfg0.win 7).blk t).view.emb_mem_set (ix2 ⟨(y 0).1 % 512, by omega⟩ ⟨(y 1).1, h1⟩ : S512x1920.Idx)
  rw [emb_B] at h
  refine (congrArg (· ∈ ((cfg0.win 7).blk t).view.set) (funext fun a => Fin.ext ?_)).mp h
  match a with
  | ⟨0, _⟩ => show (y 0).1 / 512 * 512 + (y 0).1 % 512 = (y 0).1; omega
  | ⟨1, _⟩ => rfl

/-- The array the kernel leaves. -/
theorem array_B : (dats m 0 c).arrAt 7 cfg0.N = resultB m c :=
  (dats m 0 c).arrAt_eq_of_cover 7 _ (fun t _ => flushed_B m c t) covered_B

end Cert.InAB

end
-- ==== Proof.ABRef.lean ====
/- The reference of the mixers' input projection read at an element. Its modulated norm and its cosines and sines are those of
   the other input projection's reference. -/
module

public import proofs.«01_k».proof.Proof.Gen.Reference7Ideal.Read
public import proofs.«01_k».proof.Proof.InRef

@[expose] public section

set_option maxRecDepth 16384

noncomputable section

namespace Cert.InAB

open Idealize.ShloMosaic Idealize.ShloMosaic.TcCoe Idealize.ShloMosaic.Tactic
open Cert.Reference7Ideal Cert.Reference7Ideal.Gen Cert.Reference7Ideal.Read Cert.Half
open Cert.InC (place freq lane turned projected project rowOf heads ref_modulated ref_cos_row ref_sin_row ref_cos_col ref_sin_col)

variable (x : S32768x1024.Idx → EReal) (md : S16x9x1024.Idx → EReal) (g : S1024.Idx → EReal) (w : S1024x2688.Idx → EReal)

/-- The modulated norm of a row. -/
abbrev modRow (b : Fin 8) (s : Fin 4096) (d : Fin 1024) : EReal := Cert.Reference6Ideal.Read.val_main_v30 (F := Ideal) x md g (ix3 b s d)

theorem norm_same : val_main_v30 (F := Ideal) x md g = Cert.Reference6Ideal.Read.val_main_v30 (F := Ideal) x md g := rfl

/-- The cosines and sines of the grid rows and of the places in them. -/
theorem cos_row_same : val_main_v61 (F := Ideal) = Cert.Reference6Ideal.Read.val_main_v60 (F := Ideal) := rfl
theorem sin_row_same : val_main_v62 (F := Ideal) = Cert.Reference6Ideal.Read.val_main_v61 (F := Ideal) := rfl
theorem cos_col_same : val_main_v63 (F := Ideal) = Cert.Reference6Ideal.Read.val_main_v62 (F := Ideal) := rfl
theorem sin_col_same : val_main_v64 (F := Ideal) = Cert.Reference6Ideal.Read.val_main_v63 (F := Ideal) := rfl

/-- The product of the modulated row with the matrix. -/
theorem ref_product (b : Fin 8) (s : Fin 4096) (f : Fin 2688) :
    val_main_v31 (F := Ideal) x md g w (ix3 b s f) = lane (modRow x md g b s) (fun d f => w (ix2 d f)) f.1 := by
  have e : Fin.ofNat 2688 f.1 = f := Fin.ext (Nat.mod_eq_of_lt f.2)
  unfold val_main_v31 lane modRow
  rw [e, norm_same]
  generalize Cert.Reference6Ideal.Read.val_main_v30 (F := Ideal) x md g = y
  pointwise []

/-- The queries and the keys of a position, head by head. -/
theorem ref_queries (b : Fin 8) (s : Fin 4096) (n : Fin 8) (l : Fin 64) :
    val_main_v65 (F := Ideal) x md g w (ix4 b s n l) = lane (modRow x md g b s) (fun d f => w (ix2 d f)) (n.1 * 64 + l.1) := by
  rw [← ref_product x md g w b s ⟨n.1 * 64 + l.1, by omega⟩]
  unfold val_main_v65 val_main_v33 val_main_v32
  generalize val_main_v31 (F := Ideal) x md g w = y
  pointwise []

theorem ref_keys (b : Fin 8) (s : Fin 4096) (n : Fin 2) (l : Fin 64) :
    val_main_v103 (F := Ideal) x md g w (ix4 b s n l) = lane (modRow x md g b s) (fun d f => w (ix2 d f)) (512 + n.1 * 64 + l.1) := by
  rw [← ref_product x md g w b s ⟨512 + n.1 * 64 + l.1, by omega⟩]
  unfold val_main_v103 val_main_v34 val_main_v32
  generalize val_main_v31 (F := Ideal) x md g w = y
  pointwise []
  exact congrArg (fun f => y (ix3 b s f)) (Fin.ext (by show 512 + (n.1 * 64 + l.1) = 512 + n.1 * 64 + l.1; omega))

/-- The queries turned. -/
theorem ref_turned_queries (b : Fin 8) (s : Fin 4096) (n : Fin 8) (l : Fin 64) :
    val_main_v102 (F := Ideal) x md g w (ix4 b s n l) = projected 640 (modRow x md g b s) (fun d f => w (ix2 d f)) s.1 (n.1 * 64 + l.1) := by
  have hq := fun l => ref_queries x md g w b s n l
  have h61 := ref_cos_row s
  have h62 := ref_sin_row s
  have h63 := ref_cos_col s
  have h64 := ref_sin_col s
  rw [← cos_row_same] at h61
  rw [← sin_row_same] at h62
  rw [← cos_col_same] at h63
  rw [← sin_col_same] at h64
  refine heads _ s l (n.1 * 64) (by omega) 640 (by omega) _ ?_
  unfold val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66
  generalize val_main_v65 (F := Ideal) x md g w = y at hq ⊢
  generalize val_main_v61 (F := Ideal) = cr at h61 ⊢
  generalize val_main_v62 (F := Ideal) = sr at h62 ⊢
  generalize val_main_v63 (F := Ideal) = cc at h63 ⊢
  generalize val_main_v64 (F := Ideal) = sc at h64 ⊢
  pointwise []
  simp only [hq, h61, h62, h63, h64, dite_eq_ite]

/-- The keys turned. -/
theorem ref_turned_keys (b : Fin 8) (s : Fin 4096) (n : Fin 2) (l : Fin 64) :
    val_main_v140 (F := Ideal) x md g w (ix4 b s n l) = projected 640 (modRow x md g b s) (fun d f => w (ix2 d f)) s.1 (512 + n.1 * 64 + l.1) := by
  have hq := fun l => ref_keys x md g w b s n l
  have h61 := ref_cos_row s
  have h62 := ref_sin_row s
  have h63 := ref_cos_col s
  have h64 := ref_sin_col s
  rw [← cos_row_same] at h61
  rw [← sin_row_same] at h62
  rw [← cos_col_same] at h63
  rw [← sin_col_same] at h64
  refine heads _ s l (512 + n.1 * 64) (by omega) 640 (by omega) _ ?_
  unfold val_main_v140 val_main_v139 val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104
  generalize val_main_v103 (F := Ideal) x md g w = y at hq ⊢
  generalize val_main_v61 (F := Ideal) = cr at h61 ⊢
  generalize val_main_v62 (F := Ideal) = sr at h62 ⊢
  generalize val_main_v63 (F := Ideal) = cc at h63 ⊢
  generalize val_main_v64 (F := Ideal) = sc at h64 ⊢
  pointwise []
  simp only [hq, h61, h62, h63, h64, dite_eq_ite]

/-- The lanes of a position that are not turned. -/
theorem ref_plain (b : Fin 8) (s : Fin 4096) (f : Fin 2688) (hf : 640 ≤ f.1) :
    val_main_v31 (F := Ideal) x md g w (ix3 b s f) = projected 640 (modRow x md g b s) (fun d f => w (ix2 d f)) s.1 f.1 := by
  rw [ref_product, projected, turned, if_neg (by omega)]

/-- The modulated norm of a row of the stream. -/
theorem mod_row (r : Fin 32768) :
    modRow x md g ⟨r.1 / 4096, by omega⟩ ⟨r.1 % 4096, by omega⟩
      = modulated (fun d => x (ix2 r d)) (fun d => g (ix1 d)) (fun d => md (ix3 ⟨1 + r.1 / 4096, by omega⟩ 3 d)) (fun d => md (ix3 ⟨1 + r.1 / 4096, by omega⟩ 4 d)) := by
  have e : rowOf ⟨r.1 / 4096, by omega⟩ ⟨r.1 % 4096, by omega⟩ = r := Fin.ext (by show r.1 / 4096 * 4096 + r.1 % 4096 = r.1; omega)
  have hm := funext (ref_modulated x md g ⟨r.1 / 4096, by omega⟩ ⟨r.1 % 4096, by omega⟩)
  rw [e] at hm
  exact hm

/-- The reference's first result is the windowed attention's part of the projection of every row. -/
theorem ref_A : val_main_v145 (F := Ideal) x md g w = fun y => project 640 x md g w (y 0) (y 1).1 := by
  funext y
  idx_vars y
  have hr := y0.isLt
  have hf := y1.isLt
  show _ = project 640 x md g w y0 y1.1
  unfold project
  rw [← mod_row x md g y0]
  have hq := fun n l => ref_turned_queries x md g w ⟨y0.1 / 4096, by omega⟩ ⟨y0.1 % 4096, by omega⟩ n l
  have hk := fun n l => ref_turned_keys x md g w ⟨y0.1 / 4096, by omega⟩ ⟨y0.1 % 4096, by omega⟩ n l
  have hv := fun f h => ref_plain x md g w ⟨y0.1 / 4096, by omega⟩ ⟨y0.1 % 4096, by omega⟩ f h
  unfold val_main_v145 val_main_v144 val_main_v143 val_main_v142 val_main_v141 val_main_v35 val_main_v32
  generalize val_main_v31 (F := Ideal) x md g w = v at hv ⊢
  generalize val_main_v102 (F := Ideal) x md g w = q at hq ⊢
  generalize val_main_v140 (F := Ideal) x md g w = k at hk ⊢
  pointwise []
  by_cases h0 : y1.1 < 512
  · refine (dif_pos h0).trans ((hq _ _).trans ?_)
    exact congrArg (projected _ _ _ _) (by show y1.1 / 64 * 64 + y1.1 % 64 = y1.1; omega)
  refine (dif_neg h0).trans ?_
  by_cases h1 : y1.1 - 512 < 128
  · refine (dif_pos h1).trans ((hk _ _).trans ?_)
    exact congrArg (projected _ _ _ _) (by show 512 + (y1.1 - 512) / 64 * 64 + (y1.1 - 512) % 64 = y1.1; omega)
  · refine (dif_neg h1).trans ((hv ⟨640 + (y1.1 - 512 - 128), by omega⟩ (Nat.le_add_right _ _)).trans ?_)
    exact congrArg (projected _ _ _ _) (by show 640 + (y1.1 - 512 - 128) = y1.1; omega)

/-- The reference's second result is the RWKV-7 mixer's part. -/
theorem ref_B : val_main_v147 (F := Ideal) x md g w = fun y => project 640 x md g w (y 0) (768 + (y 1).1) := by
  funext y
  idx_vars y
  have hr := y0.isLt
  have hf := y1.isLt
  show _ = project 640 x md g w y0 (768 + y1.1)
  unfold project
  rw [← mod_row x md g y0, ← ref_plain x md g w ⟨y0.1 / 4096, by omega⟩ ⟨y0.1 % 4096, by omega⟩ ⟨768 + y1.1, by omega⟩ (by show 640 ≤ 768 + y1.1; omega)]
  unfold val_main_v147 val_main_v146
  generalize val_main_v31 (F := Ideal) x md g w = v
  pointwise []

end Cert.InAB

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.AttnPre
public import proofs.«01_k».proof.Proof.HalfArray
public import proofs.«01_k».proof.Proof.HalfRef
public import proofs.«01_k».proof.Proof.FinalArray
public import proofs.«01_k».proof.Proof.FinalRef
public import proofs.«01_k».proof.Proof.OutC
public import proofs.«01_k».proof.Proof.OutAB
public import proofs.«01_k».proof.Proof.InArray
public import proofs.«01_k».proof.Proof.InRef
public import proofs.«01_k».proof.Proof.ABArray
public import proofs.«01_k».proof.Proof.ABRef
public import Idealize.ShloMosaic.Adequacy
public import Idealize.ShloMosaic.Init

@[expose] public section

noncomputable section

namespace Cert.Proof

open Idealize.ShloMosaic Idealize.SL.Sem

/-- The attention's reference runs, keeps its arguments and has no semaphore to leave raised. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On finite queries and keys the attention kernel returns what its reference does. -/
theorem attention_correct : Cert.algebraic_KernelIdeal_ReferenceIdeal_pre_finite_keys (hKernelIdeal := Cert.KernelIdeal.Gen.facts)
    (hReferenceIdeal := Cert.ReferenceIdeal.Gen.facts) (hPre_finite_keys := Cert.Attn.pre_facts) := by
  intro m g m' g' pre same
  refine ⟨_, Cert.KernelIdeal.Value.run_blocks (F := Ideal) m g, ?_⟩
  refine (θ_run Cert.ReferenceIdeal.defs _ _).mono (fun r h c => ⟨(h c).1.trans ?_, (h c).2⟩) (Cert.ReferenceIdeal.Value.run (F := Ideal) m' g')
  obtain ⟨e0, e1, e2, e3, e4, e5, e6, e7⟩ := same c
  rw [Cert.ReferenceIdeal.Read.val_main_v57_eq, e0, e1, e2, e3, e4, e5, e6, e7]
  exact ((Cert.Attn.array_eq m c).trans (Cert.Attn.attention_eq _ _ _ _ _ _ _ _ (Cert.Attn.fine_keys _ _ _ _ _ _ _ _ (pre c)))).symm

/-- The feed-forward reference runs and keeps its arguments. -/
theorem reference2_frame : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward kernel of a first half-step returns what its reference does. -/
theorem feed_forward_correct : Cert.algebraic_Kernel2Ideal_Reference2Ideal (hKernel2Ideal := Cert.Kernel2Ideal.Gen.facts)
    (hReference2Ideal := Cert.Reference2Ideal.Gen.facts) := by
  intro m g m' g' _ same
  refine ⟨_, Cert.Kernel2Ideal.Value.run_blocks (F := Ideal) m g, ?_⟩
  refine (θ_run Cert.Reference2Ideal.defs _ _).mono (fun r h c => ⟨(h c).1.trans ?_, (h c).2⟩) (Cert.Reference2Ideal.Value.run (F := Ideal) m' g')
  obtain ⟨e0, e1, e2, e3, e4, e5, -⟩ := same c
  rw [Cert.Reference2Ideal.Read.val_main_v41_eq, e0, e1, e2, e3, e4, e5]
  exact ((Cert.Half.array_eq m c).trans (Cert.Half.ref_eq _ _ _ _ _ _).symm).symm

/-- The last feed-forward reference runs and keeps its arguments. -/
theorem reference3_frame : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The feed-forward kernel that ends the last layer returns what its reference does. -/
theorem last_correct : Cert.algebraic_Kernel3Ideal_Reference3Ideal (hKernel3Ideal := Cert.Kernel3Ideal.Gen.facts)
    (hReference3Ideal := Cert.Reference3Ideal.Gen.facts) := by
  intro m g m' g' _ same
  refine ⟨_, Cert.Kernel3Ideal.Value.run_blocks (F := Ideal) m g, ?_⟩
  refine (θ_run Cert.Reference3Ideal.defs _ _).mono (fun r h c => ⟨(h c).1.trans ?_, (h c).2⟩) (Cert.Reference3Ideal.Value.run (F := Ideal) m' g')
  obtain ⟨e0, e1, e2, e3, e4, e5, e6⟩ := same c
  rw [Cert.Reference3Ideal.Read.val_main_v54_eq, e0, e1, e2, e3, e4, e5, e6]
  exact ((Cert.Final.array_eq m c).trans (Cert.Final.ref_eq _ _ _ _ _ _ _).symm).symm

/-- The attention's projection reference runs and keeps its arguments. -/
theorem reference4_frame : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The attention's output projection returns what its reference does. -/
theorem projection_correct : Cert.algebraic_Kernel4Ideal_Reference4Ideal (hKernel4Ideal := Cert.Kernel4Ideal.Gen.facts)
    (hReference4Ideal := Cert.Reference4Ideal.Gen.facts) := by
  intro m g m' g' _ same
  refine ⟨_, Cert.Kernel4Ideal.Value.run_blocks (F := Ideal) m g, ?_⟩
  refine (θ_run Cert.Reference4Ideal.defs _ _).mono (fun r h c => ⟨(h c).1.trans ?_, (h c).2⟩) (Cert.Reference4Ideal.Value.run (F := Ideal) m' g')
  obtain ⟨e0, e1, e2, e3⟩ := same c
  rw [Cert.Reference4Ideal.Read.val_main_v18_eq, e0, e1, e2, e3]
  exact ((Cert.OutC.array_eq m c).trans (Cert.OutC.ref_eq _ _ _ _).symm).symm

/-- The mixers' projection reference runs and keeps its arguments. -/
theorem reference5_frame : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The two mixers' output projection returns what its reference does. -/
theorem mixers_projection_correct : Cert.algebraic_Kernel5Ideal_Reference5Ideal (hKernel5Ideal := Cert.Kernel5Ideal.Gen.facts)
    (hReference5Ideal := Cert.Reference5Ideal.Gen.facts) := by
  intro m g m' g' _ same
  refine ⟨_, Cert.Kernel5Ideal.Value.run_blocks (F := Ideal) m g, ?_⟩
  refine (θ_run Cert.Reference5Ideal.defs _ _).mono (fun r h c => ⟨(h c).1.trans ?_, (h c).2⟩) (Cert.Reference5Ideal.Value.run (F := Ideal) m' g')
  obtain ⟨e0, e1, e2, e3, e4⟩ := same c
  rw [Cert.Reference5Ideal.Read.val_main_v21_eq, e0, e1, e2, e3, e4]
  exact ((Cert.OutAB.array_eq m c).trans (Cert.OutAB.ref_eq _ _ _ _ _).symm).symm

/-- The input projection's reference runs and keeps its arguments. -/
theorem reference6_frame : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The attention's input projection, its queries and keys turned, returns what its reference does. -/
theorem input_projection_correct : Cert.algebraic_Kernel6Ideal_Reference6Ideal (hKernel6Ideal := Cert.Kernel6Ideal.Gen.facts)
    (hReference6Ideal := Cert.Reference6Ideal.Gen.facts) := by
  intro m g m' g' _ same
  refine ⟨_, Cert.Kernel6Ideal.Value.run_blocks (F := Ideal) m g, ?_⟩
  refine (θ_run Cert.Reference6Ideal.defs _ _).mono (fun r h c => ⟨(h c).1.trans ?_, (h c).2⟩) (Cert.Reference6Ideal.Value.run (F := Ideal) m' g')
  obtain ⟨e0, e1, e2, e3⟩ := same c
  rw [Cert.Reference6Ideal.Read.val_main_v148_eq, e0, e1, e2, e3]
  exact ((Cert.InC.array_eq m c).trans (Cert.InC.ref_eq _ _ _ _).symm).symm

/-- The mixers' input projection's reference runs and keeps its arguments. -/
theorem reference7_frame : Cert.quiescent_Reference7Ideal (hReference7Ideal := Cert.Reference7Ideal.Gen.facts) := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The two mixers' input projection returns, for each mixer, what its reference does. -/
theorem mixers_input_correct : Cert.algebraic_Kernel7Ideal_Reference7Ideal (hKernel7Ideal := Cert.Kernel7Ideal.Gen.facts)
    (hReference7Ideal := Cert.Reference7Ideal.Gen.facts) := by
  intro m g m' g' _ same
  refine ⟨_, _, Cert.Kernel7Ideal.Value.run_blocks (F := Ideal) m g, ?_⟩
  refine (θ_run Cert.Reference7Ideal.defs _ _).mono (fun r h c => ⟨(h c).1.trans ?_, (h c).2.1.trans ?_, (h c).2.2⟩) (Cert.Reference7Ideal.Value.run (F := Ideal) m' g')
  · obtain ⟨e0, e1, e2, e3⟩ := same c
    rw [Cert.Reference7Ideal.Read.val_main_v145_eq, e0, e1, e2, e3]
    exact ((Cert.InAB.array_A m c).trans (Cert.InAB.ref_A _ _ _ _).symm).symm
  · obtain ⟨e0, e1, e2, e3⟩ := same c
    refine (Cert.Reference7Ideal.Read.val_main_v147_eq _ _ _ _).trans ?_
    rw [e0, e1, e2, e3]
    exact ((Cert.InAB.array_B m c).trans (Cert.InAB.ref_B _ _ _ _).symm).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Attn.pre_facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, reference5_frame,
    fun m ρ _ => Cert.Kernel6.Gen.frame m ρ, fun m ρ _ => Cert.Kernel6Ideal.Gen.frame m ρ, reference6_frame,
    fun m ρ _ => Cert.Kernel7.Gen.frame m ρ, fun m ρ _ => Cert.Kernel7Ideal.Gen.frame m ρ, reference7_frame,
    trivial, attention_correct, trivial, feed_forward_correct, trivial, last_correct, trivial, projection_correct, trivial, mixers_projection_correct,
    trivial, input_projection_correct, trivial, mixers_input_correct⟩

end Cert.Proof

end
